-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Raw (m : (ℓ : Loc Cert.Raw.nD Cert.Raw.τ Cert.Raw.sig) → Buf (Elt Bits) ℓ) : Prop :=
  True

def Pre_RawIdeal (m : (ℓ : Loc Cert.RawIdeal.nD Cert.RawIdeal.τ Cert.RawIdeal.sig) → Buf (Elt Ideal) ℓ) : Prop :=
  True

def Pre_RawRefIdeal (m : (ℓ : Loc Cert.RawRefIdeal.nD Cert.RawRefIdeal.τ Cert.RawRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NsaOut (m : (ℓ : Loc Cert.NsaOut.nD Cert.NsaOut.τ Cert.NsaOut.sig) → Buf (Elt Bits) ℓ) : Prop :=
  True

def Pre_NsaOutIdeal (m : (ℓ : Loc Cert.NsaOutIdeal.nD Cert.NsaOutIdeal.τ Cert.NsaOutIdeal.sig) → Buf (Elt Ideal) ℓ) : Prop :=
  True

def Pre_NsaOutRefIdeal (m : (ℓ : Loc Cert.NsaOutRefIdeal.nD Cert.NsaOutRefIdeal.τ Cert.NsaOutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Raw [hRaw : Cert.Raw.Facts] : Prop :=
  ∀ (m : (ℓ : Loc Cert.Raw.nD Cert.Raw.τ Cert.Raw.sig) → Buf (Elt Bits) ℓ) (g : Dev Cert.Raw.nD → PrngReg), Pre_Raw m →
    θ_run (Cert.Raw.defs (F := Bits)) (onTc (τ := Cert.Raw.τ) (Cert.Raw.main (F := Bits))) ⟨m, fun _ => 0, g⟩ (fun r => (∀ c : Dev Cert.Raw.nD,
      r.2.mem ((c.tc : Thread Cert.Raw.nD Cert.Raw.τ).loc Cert.Raw.main_arg0) = m ((c.tc : Thread Cert.Raw.nD Cert.Raw.τ).loc Cert.Raw.main_arg0)
      ∧ r.2.mem ((c.tc : Thread Cert.Raw.nD Cert.Raw.τ).loc Cert.Raw.main_arg1) = m ((c.tc : Thread Cert.Raw.nD Cert.Raw.τ).loc Cert.Raw.main_arg1)
      ∧ r.2.mem ((c.tc : Thread Cert.Raw.nD Cert.Raw.τ).loc Cert.Raw.main_arg2) = m ((c.tc : Thread Cert.Raw.nD Cert.Raw.τ).loc Cert.Raw.main_arg2))
      ∧ r.2.sem = fun _ => 0)

def quiescent_RawIdeal [hRawIdeal : Cert.RawIdeal.Facts] : Prop :=
  ∀ (m : (ℓ : Loc Cert.RawIdeal.nD Cert.RawIdeal.τ Cert.RawIdeal.sig) → Buf (Elt Ideal) ℓ) (g : Dev Cert.RawIdeal.nD → PrngReg), Pre_RawIdeal m →
    θ_run (Cert.RawIdeal.defs (F := Ideal)) (onTc (τ := Cert.RawIdeal.τ) (Cert.RawIdeal.main (F := Ideal))) ⟨m, fun _ => 0, g⟩ (fun r => (∀ c : Dev Cert.RawIdeal.nD,
      r.2.mem ((c.tc : Thread Cert.RawIdeal.nD Cert.RawIdeal.τ).loc Cert.RawIdeal.main_arg0) = m ((c.tc : Thread Cert.RawIdeal.nD Cert.RawIdeal.τ).loc Cert.RawIdeal.main_arg0)
      ∧ r.2.mem ((c.tc : Thread Cert.RawIdeal.nD Cert.RawIdeal.τ).loc Cert.RawIdeal.main_arg1) = m ((c.tc : Thread Cert.RawIdeal.nD Cert.RawIdeal.τ).loc Cert.RawIdeal.main_arg1)
      ∧ r.2.mem ((c.tc : Thread Cert.RawIdeal.nD Cert.RawIdeal.τ).loc Cert.RawIdeal.main_arg2) = m ((c.tc : Thread Cert.RawIdeal.nD Cert.RawIdeal.τ).loc Cert.RawIdeal.main_arg2))
      ∧ r.2.sem = fun _ => 0)

def quiescent_RawRefIdeal [hRawRefIdeal : Cert.RawRefIdeal.Facts] : Prop :=
  ∀ (m : (ℓ : Loc Cert.RawRefIdeal.nD Cert.RawRefIdeal.τ Cert.RawRefIdeal.sig) → Buf (Elt Ideal) ℓ) (g : Dev Cert.RawRefIdeal.nD → PrngReg), Pre_RawRefIdeal m →
    θ_run (Cert.RawRefIdeal.defs (F := Ideal)) (onTc (τ := Cert.RawRefIdeal.τ) (Cert.RawRefIdeal.main (F := Ideal))) ⟨m, fun _ => 0, g⟩ (fun r => (∀ c : Dev Cert.RawRefIdeal.nD,
      r.2.mem ((c.tc : Thread Cert.RawRefIdeal.nD Cert.RawRefIdeal.τ).loc Cert.RawRefIdeal.main_arg0) = m ((c.tc : Thread Cert.RawRefIdeal.nD Cert.RawRefIdeal.τ).loc Cert.RawRefIdeal.main_arg0)
      ∧ r.2.mem ((c.tc : Thread Cert.RawRefIdeal.nD Cert.RawRefIdeal.τ).loc Cert.RawRefIdeal.main_arg1) = m ((c.tc : Thread Cert.RawRefIdeal.nD Cert.RawRefIdeal.τ).loc Cert.RawRefIdeal.main_arg1)
      ∧ r.2.mem ((c.tc : Thread Cert.RawRefIdeal.nD Cert.RawRefIdeal.τ).loc Cert.RawRefIdeal.main_arg2) = m ((c.tc : Thread Cert.RawRefIdeal.nD Cert.RawRefIdeal.τ).loc Cert.RawRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NsaOut [hNsaOut : Cert.NsaOut.Facts] : Prop :=
  ∀ (m : (ℓ : Loc Cert.NsaOut.nD Cert.NsaOut.τ Cert.NsaOut.sig) → Buf (Elt Bits) ℓ) (g : Dev Cert.NsaOut.nD → PrngReg), Pre_NsaOut m →
    θ_run (Cert.NsaOut.defs (F := Bits)) (onTc (τ := Cert.NsaOut.τ) (Cert.NsaOut.main (F := Bits))) ⟨m, fun _ => 0, g⟩ (fun r => (∀ c : Dev Cert.NsaOut.nD,
      r.2.mem ((c.tc : Thread Cert.NsaOut.nD Cert.NsaOut.τ).loc Cert.NsaOut.main_arg0) = m ((c.tc : Thread Cert.NsaOut.nD Cert.NsaOut.τ).loc Cert.NsaOut.main_arg0)
      ∧ r.2.mem ((c.tc : Thread Cert.NsaOut.nD Cert.NsaOut.τ).loc Cert.NsaOut.main_arg1) = m ((c.tc : Thread Cert.NsaOut.nD Cert.NsaOut.τ).loc Cert.NsaOut.main_arg1))
      ∧ r.2.sem = fun _ => 0)

def quiescent_NsaOutIdeal [hNsaOutIdeal : Cert.NsaOutIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1))
      ∧ r.2.sem = fun _ => 0)

def quiescent_NsaOutRefIdeal [hNsaOutRefIdeal : Cert.NsaOutRefIdeal.Facts] : Prop :=
  ∀ (m : (ℓ : Loc Cert.NsaOutRefIdeal.nD Cert.NsaOutRefIdeal.τ Cert.NsaOutRefIdeal.sig) → Buf (Elt Ideal) ℓ) (g : Dev Cert.NsaOutRefIdeal.nD → PrngReg), Pre_NsaOutRefIdeal m →
    θ_run (Cert.NsaOutRefIdeal.defs (F := Ideal)) (onTc (τ := Cert.NsaOutRefIdeal.τ) (Cert.NsaOutRefIdeal.main (F := Ideal))) ⟨m, fun _ => 0, g⟩ (fun r => (∀ c : Dev Cert.NsaOutRefIdeal.nD,
      r.2.mem ((c.tc : Thread Cert.NsaOutRefIdeal.nD Cert.NsaOutRefIdeal.τ).loc Cert.NsaOutRefIdeal.main_arg0) = m ((c.tc : Thread Cert.NsaOutRefIdeal.nD Cert.NsaOutRefIdeal.τ).loc Cert.NsaOutRefIdeal.main_arg0)
      ∧ r.2.mem ((c.tc : Thread Cert.NsaOutRefIdeal.nD Cert.NsaOutRefIdeal.τ).loc Cert.NsaOutRefIdeal.main_arg1) = m ((c.tc : Thread Cert.NsaOutRefIdeal.nD Cert.NsaOutRefIdeal.τ).loc Cert.NsaOutRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Raw_RawIdeal : Prop :=
  True

def algebraic_RawIdeal_RawRefIdeal [hRawIdeal : Cert.RawIdeal.Facts] [hRawRefIdeal : Cert.RawRefIdeal.Facts] : Prop :=
  ∀ (m : (ℓ : Loc Cert.RawIdeal.nD Cert.RawIdeal.τ Cert.RawIdeal.sig) → Buf (Elt Ideal) ℓ) (g : Dev Cert.RawIdeal.nD → PrngReg)
    (m' : (ℓ : Loc Cert.RawRefIdeal.nD Cert.RawRefIdeal.τ Cert.RawRefIdeal.sig) → Buf (Elt Ideal) ℓ) (g' : Dev Cert.RawRefIdeal.nD → PrngReg), Pre_RawIdeal m →
    (∀ c : Dev Cert.RawIdeal.nD,
      m' ((c.tc : Thread Cert.RawRefIdeal.nD Cert.RawRefIdeal.τ).loc Cert.RawRefIdeal.main_arg0) = m ((c.tc : Thread Cert.RawIdeal.nD Cert.RawIdeal.τ).loc Cert.RawIdeal.main_arg0)
      ∧ m' ((c.tc : Thread Cert.RawRefIdeal.nD Cert.RawRefIdeal.τ).loc Cert.RawRefIdeal.main_arg1) = m ((c.tc : Thread Cert.RawIdeal.nD Cert.RawIdeal.τ).loc Cert.RawIdeal.main_arg1)
      ∧ m' ((c.tc : Thread Cert.RawRefIdeal.nD Cert.RawRefIdeal.τ).loc Cert.RawRefIdeal.main_arg2) = m ((c.tc : Thread Cert.RawIdeal.nD Cert.RawIdeal.τ).loc Cert.RawIdeal.main_arg2)) →
    ∃ (v0 : (c : Dev Cert.RawIdeal.nD) → Buf (Elt Ideal) ((c.tc : Thread Cert.RawIdeal.nD Cert.RawIdeal.τ).loc Cert.RawIdeal.main_v3)),
      θ_run (Cert.RawIdeal.defs (F := Ideal)) (onTc (τ := Cert.RawIdeal.τ) (Cert.RawIdeal.main (F := Ideal))) ⟨m, fun _ => 0, g⟩ (fun r => ∀ c : Dev Cert.RawIdeal.nD,
          r.2.mem ((c.tc : Thread Cert.RawIdeal.nD Cert.RawIdeal.τ).loc Cert.RawIdeal.main_v3) = v0 c
          ∧ r.2.mem ((c.tc : Thread Cert.RawIdeal.nD Cert.RawIdeal.τ).loc Cert.RawIdeal.main_arg0) = m ((c.tc : Thread Cert.RawIdeal.nD Cert.RawIdeal.τ).loc Cert.RawIdeal.main_arg0)
          ∧ r.2.mem ((c.tc : Thread Cert.RawIdeal.nD Cert.RawIdeal.τ).loc Cert.RawIdeal.main_arg1) = m ((c.tc : Thread Cert.RawIdeal.nD Cert.RawIdeal.τ).loc Cert.RawIdeal.main_arg1)
          ∧ r.2.mem ((c.tc : Thread Cert.RawIdeal.nD Cert.RawIdeal.τ).loc Cert.RawIdeal.main_arg2) = m ((c.tc : Thread Cert.RawIdeal.nD Cert.RawIdeal.τ).loc Cert.RawIdeal.main_arg2))
      ∧ θ_run (Cert.RawRefIdeal.defs (F := Ideal)) (onTc (τ := Cert.RawRefIdeal.τ) (Cert.RawRefIdeal.main (F := Ideal))) ⟨m', fun _ => 0, g'⟩ (fun r => ∀ c : Dev Cert.RawRefIdeal.nD,
          r.2.mem ((c.tc : Thread Cert.RawRefIdeal.nD Cert.RawRefIdeal.τ).loc Cert.RawRefIdeal.main_v5) = v0 c
          ∧ r.2.mem ((c.tc : Thread Cert.RawRefIdeal.nD Cert.RawRefIdeal.τ).loc Cert.RawRefIdeal.main_arg0) = m' ((c.tc : Thread Cert.RawRefIdeal.nD Cert.RawRefIdeal.τ).loc Cert.RawRefIdeal.main_arg0)
          ∧ r.2.mem ((c.tc : Thread Cert.RawRefIdeal.nD Cert.RawRefIdeal.τ).loc Cert.RawRefIdeal.main_arg1) = m' ((c.tc : Thread Cert.RawRefIdeal.nD Cert.RawRefIdeal.τ).loc Cert.RawRefIdeal.main_arg1)
          ∧ r.2.mem ((c.tc : Thread Cert.RawRefIdeal.nD Cert.RawRefIdeal.τ).loc Cert.RawRefIdeal.main_arg2) = m' ((c.tc : Thread Cert.RawRefIdeal.nD Cert.RawRefIdeal.τ).loc Cert.RawRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NsaOut_NsaOutIdeal : Prop :=
  True

def algebraic_NsaOutIdeal_NsaOutRefIdeal [hNsaOutIdeal : Cert.NsaOutIdeal.Facts] [hNsaOutRefIdeal : Cert.NsaOutRefIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg)
    (m' : (ℓ : Loc Cert.NsaOutRefIdeal.nD Cert.NsaOutRefIdeal.τ Cert.NsaOutRefIdeal.sig) → Buf (Elt Ideal) ℓ) (g' : Dev Cert.NsaOutRefIdeal.nD → PrngReg), Pre_NsaOutIdeal m →
    (∀ c : Dev Cert.NsaOutIdeal.nD,
      m' ((c.tc : Thread Cert.NsaOutRefIdeal.nD Cert.NsaOutRefIdeal.τ).loc Cert.NsaOutRefIdeal.main_arg0) = m ((c.tc : Thread Cert.NsaOutIdeal.nD Cert.NsaOutIdeal.τ).loc Cert.NsaOutIdeal.main_arg0)
      ∧ m' ((c.tc : Thread Cert.NsaOutRefIdeal.nD Cert.NsaOutRefIdeal.τ).loc Cert.NsaOutRefIdeal.main_arg1) = m ((c.tc : Thread Cert.NsaOutIdeal.nD Cert.NsaOutIdeal.τ).loc Cert.NsaOutIdeal.main_arg1)) →
    ∃ (v0 : (c : Dev Cert.NsaOutIdeal.nD) → Buf (Elt Ideal) ((c.tc : Thread Cert.NsaOutIdeal.nD Cert.NsaOutIdeal.τ).loc Cert.NsaOutIdeal.main_v2)),
      θ_run (Cert.NsaOutIdeal.defs (F := Ideal)) (onTc (τ := Cert.NsaOutIdeal.τ) (Cert.NsaOutIdeal.main (F := Ideal))) ⟨m, fun _ => 0, g⟩ (fun r => ∀ c : Dev Cert.NsaOutIdeal.nD,
          r.2.mem ((c.tc : Thread Cert.NsaOutIdeal.nD Cert.NsaOutIdeal.τ).loc Cert.NsaOutIdeal.main_v2) = v0 c
          ∧ r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
          ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1))
      ∧ θ_run (Cert.NsaOutRefIdeal.defs (F := Ideal)) (onTc (τ := Cert.NsaOutRefIdeal.τ) (Cert.NsaOutRefIdeal.main (F := Ideal))) ⟨m', fun _ => 0, g'⟩ (fun r => ∀ c : Dev Cert.NsaOutRefIdeal.nD,
          r.2.mem ((c.tc : Thread Cert.NsaOutRefIdeal.nD Cert.NsaOutRefIdeal.τ).loc Cert.NsaOutRefIdeal.main_v2) = v0 c
          ∧ r.2.mem ((c.tc : Thread Cert.NsaOutRefIdeal.nD Cert.NsaOutRefIdeal.τ).loc Cert.NsaOutRefIdeal.main_arg0) = m' ((c.tc : Thread Cert.NsaOutRefIdeal.nD Cert.NsaOutRefIdeal.τ).loc Cert.NsaOutRefIdeal.main_arg0)
          ∧ r.2.mem ((c.tc : Thread Cert.NsaOutRefIdeal.nD Cert.NsaOutRefIdeal.τ).loc Cert.NsaOutRefIdeal.main_arg1) = m' ((c.tc : Thread Cert.NsaOutRefIdeal.nD Cert.NsaOutRefIdeal.τ).loc Cert.NsaOutRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def Claim : Prop :=
  ∃ (hKernel : Cert.Kernel.Facts) (hKernelIdeal : Cert.KernelIdeal.Facts) (hReferenceIdeal : Cert.ReferenceIdeal.Facts) (hRaw : Cert.Raw.Facts) (hRawIdeal : Cert.RawIdeal.Facts) (hRawRefIdeal : Cert.RawRefIdeal.Facts) (hNorm : Cert.Norm.Facts) (hNormIdeal : Cert.NormIdeal.Facts) (hNormRefIdeal : Cert.NormRefIdeal.Facts) (hNsaOut : Cert.NsaOut.Facts) (hNsaOutIdeal : Cert.NsaOutIdeal.Facts) (hNsaOutRefIdeal : Cert.NsaOutRefIdeal.Facts) (hOut : Cert.Out.Facts) (hOutIdeal : Cert.OutIdeal.Facts) (hOutRefIdeal : Cert.OutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Raw (hRaw := hRaw)
    ∧ quiescent_RawIdeal (hRawIdeal := hRawIdeal)
    ∧ quiescent_RawRefIdeal (hRawRefIdeal := hRawRefIdeal)
    ∧ quiescent_Norm (hNorm := hNorm)
    ∧ quiescent_NormIdeal (hNormIdeal := hNormIdeal)
    ∧ quiescent_NormRefIdeal (hNormRefIdeal := hNormRefIdeal)
    ∧ quiescent_NsaOut (hNsaOut := hNsaOut)
    ∧ quiescent_NsaOutIdeal (hNsaOutIdeal := hNsaOutIdeal)
    ∧ quiescent_NsaOutRefIdeal (hNsaOutRefIdeal := hNsaOutRefIdeal)
    ∧ quiescent_Out (hOut := hOut)
    ∧ quiescent_OutIdeal (hOutIdeal := hOutIdeal)
    ∧ quiescent_OutRefIdeal (hOutRefIdeal := hOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Raw_RawIdeal
    ∧ algebraic_RawIdeal_RawRefIdeal (hRawIdeal := hRawIdeal) (hRawRefIdeal := hRawRefIdeal)
    ∧ preserves_Norm_NormIdeal
    ∧ algebraic_NormIdeal_NormRefIdeal (hNormIdeal := hNormIdeal) (hNormRefIdeal := hNormRefIdeal)
    ∧ preserves_NsaOut_NsaOutIdeal
    ∧ algebraic_NsaOutIdeal_NsaOutRefIdeal (hNsaOutIdeal := hNsaOutIdeal) (hNsaOutRefIdeal := hNsaOutRefIdeal)
    ∧ preserves_Out_OutIdeal
    ∧ algebraic_OutIdeal_OutRefIdeal (hOutIdeal := hOutIdeal) (hOutRefIdeal := hOutRefIdeal)
-- ==== Pre_finite.lean ====
abbrev S16384x3072 : Shape := ⟨2, ![16384, 3072]⟩
abbrev S16384x8704 : Shape := ⟨2, ![16384, 8704]⟩
abbrev S4096x128 : Shape := ⟨2, ![4096, 128]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x8704 : S_.BroadcastsInDim S16384x8704 (![] : Fin 0 → Fin S16384x8704.rank)
  reducesTo_S16384x8704_S_d0_1 : S16384x8704.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg3 : FVec F S4096x128 .bf16) (main_v14 : IVec S_ 1) (main_v15 : FVec F S4096x128 .f32) (main_v16 : FVec F S4096x128 .f32) : IVec S_ 1 :=
  let main_v17 : IVec S4096x128 1 := cmpf .ogt main_v15 main_v16
  let main_cst_5 : FVec F S_ .f32 := constant S_ .f32 0x7F800000#32
  let main_v18 : FVec F S4096x128 .f32 := broadcastInDim S4096x128 ![] bcast_S_S4096x128 main_cst_5
  let main_v19 : IVec S4096x128 1 := cmpf .olt main_v15 main_v18
  let main_v20 : IVec S4096x128 1 := andi main_v17 main_v19
  let main_c_6 : IVec S_ 1 := constantI S_ 1 1#1
  let main_v21 : IVec S_ 1 := (fun x v => Host.reduce IntOp.andi x v reducesTo_S4096x128_S_d0_1 h_S_) main_v20 main_c_6
  let main_v22 : IVec S_ 1 := andi main_v14 main_v21
  let main_v23 : FVec F S4096x128 .f32 := (extf .f32 · bitsLt_bf16_f32) main_arg3
  let main_cst_7 : FVec F S_ .f32 := constant S_ .f32 0xFF800000#32
  let main_v24 : FVec F S4096x128 .f32 := broadcastInDim S4096x128 ![] bcast_S_S4096x128 main_cst_7
  let main_v25 : IVec S4096x128 1 := cmpf .ogt main_v23 main_v24
  let main_cst_8 : FVec F S_ .f32 := constant S_ .f32 0x7F800000#32
  let main_v26 : FVec F S4096x128 .f32 := broadcastInDim S4096x128 ![] bcast_S_S4096x128 main_cst_8
  let main_v27 : IVec S4096x128 1 := cmpf .olt main_v23 main_v26
  let main_v28 : IVec S4096x128 1 := andi main_v25 main_v27
  let main_c_9 : IVec S_ 1 := constantI S_ 1 1#1
  let main_v29 : IVec S_ 1 := (fun x v => Host.reduce IntOp.andi x v reducesTo_S4096x128_S_d0_1 h_S_) main_v28 main_c_9
  let main_v30 : IVec S_ 1 := andi main_v22 main_v29
  main_v30

def fn {F : FTy → Type} [FloatOps F] (main_arg0 : FVec F S16384x3072 .bf16) (main_arg1 : FVec F S16384x8704 .bf16) (main_arg2 : FVec F S4096x128 .bf16) (main_arg3 : FVec F S4096x128 .bf16) : IVec S_ 1 :=
  let main_v0 : FVec F S16384x3072 .f32 := (extf .f32 · bitsLt_bf16_f32) main_arg0
  let main_cst : FVec F S_ .f32 := constant S_ .f32 0xFF800000#32
  let main_v1 : FVec F S16384x3072 .f32 := broadcastInDim S16384x3072 ![] bcast_S_S16384x3072 main_cst
  let main_v2 : IVec S16384x3072 1 := cmpf .ogt main_v0 main_v1
  let main_cst_0 : FVec F S_ .f32 := constant S_ .f32 0x7F800000#32
  let main_v3 : FVec F S16384x3072 .f32 := broadcastInDim S16384x3072 ![] bcast_S_S16384x3072 main_cst_0
  let main_v4 : IVec S16384x3072 1 := cmpf .olt main_v0 main_v3
  let main_v5 : IVec S16384x3072 1 := andi main_v2 main_v4
  let main_c : IVec S_ 1 := constantI S_ 1 1#1
  let main_v6 : IVec S_ 1 := (fun x v => Host.reduce IntOp.andi x v reducesTo_S16384x3072_S_d0_1 h_S_) main_v5 main_c
  let main_v7 : FVec F S16384x8704 .f32 := (extf .f32 · bitsLt_bf16_f32) main_arg1
  let main_cst_1 : FVec F S_ .f32 := constant S_ .f32 0xFF800000#32
  let main_v8 : FVec F S16384x8704 .f32 := broadcastInDim S16384x8704 ![] bcast_S_S16384x8704 main_cst_1
  let main_v9 : IVec S16384x8704 1 := cmpf .ogt main_v7 main_v8
  let main_cst_2 : FVec F S_ .f32 := constant S_ .f32 0x7F800000#32
  let main_v10 : FVec F S16384x8704 .f32 := broadcastInDim S16384x8704 ![] bcast_S_S16384x8704 main_cst_2
  let main_v11 : IVec S16384x8704 1 := cmpf .olt main_v7 main_v10
  let main_v12 : IVec S16384x8704 1 := andi main_v9 main_v11
  let main_c_3 : IVec S_ 1 := constantI S_ 1 1#1
  let main_v13 : IVec S_ 1 := (fun x v => Host.reduce IntOp.andi x v reducesTo_S16384x8704_S_d0_1 h_S_) main_v12 main_c_3
  let main_v14 : IVec S_ 1 := andi main_v6 main_v13
  let main_v15 : FVec F S4096x128 .f32 := (extf .f32 · bitsLt_bf16_f32) main_arg2
  let main_cst_4 : FVec F S_ .f32 := constant S_ .f32 0xFF800000#32
  let main_v16 : FVec F S4096x128 .f32 := broadcastInDim S4096x128 ![] bcast_S_S4096x128 main_cst_4
  fn_part1 (F := F) main_arg3 main_v14 main_v15 main_v16
-- ==== Kernel.lean ====
abbrev S16384x3072 : Shape := ⟨2, ![16384, 3072]⟩
abbrev S16384x8704 : Shape := ⟨2, ![16384, 8704]⟩
abbrev S4096x128 : Shape := ⟨2, ![4096, 128]⟩
abbrev S4096 : Shape := ⟨1, ![4096]⟩
abbrev S4096x1 : Shape := ⟨2, ![4096, 1]⟩
abbrev S_ : Shape := ⟨0, ![]⟩
abbrev S128 : Shape := ⟨1, ![128]⟩
abbrev S1x128 : Shape := ⟨2, ![1, 128]⟩
abbrev S16384x512 : Shape := ⟨2, ![16384, 512]⟩
abbrev S4x4096x4x128 : Shape := ⟨4, ![4, 4096, 4, 128]⟩
abbrev S4x4x4096x128 : Shape := ⟨4, ![4, 4, 4096, 128]⟩
abbrev S4x4x4096x256 : Shape := ⟨4, ![4, 4, 4096, 256]⟩
abbrev S256 : Shape := ⟨1, ![256]⟩
abbrev S1x256 : Shape := ⟨2, ![1, 256]⟩
abbrev S64 : Shape := ⟨1, ![64]⟩
abbrev S64x1 : Shape := ⟨2, ![64, 1]⟩
abbrev S64x256 : Shape := ⟨2, ![64, 256]⟩
abbrev S16384x2048 : Shape := ⟨2, ![16384, 2048]⟩
abbrev S256x512 : Shape := ⟨2, ![256, 512]⟩
abbrev S256x128 : Shape := ⟨2, ![256, 128]⟩
abbrev S1x1x4096x256 : Shape := ⟨4, ![1, 1, 4096, 256]⟩
abbrev S1024x128 : Shape := ⟨2, ![1024, 128]⟩
abbrev S1024x256 : Shape := ⟨2, ![1024, 256]⟩
abbrev S1024x512 : Shape := ⟨2, ![1024, 512]⟩
abbrev S3x1024x128 : Shape := ⟨3, ![3, 1024, 128]⟩
abbrev S256x1 : Shape := ⟨2, ![256, 1]⟩
abbrev S1x256x128 : Shape := ⟨3, ![1, 256, 128]⟩
abbrev S256x256 : Shape := ⟨2, ![256, 256]⟩
abbrev S4x256x256 : Shape := ⟨3, ![4, 256, 256]⟩
abbrev S1x256x256 : Shape := ⟨3, ![1, 256, 256]⟩
abbrev S1024 : Shape := ⟨1, ![1024]⟩
abbrev S1024x1 : Shape := ⟨2, ![1024, 1]⟩
abbrev S1x256x1 : Shape := ⟨3, ![1, 256, 1]⟩
abbrev S4x256x128 : Shape := ⟨3, ![4, 256, 128]⟩
abbrev S256x768 : Shape := ⟨2, ![256, 768]⟩
abbrev S768x128 : Shape := ⟨2, ![768, 128]⟩
abbrev S1024x768 : Shape := ⟨2, ![1024, 768]⟩
abbrev S4x256x768 : Shape := ⟨3, ![4, 256, 768]⟩
abbrev S1x256x768 : Shape := ⟨3, ![1, 256, 768]⟩
abbrev S768x256 : Shape := ⟨2, ![768, 256]⟩
abbrev S128x256 : Shape := ⟨2, ![128, 256]⟩
abbrev S1x1x512x256 : Shape := ⟨4, ![1, 1, 512, 256]⟩
abbrev S512x256 : Shape := ⟨2, ![512, 256]⟩
abbrev S512x128 : Shape := ⟨2, ![512, 128]⟩
abbrev S4x256x512 : Shape := ⟨3, ![4, 256, 512]⟩
abbrev S1x256x512 : Shape := ⟨3, ![1, 256, 512]⟩
abbrev S1x1024x128 : Shape := ⟨3, ![1, 1024, 128]⟩

abbrev nBuf : Space → Nat
  | .hbm => 67
  | .vmem => 28
  | .smem => 0
  | _ => 0

abbrev bufTy : (tb : Table) → Fin (tcTables nBuf tb) → BufTy
  | .hbm, ⟨0, _⟩ => ⟨S16384x3072, .bf16⟩
  | .hbm, ⟨1, _⟩ => ⟨S16384x8704, .bf16⟩
  | .hbm, ⟨2, _⟩ => ⟨S4096x128, .bf16⟩
  | .hbm, ⟨3, _⟩ => ⟨S4096x128, .bf16⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096x1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4096x1, .i32⟩
  | .hbm, ⟨24, _⟩ => ⟨S128, .i32⟩
  | .hbm, ⟨25, _⟩ => ⟨S1x128, .i32⟩
  | .hbm, ⟨26, _⟩ => ⟨S4096x128, .i32⟩
  | .hbm, ⟨27, _⟩ => ⟨S4096x128, .i32⟩
  | .hbm, ⟨28, _⟩ => ⟨S4096x128, .i1⟩
  | .hbm, ⟨29, _⟩ => ⟨S4096x128, .bf16⟩
  | .hbm, ⟨30, _⟩ => ⟨S16384x512, .bf16⟩
  | .hbm, ⟨31, _⟩ => ⟨S4x4096x4x128, .bf16⟩
  | .hbm, ⟨32, _⟩ => ⟨S4x4x4096x128, .bf16⟩
  | .hbm, ⟨33, _⟩ => ⟨S4x4x4096x128, .bf16⟩
  | .hbm, ⟨34, _⟩ => ⟨S4x4x4096x256, .bf16⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S1x256, .i32⟩
  | .hbm, ⟨39, _⟩ => ⟨S1x256, .i32⟩
  | .hbm, ⟨40, _⟩ => ⟨S64, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S64x256, .i32⟩
  | .hbm, ⟨49, _⟩ => ⟨S64x256, .i32⟩
  | .hbm, ⟨50, _⟩ => ⟨S64x256, .i1⟩
  | .hbm, ⟨51, _⟩ => ⟨S_, .i32⟩
  | .hbm, ⟨52, _⟩ => ⟨S1x256, .i32⟩
  | .hbm, ⟨53, _⟩ => ⟨S1x256, .i32⟩
  | .hbm, ⟨54, _⟩ => ⟨S64x256, .i32⟩
  | .hbm, ⟨55, _⟩ => ⟨S64x256, .i32⟩
  | .hbm, ⟨56, _⟩ => ⟨S64x256, .i1⟩
  | .hbm, ⟨57, _⟩ => ⟨S64x256, .i1⟩
  | .hbm, ⟨58, _⟩ => ⟨S256, .i32⟩
  | .hbm, ⟨59, _⟩ => ⟨S1x256, .i32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S64x256, .i1⟩
  | .hbm, ⟨64, _⟩ => ⟨S64x256, .i1⟩
  | .hbm, ⟨65, _⟩ => ⟨S64x256, .f32⟩
  | .hbm, ⟨66, _⟩ => ⟨S16384x2048, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S1x1x4096x256, .bf16⟩
  | .local _ .vmem, ⟨7, _⟩ => ⟨S1x1x4096x256, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S256x128, .bf16⟩
  | .local _ .vmem, ⟨15, _⟩ => ⟨S256x128, .bf16⟩
  | .local _ .vmem, ⟨16, _⟩ => ⟨S64x256, .f32⟩
  | .local _ .vmem, ⟨17, _⟩ => ⟨S256x512, .bf16⟩
  | .local _ .vmem, ⟨18, _⟩ => ⟨S256x512, .bf16⟩
  | .local _ .vmem, ⟨19, _⟩ => ⟨S1024x128, .bf16⟩
  | .local _ .vmem, ⟨20, _⟩ => ⟨S1024x256, .bf16⟩
  | .local _ .vmem, ⟨21, _⟩ => ⟨S1024x128, .f32⟩
  | .local _ .vmem, ⟨22, _⟩ => ⟨S1024x128, .f32⟩
  | .local _ .vmem, ⟨23, _⟩ => ⟨S1024x256, .f32⟩
  | .local _ .vmem, ⟨24, _⟩ => ⟨S1024x512, .bf16⟩
  | .local _ .vmem, ⟨25, _⟩ => ⟨S1024x128, .f32⟩
  | .local _ .vmem, ⟨26, _⟩ => ⟨S1024x128, .f32⟩
  | .local _ .vmem, ⟨27, _⟩ => ⟨S3x1024x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v150 : BitVec 32 := Scalar.subi v0 c512_i32
  let c0_i32 : BitVec 32 := 0#32
  let v151 : BitVec 32 := Scalar.maxsi v150 c0_i32
  v151
def k0_off1 (i : grid0.Coords) : Fin 2 → Nat :=
  let arg2 : BitVec 32 := BitVec.ofNat 32 (i 2).val
  let c256_i32 : BitVec 32 := 256#32
  let v0 : BitVec 32 := Scalar.muli arg2 c256_i32
  let c512_i32 : BitVec 32 := 512#32
  let v150 : BitVec 32 := Scalar.subi v0 c512_i32
  let c0_i32 : BitVec 32 := 0#32
  let v151 : BitVec 32 := Scalar.maxsi v150 c0_i32
  let v152 : BitVec 32 := v151
  let v159 : Index := Scalar.indexCast v152
  let c0_68 : Index := 0#32
  ![v159.toNat, 0]
@[reducible] def k0_t1_loop (i : grid0.Coords) : Scf.Loop 32 :=
  let c0_i32_277 : BitVec 32 := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let v1222 : BitVec 32 := Scalar.subi v1205 c0_i32_277
  let c1_i32_278 : BitVec 32 := 1#32
  let v1224 : BitVec 32 := Scalar.divsi v1222 c1_i32_278
  let v1225 : BitVec 32 := Scalar.muli v1224 c1_i32_278
  let v1226 : BitVec 32 := Scalar.addi c0_i32_277 v1225
  let c1_i32_279 : BitVec 32 := 1#32
  ⟨c0_i32_277, v1226, c1_i32_279⟩
def k0_mult2 (i : grid0.Coords) (k0_t1 : Fin (k0_t1_loop i).trips) : BitVec 32 :=
  let c0_i32_277 : BitVec 32 := 0#32
  let c1_i32_279 : BitVec 32 := 1#32
  let arg22 : BitVec 32 := Scf.iv c0_i32_277 c1_i32_279 k0_t1
  let c512_i32_345 : BitVec 32 := 512#32
  let v1329 : BitVec 32 := Scalar.muli arg22 c512_i32_345
  v1329
def k0_mult3 (i : grid0.Coords) (k0_t1 : Fin (k0_t1_loop i).trips) : BitVec 32 :=
  let c0_i32_277 : BitVec 32 := 0#32
  let c1_i32_279 : BitVec 32 := 1#32
  let arg22 : BitVec 32 := Scf.iv c0_i32_277 c1_i32_279 k0_t1
  let c1_i32_346 : BitVec 32 := 1#32
  let v1331 : BitVec 32 := Scalar.subi arg22 c1_i32_346
  let c0_i32_347 : BitVec 32 := 0#32
  let v1332 : BitVec 32 := Scalar.maxsi v1331 c0_i32_347
  let c512_i32_348 : BitVec 32 := 512#32
  let v1333 : BitVec 32 := Scalar.muli v1332 c512_i32_348
  v1333
def k0_off2 (i : grid0.Coords) (k0_t1 : Fin (k0_t1_loop i).trips) : Fin 4 → Nat :=
  let c0_351 : Index := 0#32
  let c0_352 : Index := 0#32
  let c0_i32_277 : BitVec 32 := 0#32
  let c1_i32_279 : BitVec 32 := 1#32
  let arg22 : BitVec 32 := Scf.iv c0_i32_277 c1_i32_279 k0_t1
  let c512_i32_345 : BitVec 32 := 512#32
  let v1329 : BitVec 32 := Scalar.muli arg22 c512_i32_345
  let v1330 : BitVec 32 := v1329
  let v1336 : Index := Scalar.indexCast v1330
  let c0_353 : Index := 0#32
  ![0, 0, v1336.toNat, 0]
def k0_off3 (i : grid0.Coords) (k0_t1 : Fin (k0_t1_loop i).trips) : Fin 2 → Nat :=
  let c0_i32_277 : BitVec 32 := 0#32
  let c1_i32_279 : BitVec 32 := 1#32
  let arg22 : BitVec 32 := Scf.iv c0_i32_277 c1_i32_279 k0_t1
  let c1_i32_346 : BitVec 32 := 1#32
  let v1331 : BitVec 32 := Scalar.subi arg22 c1_i32_346
  let c0_i32_347 : BitVec 32 := 0#32
  let v1332 : BitVec 32 := Scalar.maxsi v1331 c0_i32_347
  let c512_i32_348 : BitVec 32 := 512#32
  let v1333 : BitVec 32 := Scalar.muli v1332 c512_i32_348
  let v1334 : BitVec 32 := v1333
  let v1341 : Index := Scalar.indexCast v1334
  let c0_357 : Index := 0#32
  ![v1341.toNat, 0]
@[reducible] def k0_t2_loop (i : grid0.Coords) : Scf.Loop 32 :=
  let c0_i32_277 : BitVec 32 := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let v1222 : BitVec 32 := Scalar.subi v1205 c0_i32_277
  let c1_i32_278 : BitVec 32 := 1#32
  let v1224 : BitVec 32 := Scalar.divsi v1222 c1_i32_278
  let v1225 : BitVec 32 := Scalar.muli v1224 c1_i32_278
  let v1226 : BitVec 32 := Scalar.addi c0_i32_277 v1225
  let v1223 : BitVec 32 := Scalar.addi c0_i32_277 v1222
  let c1_i32_280 : BitVec 32 := 1#32
  ⟨v1226, v1223, c1_i32_280⟩
def k0_mult4 (i : grid0.Coords) (k0_t2 : Fin (k0_t2_loop i).trips) : BitVec 32 :=
  let c0_i32_277 : BitVec 32 := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let v1222 : BitVec 32 := Scalar.subi v1205 c0_i32_277
  let c1_i32_278 : BitVec 32 := 1#32
  let v1224 : BitVec 32 := Scalar.divsi v1222 c1_i32_278
  let v1225 : BitVec 32 := Scalar.muli v1224 c1_i32_278
  let v1226 : BitVec 32 := Scalar.addi c0_i32_277 v1225
  let c1_i32_280 : BitVec 32 := 1#32
  let arg22 : BitVec 32 := Scf.iv v1226 c1_i32_280 k0_t2
  let c512_i32_345 : BitVec 32 := 512#32
  let v1329 : BitVec 32 := Scalar.muli arg22 c512_i32_345
  v1329
def k0_mult5 (i : grid0.Coords) (k0_t2 : Fin (k0_t2_loop i).trips) : BitVec 32 :=
  let c0_i32_277 : BitVec 32 := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let v1222 : BitVec 32 := Scalar.subi v1205 c0_i32_277
  let c1_i32_278 : BitVec 32 := 1#32
  let v1224 : BitVec 32 := Scalar.divsi v1222 c1_i32_278
  let v1225 : BitVec 32 := Scalar.muli v1224 c1_i32_278
  let v1226 : BitVec 32 := Scalar.addi c0_i32_277 v1225
  let c1_i32_280 : BitVec 32 := 1#32
  let arg22 : BitVec 32 := Scf.iv v1226 c1_i32_280 k0_t2
  let c1_i32_346 : BitVec 32 := 1#32
  let v1331 : BitVec 32 := Scalar.subi arg22 c1_i32_346
  let c0_i32_347 : BitVec 32 := 0#32
  let v1332 : BitVec 32 := Scalar.maxsi v1331 c0_i32_347
  let c512_i32_348 : BitVec 32 := 512#32
  let v1333 : BitVec 32 := Scalar.muli v1332 c512_i32_348
  v1333
def k0_off4 (i : grid0.Coords) (k0_t2 : Fin (k0_t2_loop i).trips) : Fin 4 → Nat :=
  let c0_351 : Index := 0#32
  let c0_352 : Index := 0#32
  let c0_i32_277 : BitVec 32 := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let v1222 : BitVec 32 := Scalar.subi v1205 c0_i32_277
  let c1_i32_278 : BitVec 32 := 1#32
  let v1224 : BitVec 32 := Scalar.divsi v1222 c1_i32_278
  let v1225 : BitVec 32 := Scalar.muli v1224 c1_i32_278
  let v1226 : BitVec 32 := Scalar.addi c0_i32_277 v1225
  let c1_i32_280 : BitVec 32 := 1#32
  let arg22 : BitVec 32 := Scf.iv v1226 c1_i32_280 k0_t2
  let c512_i32_345 : BitVec 32 := 512#32
  let v1329 : BitVec 32 := Scalar.muli arg22 c512_i32_345
  let v1330 : BitVec 32 := v1329
  let v1336 : Index := Scalar.indexCast v1330
  let c0_353 : Index := 0#32
  ![0, 0, v1336.toNat, 0]
def k0_off5 (i : grid0.Coords) (k0_t2 : Fin (k0_t2_loop i).trips) : Fin 2 → Nat :=
  let c0_i32_277 : BitVec 32 := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let v1222 : BitVec 32 := Scalar.subi v1205 c0_i32_277
  let c1_i32_278 : BitVec 32 := 1#32
  let v1224 : BitVec 32 := Scalar.divsi v1222 c1_i32_278
  let v1225 : BitVec 32 := Scalar.muli v1224 c1_i32_278
  let v1226 : BitVec 32 := Scalar.addi c0_i32_277 v1225
  let c1_i32_280 : BitVec 32 := 1#32
  let arg22 : BitVec 32 := Scf.iv v1226 c1_i32_280 k0_t2
  let c1_i32_346 : BitVec 32 := 1#32
  let v1331 : BitVec 32 := Scalar.subi arg22 c1_i32_346
  let c0_i32_347 : BitVec 32 := 0#32
  let v1332 : BitVec 32 := Scalar.maxsi v1331 c0_i32_347
  let c512_i32_348 : BitVec 32 := 512#32
  let v1333 : BitVec 32 := Scalar.muli v1332 c512_i32_348
  let v1334 : BitVec 32 := v1333
  let v1341 : Index := Scalar.indexCast v1334
  let c0_357 : Index := 0#32
  ![v1341.toNat, 0]
def k0_mult6 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let c512_i32_281 : BitVec 32 := 512#32
  let v1227 : BitVec 32 := Scalar.muli v1205 c512_i32_281
  v1227
def k0_mult7 (i : grid0.Coords) : BitVec 32 :=
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let c1_i32_282 : BitVec 32 := 1#32
  let v1232 : BitVec 32 := Scalar.subi v1205 c1_i32_282
  let c0_i32_283 : BitVec 32 := 0#32
  let v1233 : BitVec 32 := Scalar.maxsi v1232 c0_i32_283
  let c512_i32_284 : BitVec 32 := 512#32
  let v1234 : BitVec 32 := Scalar.muli v1233 c512_i32_284
  v1234
def k0_off6 (i : grid0.Coords) : Fin 4 → Nat :=
  let c0_289 : Index := 0#32
  let c0_290 : Index := 0#32
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let c512_i32_281 : BitVec 32 := 512#32
  let v1227 : BitVec 32 := Scalar.muli v1205 c512_i32_281
  let v1228 : BitVec 32 := v1227
  let v1242 : Index := Scalar.indexCast v1228
  let c0_291 : Index := 0#32
  ![0, 0, v1242.toNat, 0]
def k0_off7 (i : grid0.Coords) : Fin 2 → Nat :=
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let c1_i32_282 : BitVec 32 := 1#32
  let v1232 : BitVec 32 := Scalar.subi v1205 c1_i32_282
  let c0_i32_283 : BitVec 32 := 0#32
  let v1233 : BitVec 32 := Scalar.maxsi v1232 c0_i32_283
  let c512_i32_284 : BitVec 32 := 512#32
  let v1234 : BitVec 32 := Scalar.muli v1233 c512_i32_284
  let v1235 : BitVec 32 := v1234
  let v1247 : Index := Scalar.indexCast v1235
  let c0_295 : Index := 0#32
  ![v1247.toNat, 0]
def k0_off8 (i : grid0.Coords) : Fin 2 → Nat :=
  let arg2 : BitVec 32 := BitVec.ofNat 32 (i 2).val
  let c256_i32 : BitVec 32 := 256#32
  let v0 : BitVec 32 := Scalar.muli arg2 c256_i32
  let c0_i32_258 : BitVec 32 := 0#32
  let v1190 : BitVec 1 := Scalar.cmpi .sgt v0 c0_i32_258
  let v1191 : BitVec 32 := Scalar.extui v1190
  let c0_i32_259 : BitVec 32 := 0#32
  let v1192 : BitVec 1 := Scalar.cmpi .slt v0 c0_i32_259
  let v1193 : BitVec 32 := Scalar.extui v1192
  let v1194 : BitVec 32 := Scalar.subi v1191 v1193
  let c512_i32_257 : BitVec 32 := 512#32
  let c0_i32_260 : BitVec 32 := 0#32
  let v1195 : BitVec 1 := Scalar.cmpi .sgt c512_i32_257 c0_i32_260
  let v1196 : BitVec 32 := Scalar.extui v1195
  let c0_i32_261 : BitVec 32 := 0#32
  let v1197 : BitVec 1 := Scalar.cmpi .slt c512_i32_257 c0_i32_261
  let v1198 : BitVec 32 := Scalar.extui v1197
  let v1199 : BitVec 32 := Scalar.subi v1196 v1198
  let v1200 : BitVec 1 := Scalar.cmpi .ne v1194 v1199
  let v1201 : BitVec 32 := Scalar.remsi v0 c512_i32_257
  let c0_i32_262 : BitVec 32 := 0#32
  let v1202 : BitVec 1 := Scalar.cmpi .ne v1201 c0_i32_262
  let v1203 : BitVec 1 := Scalar.andi v1200 v1202
  let v1189 : BitVec 32 := Scalar.divsi v0 c512_i32_257
  let c1_i32_263 : BitVec 32 := 1#32
  let v1204 : BitVec 32 := Scalar.subi v1189 c1_i32_263
  let v1205 : BitVec 32 := Scalar.select v1203 v1204 v1189
  let c512_i32_281 : BitVec 32 := 512#32
  let v1227 : BitVec 32 := Scalar.muli v1205 c512_i32_281
  let v1228 : BitVec 32 := v1227
  let v1293 : Index := Scalar.indexCast v1228
  let c0_320 : Index := 0#32
  ![v1293.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c64_i32 : BitVec 32 := 64#32
  let v2 : BitVec 32 := Scalar.addi c64_i32 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S16384x3072 : Shape := ⟨2, ![16384, 3072]⟩
abbrev S16384x8704 : Shape := ⟨2, ![16384, 8704]⟩
abbrev S4096x128 : Shape := ⟨2, ![4096, 128]⟩
abbrev S_ : Shape := ⟨0, ![]⟩
abbrev S16384x2048 : Shape := ⟨2, ![16384, 2048]⟩
abbrev S4x4096x4x4x128 : Shape := ⟨5, ![4, 4096, 4, 4, 128]⟩
abbrev S16384x512 : Shape := ⟨2, ![16384, 512]⟩
abbrev S4x4096x4x128 : Shape := ⟨4, ![4, 4096, 4, 128]⟩
abbrev S4x4096x4x12 : Shape := ⟨4, ![4, 4096, 4, 12]⟩
abbrev S4x4096x4x4x3 : Shape := ⟨5, ![4, 4096, 4, 4, 3]⟩
abbrev S4x4x256x128 : Shape := ⟨4, ![4, 4, 256, 128]⟩
abbrev S4x4x255x128 : Shape := ⟨4, ![4, 4, 255, 128]⟩
abbrev S255 : Shape := ⟨1, ![255]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4x64x64x4x128 : Shape := ⟨5, ![4, 64, 64, 4, 128]⟩
abbrev S4x4x64x64x128 : Shape := ⟨5, ![4, 4, 64, 64, 128]⟩
abbrev S4 : Shape := ⟨1, ![4]⟩
abbrev S4x1x1x1 : Shape := ⟨4, ![4, 1, 1, 1]⟩
abbrev S1x4x1x1 : Shape := ⟨4, ![1, 4, 1, 1]⟩
abbrev S4096 : Shape := ⟨1, ![4096]⟩
abbrev S4x4x255x4096x4 : Shape := ⟨5, ![4, 4, 255, 4096, 4]⟩
abbrev S4x4x4x4096x255 : Shape := ⟨5, ![4, 4, 4, 4096, 255]⟩
abbrev S1x255 : Shape := ⟨2, ![1, 255]⟩
abbrev S4096x1 : Shape := ⟨2, ![4096, 1]⟩
abbrev S4096x255 : Shape := ⟨2, ![4096, 255]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S4x4x4096x255 : Shape := ⟨4, ![4, 4, 4096, 255]⟩
abbrev S4x4x4096x64 : Shape := ⟨4, ![4, 4, 4096, 64]⟩
abbrev S4096x64 : Shape := ⟨2, ![4096, 64]⟩
abbrev S4x4x4096x16 : Shape := ⟨4, ![4, 4, 4096, 16]⟩
abbrev S4x4x4096x16x1 : Shape := ⟨5, ![4, 4, 4096, 16, 1]⟩
abbrev S4x4x4096x16x3 : Shape := ⟨5, ![4, 4, 4096, 16, 3]⟩
abbrev S4x4x4096x16x64x128 : Shape := ⟨6, ![4, 4, 4096, 16, 64, 128]⟩
abbrev S4x4x4096x16x64x4 : Shape := ⟨6, ![4, 4, 4096, 16, 64, 4]⟩
abbrev S4x4x4x4096x16x64 : Shape := ⟨6, ![4, 4, 4, 4096, 16, 64]⟩
abbrev S1x1x1x1x64 : Shape := ⟨5, ![1, 1, 1, 1, 64]⟩
abbrev S4x4x4096x16x64 : Shape := ⟨5, ![4, 4, 4096, 16, 64]⟩
abbrev S1x1x4096x1x1 : Shape := ⟨5, ![1, 1, 4096, 1, 1]⟩
abbrev S4x4x1x4096x16x64 : Shape := ⟨6, ![4, 4, 1, 4096, 16, 64]⟩
abbrev S4x4x4x4096x1024 : Shape := ⟨5, ![4, 4, 4, 4096, 1024]⟩
abbrev S4x4x1x4096x1024 : Shape := ⟨5, ![4, 4, 1, 4096, 1024]⟩
abbrev S1x4096 : Shape := ⟨2, ![1, 4096]⟩
abbrev S4096x4096 : Shape := ⟨2, ![4096, 4096]⟩
abbrev S4x4x4096x4096x4 : Shape := ⟨5, ![4, 4, 4096, 4096, 4]⟩
abbrev S4x4x4x4096x4096 : Shape := ⟨5, ![4, 4, 4, 4096, 4096]⟩
abbrev S4x4096x4x4x1 : Shape := ⟨5, ![4, 4096, 4, 4, 1]⟩

abbrev nBuf : Space → Nat
  | .hbm => 330
  | .vmem => 0
  | .smem => 0
  | _ => 0

abbrev hbmTy0_0 (i : Nat) : BufTy := match i % 128 with
  | 0 => ⟨S16384x3072, .bf16⟩
  | 1 => ⟨S16384x8704, .bf16⟩
  | 2 => ⟨S4096x128, .bf16⟩
  | 3 => ⟨S4096x128, .bf16⟩
  | 4 => ⟨S_, .f32⟩
  | 5 => ⟨S_, .f32⟩
  | 6 => ⟨S_, .f32⟩
  | 7 => ⟨S_, .f32⟩
  | 8 => ⟨S16384x2048, .bf16⟩
  | 9 => ⟨S16384x2048, .f32⟩
  | 10 => ⟨S4x4096x4x4x128, .f32⟩
  | 11 => ⟨S16384x512, .bf16⟩
  | 12 => ⟨S16384x512, .f32⟩
  | 13 => ⟨S4x4096x4x128, .f32⟩
  | 14 => ⟨S16384x512, .bf16⟩
  | 15 => ⟨S16384x512, .f32⟩
  | 16 => ⟨S4x4096x4x128, .f32⟩
  | 17 => ⟨S16384x512, .bf16⟩
  | 18 => ⟨S16384x512, .f32⟩
  | 19 => ⟨S4x4096x4x128, .f32⟩
  | 20 => ⟨S16384x512, .bf16⟩
  | 21 => ⟨S16384x512, .f32⟩
  | 22 => ⟨S4x4096x4x128, .f32⟩
  | 23 => ⟨S16384x512, .bf16⟩
  | 24 => ⟨S16384x512, .f32⟩
  | 25 => ⟨S4x4096x4x128, .f32⟩
  | 26 => ⟨S4x4096x4x12, .f32⟩
  | 27 => ⟨S4x4096x4x4x3, .f32⟩
  | 28 => ⟨S4x4096x4x4x3, .f32⟩
  | 29 => ⟨S4x4096x4x4x3, .f32⟩
  | 30 => ⟨S_, .f32⟩
  | 31 => ⟨S4x4096x4x4x3, .f32⟩
  | 32 => ⟨S4x4096x4x4x3, .f32⟩
  | 33 => ⟨S_, .f32⟩
  | 34 => ⟨S4x4096x4x4x3, .f32⟩
  | 35 => ⟨S4x4096x4x4x3, .f32⟩
  | 36 => ⟨S4096x128, .f32⟩
  | 37 => ⟨S4x4x256x128, .f32⟩
  | 38 => ⟨S4x4x255x128, .f32⟩
  | 39 => ⟨S4096x128, .f32⟩
  | 40 => ⟨S4x4x256x128, .f32⟩
  | 41 => ⟨S4x4x255x128, .f32⟩
  | 42 => ⟨S255, .i32⟩
  | 43 => ⟨S_, .i32⟩
  | 44 => ⟨S255, .i32⟩
  | 45 => ⟨S255, .i32⟩
  | 46 => ⟨S_, .i32⟩
  | 47 => ⟨S255, .i32⟩
  | 48 => ⟨S255, .i32⟩
  | 49 => ⟨S_, .i32⟩
  | 50 => ⟨S255, .i32⟩
  | 51 => ⟨S255, .i32⟩
  | 52 => ⟨S64, .i32⟩
  | 53 => ⟨S_, .i32⟩
  | 54 => ⟨S64, .i32⟩
  | 55 => ⟨S64, .i32⟩
  | 56 => ⟨S255x1, .i32⟩
  | 57 => ⟨S1x64, .i32⟩
  | 58 => ⟨S_, .i32⟩
  | 59 => ⟨S1x64, .i32⟩
  | 60 => ⟨S1x64, .i32⟩
  | 61 => ⟨S255x64, .i32⟩
  | 62 => ⟨S255x64, .i32⟩
  | 63 => ⟨S255x64, .i1⟩
  | 64 => ⟨S255x1, .i32⟩
  | 65 => ⟨S_, .i32⟩
  | 66 => ⟨S255x1, .i32⟩
  | 67 => ⟨S255x1, .i32⟩
  | 68 => ⟨S1x64, .i32⟩
  | 69 => ⟨S255x64, .i32⟩
  | 70 => ⟨S255x64, .i32⟩
  | 71 => ⟨S255x64, .i1⟩
  | 72 => ⟨S255x64, .i1⟩
  | 73 => ⟨S255x64, .f32⟩
  | 74 => ⟨S4x64x64x4x128, .f32⟩
  | 75 => ⟨S4x4x64x64x128, .f32⟩
  | 76 => ⟨S4x64x64x4x128, .f32⟩
  | 77 => ⟨S4x4x64x64x128, .f32⟩
  | 78 => ⟨S4, .i32⟩
  | 79 => ⟨S4x1x1x1, .i32⟩
  | 80 => ⟨S4, .i32⟩
  | 81 => ⟨S1x4x1x1, .i32⟩
  | 82 => ⟨S4096, .i32⟩
  | 83 => ⟨S4x4x255x4096x4, .f32⟩
  | 84 => ⟨S4x4x4x4096x255, .f32⟩
  | 85 => ⟨S4x4x4x4096x255, .f32⟩
  | 86 => ⟨S4x4x4x4096x255, .f32⟩
  | 87 => ⟨S1x255, .i32⟩
  | 88 => ⟨S4096x1, .i32⟩
  | 89 => ⟨S4096x255, .i32⟩
  | 90 => ⟨S4096x255, .i32⟩
  | 91 => ⟨S4096x255, .i1⟩
  | 92 => ⟨S_, .f32⟩
  | 93 => ⟨S_, .f32⟩
  | 94 => ⟨S4x4x4x4096x255, .i1⟩
  | 95 => ⟨S4x4x4x4096x255, .f32⟩
  | 96 => ⟨S4x4x4x4096x255, .f32⟩
  | 97 => ⟨S_, .f32⟩
  | 98 => ⟨S4x4x4x4096, .f32⟩
  | 99 => ⟨S_, .f32⟩
  | 100 => ⟨S4x4x4x4096, .f32⟩
  | 101 => ⟨S4x4x4x4096, .f32⟩
  | 102 => ⟨S4x4x4x4096x1, .f32⟩
  | 103 => ⟨S4x4x4x4096x255, .f32⟩
  | 104 => ⟨S4x4x4x4096x255, .f32⟩
  | 105 => ⟨S4x4x4x4096x255, .f32⟩
  | 106 => ⟨S_, .f32⟩
  | 107 => ⟨S4x4x4x4096, .f32⟩
  | 108 => ⟨S4x4x4x4096x1, .f32⟩
  | 109 => ⟨S4x4x4x4096x255, .f32⟩
  | 110 => ⟨S4x4x4x4096x255, .f32⟩
  | 111 => ⟨S_, .f32⟩
  | 112 => ⟨S_, .f32⟩
  | 113 => ⟨S4x4x4x4096x255, .i1⟩
  | 114 => ⟨S4x4x4x4096x255, .f32⟩
  | 115 => ⟨S4x4x4x4096x255, .f32⟩
  | 116 => ⟨S4x4x128x4x4096, .f32⟩
  | 117 => ⟨S4x4096x4x4x128, .f32⟩
  | 118 => ⟨S_, .f32⟩
  | 119 => ⟨S4x4x4096x255, .f32⟩
  | 120 => ⟨S4x4x4096x64, .f32⟩
  | 121 => ⟨S_, .i32⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S16384x3072, .bf16⟩

abbrev hbmTy0_1 (i : Nat) : BufTy := match i % 128 with
  | 0 => ⟨S4096, .i1⟩
  | 1 => ⟨S4096, .i32⟩
  | 2 => ⟨S4096, .i32⟩
  | 3 => ⟨S_, .i32⟩
  | 4 => ⟨S4096, .i32⟩
  | 5 => ⟨S4096, .i1⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S64, .i32⟩
  | 13 => ⟨S1x64, .i32⟩
  | 14 => ⟨S_, .i32⟩
  | 15 => ⟨S1x64, .i32⟩
  | 16 => ⟨S1x64, .i1⟩
  | 17 => ⟨S4096x64, .i32⟩
  | 18 => ⟨S4096x64, .i32⟩
  | 19 => ⟨S4096x64, .i1⟩
  | 20 => ⟨S4096x64, .i1⟩
  | 21 => ⟨S4096x64, .i1⟩
  | 22 => ⟨S_, .i32⟩
  | 23 => ⟨S4096x1, .i32⟩
  | 24 => ⟨S4096x1, .i32⟩
  | 25 => ⟨S4096x64, .i32⟩
  | 26 => ⟨S4096x64, .i32⟩
  | 27 => ⟨S4096x64, .i1⟩
  | 28 => ⟨S4096x64, .i1⟩
  | 29 => ⟨S1x64, .i32⟩
  | 30 => ⟨S4096x1, .i32⟩
  | 31 => ⟨S4096x64, .i32⟩
  | 32 => ⟨S4096x64, .i32⟩
  | 33 => ⟨S4096x64, .i1⟩
  | 34 => ⟨S_, .f32⟩
  | 35 => ⟨S_, .f32⟩
  | 36 => ⟨S4x4x4096x64, .i1⟩
  | 37 => ⟨S4x4x4096x64, .f32⟩
  | 38 => ⟨S4x4x4096x64, .f32⟩
  | 39 => ⟨S_, .f32⟩
  | 40 => ⟨S_, .f32⟩
  | 41 => ⟨S4x4x4096x64, .i1⟩
  | 42 => ⟨S4x4x4096x64, .f32⟩
  | 43 => ⟨S4x4x4096x64, .f32⟩
  | 44 => ⟨S4x4x4096x16, .f32⟩
  | 45 => ⟨S4x4x4096x16, .i32⟩
  | 46 => ⟨S_, .i32⟩
  | 47 => ⟨S4x1x1x1, .i32⟩
  | 48 => ⟨S4x1x1x1, .i1⟩
  | 49 => ⟨S_, .i32⟩
  | 50 => ⟨S4x1x1x1, .i32⟩
  | 51 => ⟨S4x1x1x1, .i32⟩
  | 52 => ⟨S4x1x1x1, .i32⟩
  | 53 => ⟨S_, .i32⟩
  | 54 => ⟨S1x4x1x1, .i32⟩
  | 55 => ⟨S1x4x1x1, .i1⟩
  | 56 => ⟨S_, .i32⟩
  | 57 => ⟨S1x4x1x1, .i32⟩
  | 58 => ⟨S1x4x1x1, .i32⟩
  | 59 => ⟨S1x4x1x1, .i32⟩
  | 60 => ⟨S_, .i32⟩
  | 61 => ⟨S4x4x4096x16, .i32⟩
  | 62 => ⟨S4x4x4096x16, .i1⟩
  | 63 => ⟨S_, .i32⟩
  | 64 => ⟨S4x4x4096x16, .i32⟩
  | 65 => ⟨S4x4x4096x16, .i32⟩
  | 66 => ⟨S4x4x4096x16, .i32⟩
  | 67 => ⟨S4x4x4096x16, .i32⟩
  | 68 => ⟨S4x4x4096x16, .i32⟩
  | 69 => ⟨S4x4x4096x16x1, .i32⟩
  | 70 => ⟨S4x4x4096x16x1, .i32⟩
  | 71 => ⟨S4x4x4096x16x1, .i32⟩
  | 72 => ⟨S4x4x4096x16x3, .i32⟩
  | 73 => ⟨S4x4x4096x16x64x128, .f32⟩
  | 74 => ⟨S_, .i32⟩
  | 75 => ⟨S4x1x1x1, .i32⟩
  | 76 => ⟨S4x1x1x1, .i1⟩
  | 77 => ⟨S_, .i32⟩
  | 78 => ⟨S4x1x1x1, .i32⟩
  | 79 => ⟨S4x1x1x1, .i32⟩
  | 80 => ⟨S4x1x1x1, .i32⟩
  | 81 => ⟨S_, .i32⟩
  | 82 => ⟨S1x4x1x1, .i32⟩
  | 83 => ⟨S1x4x1x1, .i1⟩
  | 84 => ⟨S_, .i32⟩
  | 85 => ⟨S1x4x1x1, .i32⟩
  | 86 => ⟨S1x4x1x1, .i32⟩
  | 87 => ⟨S1x4x1x1, .i32⟩
  | 88 => ⟨S_, .i32⟩
  | 89 => ⟨S4x4x4096x16, .i32⟩
  | 90 => ⟨S4x4x4096x16, .i1⟩
  | 91 => ⟨S_, .i32⟩
  | 92 => ⟨S4x4x4096x16, .i32⟩
  | 93 => ⟨S4x4x4096x16, .i32⟩
  | 94 => ⟨S4x4x4096x16, .i32⟩
  | 95 => ⟨S4x4x4096x16, .i32⟩
  | 96 => ⟨S4x4x4096x16, .i32⟩
  | 97 => ⟨S4x4x4096x16x1, .i32⟩
  | 98 => ⟨S4x4x4096x16x1, .i32⟩
  | 99 => ⟨S4x4x4096x16x1, .i32⟩
  | 100 => ⟨S4x4x4096x16x3, .i32⟩
  | 101 => ⟨S4x4x4096x16x64x128, .f32⟩
  | 102 => ⟨S4x4x4096x16x64x4, .f32⟩
  | 103 => ⟨S4x4x4x4096x16x64, .f32⟩
  | 104 => ⟨S4x4x4x4096x16x64, .f32⟩
  | 105 => ⟨S4x4x4x4096x16x64, .f32⟩
  | 106 => ⟨S4x4x4096x16x1, .i32⟩
  | 107 => ⟨S_, .i32⟩
  | 108 => ⟨S4x4x4096x16x1, .i32⟩
  | 109 => ⟨S4x4x4096x16x1, .i32⟩
  | 110 => ⟨S64, .i32⟩
  | 111 => ⟨S1x1x1x1x64, .i32⟩
  | 112 => ⟨S4x4x4096x16x64, .i32⟩
  | 113 => ⟨S4x4x4096x16x64, .i32⟩
  | 114 => ⟨S4x4x4096x16x64, .i32⟩
  | 115 => ⟨S1x1x4096x1x1, .i32⟩
  | 116 => ⟨S4x4x4096x16x64, .i32⟩
  | 117 => ⟨S4x4x4096x16x64, .i1⟩
  | 118 => ⟨S4x4x1x4096x16x64, .i1⟩
  | 119 => ⟨S4x4x4x4096x1024, .f32⟩
  | 120 => ⟨S4x4x1x4096x1024, .i1⟩
  | 121 => ⟨S_, .f32⟩
  | 122 => ⟨S_, .f32⟩
  | 123 => ⟨S4x4x4x4096x1024, .i1⟩
  | 124 => ⟨S4x4x4x4096x1024, .f32⟩
  | 125 => ⟨S4x4x4x4096x1024, .f32⟩
  | 126 => ⟨S_, .f32⟩
  | 127 => ⟨S4x4x4x4096, .f32⟩
  | _ => ⟨S16384x3072, .bf16⟩

abbrev hbmTy0_2 (i : Nat) : BufTy := match i % 128 with
  | 0 => ⟨S_, .f32⟩
  | 1 => ⟨S4x4x4x4096, .f32⟩
  | 2 => ⟨S4x4x4x4096, .f32⟩
  | 3 => ⟨S4x4x4x4096x1, .f32⟩
  | 4 => ⟨S4x4x4x4096x1024, .f32⟩
  | 5 => ⟨S4x4x4x4096x1024, .f32⟩
  | 6 => ⟨S4x4x4x4096x1024, .f32⟩
  | 7 => ⟨S_, .f32⟩
  | 8 => ⟨S4x4x4x4096, .f32⟩
  | 9 => ⟨S4x4x4x4096x1, .f32⟩
  | 10 => ⟨S4x4x4x4096x1024, .f32⟩
  | 11 => ⟨S4x4x4x4096x1024, .f32⟩
  | 12 => ⟨S_, .f32⟩
  | 13 => ⟨S_, .f32⟩
  | 14 => ⟨S4x4x4x4096x1024, .i1⟩
  | 15 => ⟨S4x4x4x4096x1024, .f32⟩
  | 16 => ⟨S4x4x4x4096x1024, .f32⟩
  | 17 => ⟨S4x4x4x4096x16x64, .f32⟩
  | 18 => ⟨S4x4096x4x4x128, .f32⟩
  | 19 => ⟨S4096x1, .i32⟩
  | 20 => ⟨S1x4096, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i1⟩
  | 27 => ⟨S_, .i32⟩
  | 28 => ⟨S4096x4096, .i32⟩
  | 29 => ⟨S4096x4096, .i1⟩
  | 30 => ⟨S4096x4096, .i1⟩
  | 31 => ⟨S4x4x4096x4096x4, .f32⟩
  | 32 => ⟨S4x4x4x4096x4096, .f32⟩
  | 33 => ⟨S4x4x4x4096x4096, .f32⟩
  | 34 => ⟨S4x4x4x4096x4096, .f32⟩
  | 35 => ⟨S_, .f32⟩
  | 36 => ⟨S_, .f32⟩
  | 37 => ⟨S4x4x4x4096x4096, .i1⟩
  | 38 => ⟨S4x4x4x4096x4096, .f32⟩
  | 39 => ⟨S4x4x4x4096x4096, .f32⟩
  | 40 => ⟨S_, .f32⟩
  | 41 => ⟨S4x4x4x4096, .f32⟩
  | 42 => ⟨S_, .f32⟩
  | 43 => ⟨S4x4x4x4096, .f32⟩
  | 44 => ⟨S4x4x4x4096, .f32⟩
  | 45 => ⟨S4x4x4x4096x1, .f32⟩
  | 46 => ⟨S4x4x4x4096x4096, .f32⟩
  | 47 => ⟨S4x4x4x4096x4096, .f32⟩
  | 48 => ⟨S4x4x4x4096x4096, .f32⟩
  | 49 => ⟨S_, .f32⟩
  | 50 => ⟨S4x4x4x4096, .f32⟩
  | 51 => ⟨S4x4x4x4096x1, .f32⟩
  | 52 => ⟨S4x4x4x4096x4096, .f32⟩
  | 53 => ⟨S4x4x4x4096x4096, .f32⟩
  | 54 => ⟨S_, .f32⟩
  | 55 => ⟨S_, .f32⟩
  | 56 => ⟨S4x4x4x4096x4096, .i1⟩
  | 57 => ⟨S4x4x4x4096x4096, .f32⟩
  | 58 => ⟨S4x4x4x4096x4096, .f32⟩
  | 59 => ⟨S4x4x128x4x4096, .f32⟩
  | 60 => ⟨S4x4096x4x4x128, .f32⟩
  | 61 => ⟨S4x4096x4x4x1, .f32⟩
  | 62 => ⟨S4x4096x4x4x128, .f32⟩
  | 63 => ⟨S4x4096x4x4x128, .f32⟩
  | 64 => ⟨S4x4096x4x4x1, .f32⟩
  | 65 => ⟨S4x4096x4x4x128, .f32⟩
  | 66 => ⟨S4x4096x4x4x128, .f32⟩
  | 67 => ⟨S4x4096x4x4x128, .f32⟩
  | 68 => ⟨S4x4096x4x4x1, .f32⟩
  | 69 => ⟨S4x4096x4x4x128, .f32⟩
  | 70 => ⟨S4x4096x4x4x128, .f32⟩
  | 71 => ⟨S4x4096x4x4x128, .f32⟩
  | 72 => ⟨S16384x2048, .f32⟩
  | 73 => ⟨S16384x2048, .bf16⟩
  | _ => ⟨S16384x3072, .bf16⟩

abbrev hbmTy (i : Nat) : BufTy := match i / 128 with
  | 0 => hbmTy0_0 i
  | 1 => hbmTy0_1 i
  | 2 => hbmTy0_2 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_12 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩
abbrev main_c_14 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_c : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_c_0 : Ref sig .tc := ⟨.hbm, 135, rfl⟩
abbrev main_call2_v12 : Ref sig .tc := ⟨.hbm, 136, rfl⟩
abbrev main_call2_v13 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_15 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_16 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_17 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v117 : Ref sig .tc := ⟨.hbm, 166, rfl⟩
abbrev main_cst_18 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v118 : Ref sig .tc := ⟨.hbm, 171, rfl⟩
abbrev main_values : Ref sig .tc := ⟨.hbm, 172, rfl⟩
abbrev main_indices : Ref sig .tc := ⟨.hbm, 173, rfl⟩
abbrev main_c_19 : Ref sig .tc := ⟨.hbm, 174, rfl⟩
abbrev main_v119 : Ref sig .tc := ⟨.hbm, 175, rfl⟩
abbrev main_v120 : Ref sig .tc := ⟨.hbm, 176, rfl⟩
abbrev main_c_20 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_21 : Ref sig .tc := ⟨.hbm, 181, rfl⟩
abbrev main_v124 : Ref sig .tc := ⟨.hbm, 182, rfl⟩
abbrev main_v125 : Ref sig .tc := ⟨.hbm, 183, rfl⟩
abbrev main_c_22 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_c_23 : Ref sig .tc := ⟨.hbm, 188, rfl⟩
abbrev main_v129 : Ref sig .tc := ⟨.hbm, 189, rfl⟩
abbrev main_v130 : Ref sig .tc := ⟨.hbm, 190, rfl⟩
abbrev main_c_24 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_c_25 : Ref sig .tc := ⟨.hbm, 202, rfl⟩
abbrev main_v141 : Ref sig .tc := ⟨.hbm, 203, rfl⟩
abbrev main_v142 : Ref sig .tc := ⟨.hbm, 204, rfl⟩
abbrev main_c_26 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_c_27 : Ref sig .tc := ⟨.hbm, 209, rfl⟩
abbrev main_v146 : Ref sig .tc := ⟨.hbm, 210, rfl⟩
abbrev main_v147 : Ref sig .tc := ⟨.hbm, 211, rfl⟩
abbrev main_c_28 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_c_29 : Ref sig .tc := ⟨.hbm, 216, rfl⟩
abbrev main_v151 : Ref sig .tc := ⟨.hbm, 217, rfl⟩
abbrev main_v152 : Ref sig .tc := ⟨.hbm, 218, rfl⟩
abbrev main_c_30 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_c_31 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_32 : Ref sig .tc := ⟨.hbm, 249, rfl⟩
abbrev main_call5_v0 : Ref sig .tc := ⟨.hbm, 250, rfl⟩
abbrev main_call5_v1 : Ref sig .tc := ⟨.hbm, 251, rfl⟩
abbrev main_call5_v2 : Ref sig .tc := ⟨.hbm, 252, rfl⟩
abbrev main_v181 : Ref sig .tc := ⟨.hbm, 253, rfl⟩
abbrev main_cst_33 : Ref sig .tc := ⟨.hbm, 254, rfl⟩
abbrev main_v182 : Ref sig .tc := ⟨.hbm, 255, rfl⟩
abbrev main_cst_34 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_cst_35 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_cst_36 : Ref sig .tc := ⟨.hbm, 268, rfl⟩
abbrev main_call6_v0 : Ref sig .tc := ⟨.hbm, 269, rfl⟩
abbrev main_call6_v1 : Ref sig .tc := ⟨.hbm, 270, rfl⟩
abbrev main_call6_v2 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_c_37 : Ref sig .tc := ⟨.hbm, 280, rfl⟩
abbrev main_v201 : Ref sig .tc := ⟨.hbm, 281, rfl⟩
abbrev main_v202 : Ref sig .tc := ⟨.hbm, 282, rfl⟩
abbrev main_c_38 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_cst_39 : Ref sig .tc := ⟨.hbm, 291, rfl⟩
abbrev main_call7_v0 : Ref sig .tc := ⟨.hbm, 292, rfl⟩
abbrev main_call7_v1 : Ref sig .tc := ⟨.hbm, 293, rfl⟩
abbrev main_call7_v2 : Ref sig .tc := ⟨.hbm, 294, rfl⟩
abbrev main_v210 : Ref sig .tc := ⟨.hbm, 295, rfl⟩
abbrev main_cst_40 : Ref sig .tc := ⟨.hbm, 296, rfl⟩
abbrev main_v211 : Ref sig .tc := ⟨.hbm, 297, rfl⟩
abbrev main_cst_41 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_cst_42 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_cst_43 : Ref sig .tc := ⟨.hbm, 310, rfl⟩
abbrev main_call8_v0 : Ref sig .tc := ⟨.hbm, 311, rfl⟩
abbrev main_call8_v1 : Ref sig .tc := ⟨.hbm, 312, rfl⟩
abbrev main_call8_v2 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩

abbrev nD : Nat := 1
abbrev τ : Topo := Topo.v7x

variable {F : FTy → Type} [FloatOps F]
-- ==== Raw.lean ====
abbrev S16384x2048 : Shape := ⟨2, ![16384, 2048]⟩
abbrev S2048x8704 : Shape := ⟨2, ![2048, 8704]⟩
abbrev S8704 : Shape := ⟨1, ![8704]⟩
abbrev S1x8704 : Shape := ⟨2, ![1, 8704]⟩
abbrev S_ : Shape := ⟨0, ![]⟩
abbrev S16384x8704 : Shape := ⟨2, ![16384, 8704]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x8704, .f32⟩
  | .hbm, ⟨2, _⟩ => ⟨S8704, .f32⟩
  | .hbm, ⟨3, _⟩ => ⟨S2048x8704, .bf16⟩
  | .hbm, ⟨4, _⟩ => ⟨S1x8704, .f32⟩
  | .hbm, ⟨5, _⟩ => ⟨S_, .f32⟩
  | .hbm, ⟨6, _⟩ => ⟨S1x8704, .f32⟩
  | .hbm, ⟨7, _⟩ => ⟨S16384x8704, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RawRefIdeal.lean ====
abbrev S16384x2048 : Shape := ⟨2, ![16384, 2048]⟩
abbrev S2048x8704 : Shape := ⟨2, ![2048, 8704]⟩
abbrev S8704 : Shape := ⟨1, ![8704]⟩
abbrev S16384x8704 : Shape := ⟨2, ![16384, 8704]⟩
abbrev S1x8704 : Shape := ⟨2, ![1, 8704]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8704, .f32⟩
  | .hbm, ⟨2, _⟩ => ⟨S8704, .f32⟩
  | .hbm, ⟨3, _⟩ => ⟨S16384x2048, .f32⟩
  | .hbm, ⟨4, _⟩ => ⟨S16384x8704, .f32⟩
  | .hbm, ⟨5, _⟩ => ⟨S1x8704, .f32⟩
  | .hbm, ⟨6, _⟩ => ⟨S16384x8704, .f32⟩
  | .hbm, ⟨7, _⟩ => ⟨S16384x8704, .f32⟩
  | .hbm, ⟨8, _⟩ => ⟨S16384x8704, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S16384x2048 : Shape := ⟨2, ![16384, 2048]⟩
abbrev S2048x3072 : Shape := ⟨2, ![2048, 3072]⟩
abbrev S3072 : Shape := ⟨1, ![3072]⟩
abbrev S1x3072 : Shape := ⟨2, ![1, 3072]⟩
abbrev S16384x3072 : Shape := ⟨2, ![16384, 3072]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .f32⟩
  | .hbm, ⟨2, _⟩ => ⟨S3072, .f32⟩
  | .hbm, ⟨3, _⟩ => ⟨S3072, .f32⟩
  | .hbm, ⟨4, _⟩ => ⟨S2048x3072, .bf16⟩
  | .hbm, ⟨5, _⟩ => ⟨S1x3072, .f32⟩
  | .hbm, ⟨6, _⟩ => ⟨S1x3072, .f32⟩
  | .hbm, ⟨7, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormRefIdeal.lean ====
abbrev S16384x2048 : Shape := ⟨2, ![16384, 2048]⟩
abbrev S2048x3072 : Shape := ⟨2, ![2048, 3072]⟩
abbrev S3072 : Shape := ⟨1, ![3072]⟩
abbrev S16384x3072 : Shape := ⟨2, ![16384, 3072]⟩
abbrev S1x3072 : Shape := ⟨2, ![1, 3072]⟩
abbrev S16384x24x128 : Shape := ⟨3, ![16384, 24, 128]⟩
abbrev S24x128 : Shape := ⟨2, ![24, 128]⟩
abbrev S_ : Shape := ⟨0, ![]⟩
abbrev S16384x24 : Shape := ⟨2, ![16384, 24]⟩
abbrev S16384x24x1 : Shape := ⟨3, ![16384, 24, 1]⟩
abbrev S1x24x128 : Shape := ⟨3, ![1, 24, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .f32⟩
  | .hbm, ⟨2, _⟩ => ⟨S3072, .f32⟩
  | .hbm, ⟨3, _⟩ => ⟨S3072, .f32⟩
  | .hbm, ⟨4, _⟩ => ⟨S16384x2048, .f32⟩
  | .hbm, ⟨5, _⟩ => ⟨S16384x3072, .f32⟩
  | .hbm, ⟨6, _⟩ => ⟨S1x3072, .f32⟩
  | .hbm, ⟨7, _⟩ => ⟨S16384x3072, .f32⟩
  | .hbm, ⟨8, _⟩ => ⟨S16384x3072, .f32⟩
  | .hbm, ⟨9, _⟩ => ⟨S16384x24x128, .f32⟩
  | .hbm, ⟨10, _⟩ => ⟨S24x128, .f32⟩
  | .hbm, ⟨11, _⟩ => ⟨S16384x24x128, .f32⟩
  | .hbm, ⟨12, _⟩ => ⟨S_, .f32⟩
  | .hbm, ⟨13, _⟩ => ⟨S16384x24, .f32⟩
  | .hbm, ⟨14, _⟩ => ⟨S16384x24x1, .f32⟩
  | .hbm, ⟨15, _⟩ => ⟨S_, .f32⟩
  | .hbm, ⟨16, _⟩ => ⟨S16384x24x1, .f32⟩
  | .hbm, ⟨17, _⟩ => ⟨S16384x24x1, .f32⟩
  | .hbm, ⟨18, _⟩ => ⟨S_, .f32⟩
  | .hbm, ⟨19, _⟩ => ⟨S16384x24x1, .f32⟩
  | .hbm, ⟨20, _⟩ => ⟨S16384x24x1, .f32⟩
  | .hbm, ⟨21, _⟩ => ⟨S16384x24x1, .f32⟩
  | .hbm, ⟨22, _⟩ => ⟨S16384x24x128, .f32⟩
  | .hbm, ⟨23, _⟩ => ⟨S16384x24x128, .f32⟩
  | .hbm, ⟨24, _⟩ => ⟨S1x24x128, .f32⟩
  | .hbm, ⟨25, _⟩ => ⟨S16384x24x128, .f32⟩
  | .hbm, ⟨26, _⟩ => ⟨S16384x24x128, .f32⟩
  | .hbm, ⟨27, _⟩ => ⟨S16384x3072, .f32⟩
  | .hbm, ⟨28, _⟩ => ⟨S16384x3072, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== NsaOut.lean ====
abbrev S16384x2048 : Shape := ⟨2, ![16384, 2048]⟩
abbrev S2048x2048 : Shape := ⟨2, ![2048, 2048]⟩
abbrev S_ : Shape := ⟨0, ![]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S_, .f32⟩
  | .hbm, ⟨3, _⟩ => ⟨S1x2048, .f32⟩
  | .hbm, ⟨4, _⟩ => ⟨S2048x2048, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NsaOutRefIdeal.lean ====
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S4x1x2048 : Shape := ⟨3, ![4, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S4x1x2048, .f32⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16384x2048 : Shape := ⟨2, ![16384, 2048]⟩
abbrev S2048x2048 : Shape := ⟨2, ![2048, 2048]⟩
abbrev S4x1x2048 : Shape := ⟨3, ![4, 1, 2048]⟩
abbrev S4x4096x2048 : Shape := ⟨3, ![4, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S4x1x2048, .f32⟩
  | .hbm, ⟨4, _⟩ => ⟨S16384x2048, .f32⟩
  | .hbm, ⟨5, _⟩ => ⟨S16384x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Attn.lean ====
/-
  Attention weights over a finite set of keys, as real numbers, and the two ways the programs compute them in the
  extended reals: a softmax of scores masked with `⊥` (base e), and sums of base-2 exponentials relative to a running
  maximum, rescaled when the maximum grows.
-/
module

public import Idealize.ShloMosaic.PureOps.Ideal.Laws
public import Idealize.ShloMosaic.Lib.IdealHost

@[expose] public section

noncomputable section

namespace Cert.Attn

open Idealize.ShloMosaic
open scoped BigOperators

variable {κ : Type} [Fintype κ] [DecidableEq κ]

/-- The unnormalised weight of a key of raw score `x`: the exponential of the scaled score. -/
def wt (x : ℝ) : ℝ := Real.exp (x * (Real.sqrt 128)⁻¹)

/-- The scale in base 2: one over the square root of 128, over the logarithm of 2. -/
def c2 : ℝ := (Real.sqrt 128)⁻¹ * (Real.log 2)⁻¹

/-- The normalised weight of key `k` among the keys `A` (zero outside `A`). -/
def prob (A : Finset κ) (x : κ → ℝ) (k : κ) : ℝ := if k ∈ A then wt (x k) / ∑ j ∈ A, wt (x j) else 0

/-- The weighted mean of `v` over the keys `A` (zero when there is none). -/
def attn (A : Finset κ) (x v : κ → ℝ) : ℝ := (∑ k ∈ A, wt (x k) * v k) / ∑ k ∈ A, wt (x k)

/-- A weight is positive. -/
theorem wt_pos (x : ℝ) : 0 < wt x := Real.exp_pos _

/-- The weights of a set that is not empty have a positive sum. -/
theorem sum_wt_pos {A : Finset κ} (hA : A.Nonempty) (x : κ → ℝ) : 0 < ∑ k ∈ A, wt (x k) :=
  Finset.sum_pos (fun _ _ => wt_pos _) hA

/-- A power of 2 of the score in base-2 units is the weight. -/
theorem rpow_c2 (x μ : ℝ) : Real.rpow 2 (x * c2 - μ) = wt x * Real.rpow 2 (-μ) := by
  have h2 : (0 : ℝ) < 2 := by norm_num
  have hl : Real.log 2 ≠ 0 := (Real.log_pos (by norm_num)).ne'
  show (2 : ℝ) ^ (x * c2 - μ) = _ * (2 : ℝ) ^ (-μ)
  rw [sub_eq_add_neg, Real.rpow_add h2]
  congr 1
  rw [Real.rpow_def_of_pos h2, wt, c2]
  congr 1
  field_simp

/-- The weighted mean is the sum against the normalised weights. -/
theorem sum_prob_mul (A : Finset κ) (x v : κ → ℝ) : ∑ k, prob A x k * v k = attn A x v := by
  unfold prob attn
  simp only [ite_mul, zero_mul, Finset.sum_ite_mem, Finset.univ_inter]
  rw [Finset.sum_div]
  exact Finset.sum_congr rfl fun k _ => by ring

/-- A masked base-2 score. -/
def sc (A : Finset κ) (x : κ → ℝ) (k : κ) : EReal := if k ∈ A then ((x k * c2 : ℝ) : EReal) else ⊥

/-- What a maximum over the keys `A` is: `⊥` for no key, otherwise a real. -/
def IsMax (A : Finset κ) (m : EReal) : Prop := (A = ∅ ∧ m = ⊥) ∨ (A.Nonempty ∧ ∃ μ : ℝ, m = μ)

/-- The supremum of scores masked to `A` by `⊥` is `⊥` or a real. -/
theorem isMax_sup (A : Finset κ) (f : κ → ℝ) :
    IsMax A (Finset.univ.sup fun k => if k ∈ A then ((f k : ℝ) : EReal) else ⊥) := by
  rcases A.eq_empty_or_nonempty with h | h
  · left; subst h; simp
  · right; refine ⟨h, ?_⟩
    obtain ⟨a, ha⟩ := h
    obtain ⟨k, _, hk⟩ := Finset.exists_mem_eq_sup Finset.univ ⟨a, Finset.mem_univ a⟩
      (fun k => if k ∈ A then ((f k : ℝ) : EReal) else ⊥)
    by_cases hkA : k ∈ A
    · exact ⟨f k, by rw [hk, if_pos hkA]⟩
    · rw [if_neg hkA] at hk
      have := Finset.le_sup (f := fun k => if k ∈ A then ((f k : ℝ) : EReal) else ⊥) (Finset.mem_univ a)
      rw [hk] at this
      simp [ha] at this

/-- The maximum of two maxima is a maximum over the union. -/
theorem IsMax.max {A B : Finset κ} {m n : EReal} (hm : IsMax A m) (hn : IsMax B n) : IsMax (A ∪ B) (max m n) := by
  rcases hm with ⟨rfl, rfl⟩ | ⟨hA, μ, rfl⟩ <;> rcases hn with ⟨rfl, rfl⟩ | ⟨hB, ν, rfl⟩
  · left; simp
  · right; exact ⟨by simpa using hB, ν, by simp⟩
  · right; exact ⟨by simpa using hA, μ, by simp⟩
  · right
    refine ⟨hA.mono Finset.subset_union_left, Max.max μ ν, ?_⟩
    rcases le_total μ ν with h | h
    · rw [max_eq_right h, max_eq_right (EReal.coe_le_coe_iff.2 h)]
    · rw [max_eq_left h, max_eq_left (EReal.coe_le_coe_iff.2 h)]

/-- The factor a maximum divides the weights by: `2 ^ (-m)`, and one for `⊥`. -/
def gam (m : EReal) : ℝ := if m = ⊥ then 1 else Real.rpow 2 (-m.toReal)

theorem gam_pos (m : EReal) : 0 < gam m := by
  unfold gam; split
  · norm_num
  · exact Real.rpow_pos_of_pos (by norm_num) _

theorem gam_coe (μ : ℝ) : gam (μ : EReal) = Real.rpow 2 (-μ) := by
  unfold gam; rw [if_neg (EReal.coe_ne_bot μ), EReal.toReal_coe]

/-- The base-2 exponential of a masked score relative to a maximum over a set that holds the mask. -/
theorem exp2_sc {A B : Finset κ} (hAB : A ⊆ B) {m : EReal} (hm : IsMax B m) (x : κ → ℝ) (k : κ) :
    Ideal.exp2 (sc A x k - m) = ((if k ∈ A then wt (x k) * gam m else 0 : ℝ) : EReal) := by
  unfold sc
  rcases hm with ⟨rfl, rfl⟩ | ⟨_, μ, rfl⟩
  · have : k ∉ A := fun h => by simpa using hAB h
    rw [if_neg this, if_neg this]; simp
  · by_cases h : k ∈ A
    · rw [if_pos h, if_pos h, ← EReal.coe_sub, Ideal.exp2_coe, rpow_c2, gam_coe]
    · rw [if_neg h, if_neg h]; simp [EReal.bot_sub]

/-- A sum of reals is the same in the extended reals. -/
theorem coe_sum (A : Finset κ) (f : κ → ℝ) : ((∑ k ∈ A, f k : ℝ) : EReal) = ∑ k ∈ A, ((f k : ℝ) : EReal) := by
  induction A using Finset.induction_on with
  | empty => simp
  | insert a s ha ih => rw [Finset.sum_insert ha, Finset.sum_insert ha, EReal.coe_add, ih]

/-- A sum of products of reals, in the extended reals. -/
theorem sum_coe_mul (f g : κ → ℝ) : ∑ k, ((f k : ℝ) : EReal) * ((g k : ℝ) : EReal) = ((∑ k, f k * g k : ℝ) : EReal) := by
  rw [coe_sum]
  exact Finset.sum_congr rfl fun k _ => (EReal.coe_mul _ _).symm

/-- A sum of reals, in the extended reals. -/
theorem sum_coe (f : κ → ℝ) : ∑ k, ((f k : ℝ) : EReal) = ((∑ k, f k : ℝ) : EReal) :=
  (coe_sum _ _).symm

/-- The masked exponentials against `v`, summed. -/
theorem sum_exp2 {A B : Finset κ} (hAB : A ⊆ B) {m : EReal} (hm : IsMax B m) (x v : κ → ℝ) :
    ∑ k, Ideal.exp2 (sc A x k - m) * ((v k : ℝ) : EReal) = ((gam m * ∑ k ∈ A, wt (x k) * v k : ℝ) : EReal) := by
  simp only [exp2_sc hAB hm]
  rw [sum_coe_mul]
  congr 1
  simp only [ite_mul, zero_mul, Finset.sum_ite_mem, Finset.univ_inter, Finset.mul_sum]
  exact Finset.sum_congr rfl fun k _ => by ring

/-- Rescaling sums held relative to `m` to a maximum `m'` of a larger set. -/
theorem rescale {A B : Finset κ} (hAB : A ⊆ B) {m m' : EReal} (hm : IsMax A m) (hm' : IsMax B m') (f : κ → ℝ) :
    Ideal.exp2 (m - m') * ((gam m * ∑ k ∈ A, f k : ℝ) : EReal) = ((gam m' * ∑ k ∈ A, f k : ℝ) : EReal) := by
  rcases hm with ⟨rfl, rfl⟩ | ⟨hA, μ, rfl⟩
  · simp
  · rcases hm' with ⟨rfl, rfl⟩ | ⟨_, ν, rfl⟩
    · exact absurd (Finset.subset_empty.1 hAB) hA.ne_empty
    · rw [← EReal.coe_sub, Ideal.exp2_coe, ← EReal.coe_mul, gam_coe, gam_coe, ← mul_assoc]
      congr 2
      show (2 : ℝ) ^ (μ - ν) * (2 : ℝ) ^ (-μ) = (2 : ℝ) ^ (-ν)
      rw [← Real.rpow_add (by norm_num)]; congr 1; ring

/-- A quotient of reals by a positive real, in the extended reals. -/
theorem div_coe_pos (a : ℝ) {b : ℝ} (hb : 0 < b) : Ideal.div (a : EReal) (b : EReal) = ((a / b : ℝ) : EReal) := by
  rw [Ideal.div, if_neg (by exact_mod_cast hb.ne'), div_eq_mul_inv, EReal.coe_mul, EReal.coe_inv]

/-- The sums over `A` relative to `m`, the first times the reciprocal of the second: the weighted mean; and zero when
`A` is empty, the reciprocal of zero being `⊤`. -/
theorem sum_mul_inv (A : Finset κ) (m : EReal) (x v : κ → ℝ) :
    ((gam m * ∑ k ∈ A, wt (x k) * v k : ℝ) : EReal) * Ideal.div 1 ((gam m * ∑ k ∈ A, wt (x k) * 1 : ℝ) : EReal)
      = ((attn A x v : ℝ) : EReal) := by
  rcases A.eq_empty_or_nonempty with rfl | hA
  · simp [attn]
  · have h1 := gam_pos m
    have h2 := sum_wt_pos hA x
    simp only [mul_one]
    rw [show (1 : EReal) = ((1 : ℝ) : EReal) from rfl, div_coe_pos 1 (mul_pos h1 h2), ← EReal.coe_mul, attn]
    congr 1
    field_simp

/-- A masked exponential times the reciprocal of the sum: the normalised weight. -/
theorem exp2_mul_inv {A : Finset κ} (hA : A.Nonempty) {m : EReal} (hm : IsMax A m) (x : κ → ℝ) (k : κ) :
    Ideal.exp2 (sc A x k - m) * Ideal.div 1 ((gam m * ∑ k ∈ A, wt (x k) * 1 : ℝ) : EReal)
      = ((prob A x k : ℝ) : EReal) := by
  have h1 := gam_pos m
  have h2 := sum_wt_pos hA x
  rw [exp2_sc subset_rfl hm]
  simp only [mul_one]
  rw [show (1 : EReal) = ((1 : ℝ) : EReal) from rfl, div_coe_pos 1 (mul_pos h1 h2), ← EReal.coe_mul, prob]
  congr 1
  split
  · field_simp
  · simp

/-- The softmax of scores masked with `⊥`, set to zero outside the mask: the normalised weights. -/
theorem softmax_masked (A : Finset κ) (x : κ → ℝ) (s : κ → EReal)
    (hs : ∀ k, s k = if k ∈ A then ((x k * (Real.sqrt 128)⁻¹ : ℝ) : EReal) else ⊥) {m : EReal} (hm : IsMax A m) (k : κ) :
    (if k ∈ A then Ideal.div (Ideal.exp (s k - m)) (∑ j, Ideal.exp (s j - m)) else 0) = ((prob A x k : ℝ) : EReal) := by
  by_cases hk : k ∈ A
  · rcases hm with ⟨rfl, _⟩ | ⟨hA, μ, rfl⟩
    · simp at hk
    · have e : ∀ j, Ideal.exp (s j - (μ : EReal)) = ((if j ∈ A then wt (x j) * Real.exp (-μ) else 0 : ℝ) : EReal) := by
        intro j
        rw [hs]
        by_cases h : j ∈ A
        · rw [if_pos h, if_pos h, ← EReal.coe_sub, Ideal.exp_coe, sub_eq_add_neg, Real.exp_add]; rfl
        · rw [if_neg h, if_neg h]; simp [EReal.bot_sub]
      have h2 := sum_wt_pos hA x
      simp only [e, if_pos hk]
      rw [sum_coe]
      simp only [Finset.sum_ite_mem, Finset.univ_inter, ← Finset.sum_mul]
      rw [div_coe_pos _ (mul_pos h2 (Real.exp_pos _)), prob, if_pos hk]
      congr 1
      have := (Real.exp_pos (-μ)).ne'
      field_simp
  · rw [if_neg hk, prob, if_neg hk]; simp

/-- The weighted mean over keys listed by an injective map is the mean over the keys listed. -/
theorem attn_map {ι : Type} [Fintype ι] [DecidableEq ι] (φ : ι → κ) (hφ : Function.Injective φ) (A : Finset κ)
    (B : Finset ι) (hAB : A = B.image φ) (x v : κ → ℝ) : attn B (fun i => x (φ i)) (fun i => v (φ i)) = attn A x v := by
  subst hAB
  unfold attn
  rw [Finset.sum_image (fun a _ b _ h => hφ h), Finset.sum_image (fun a _ b _ h => hφ h)]

end Cert.Attn

end
-- ==== Proof.Rows.lean ====
/-
  Rows of the kernel's blocks: a block of 1024 rows is four heads of 256 queries, row `h * 256 + t` being head `h` of
  query `t`. The layout operations between the two shapes, the repeated lanes and the products with a column of ones,
  read at an index.
-/
module

public import Idealize.ShloMosaic.PureOps.Ideal.Laws
public import Idealize.ShloMosaic.Lib.IdealHost
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 16384

noncomputable section

namespace Cert.Rows

open Idealize.ShloMosaic Idealize.ShloMosaic.ValueIdx
open scoped BigOperators

variable {α : Type}

/-- Row of head `h` and query `t`. -/
def row (h : Fin 4) (t : Fin 256) : Fin 1024 := ⟨h.val * 256 + t.val, by omega⟩

/-- Head of a row. -/
def hd (r : Fin 1024) : Fin 4 := ⟨r.val / 256, by omega⟩

/-- Query of a row. -/
def qy (r : Fin 1024) : Fin 256 := ⟨r.val % 256, by omega⟩

/-- The row of a row's head and query. -/
theorem row_hd_qy (r : Fin 1024) : row (hd r) (qy r) = r := Fin.ext (by simp only [row, hd, qy]; omega)

/-- The head of a row of a head and a query. -/
theorem hd_row (h : Fin 4) (t : Fin 256) : hd (row h t) = h := Fin.ext (by simp only [row, hd]; omega)

/-- The query of a row of a head and a query. -/
theorem qy_row (h : Fin 4) (t : Fin 256) : qy (row h t) = t := Fin.ext (by simp only [row, qy]; omega)

/-- Rows split by head. -/
theorem split_apply {n : ℕ} (x : (⟨2, ![1024, n]⟩ : Shape).Idx → α)
    (hc : (⟨2, ![1024, n]⟩ : Shape).ShapeCasts ⟨3, ![4, 256, n]⟩) (h : Fin 4) (t : Fin 256) (k : Fin n) :
    shapeCast ⟨3, ![4, 256, n]⟩ x hc (ix3 h t k) = x (ix2 (row h t) k) :=
  shapeCast_apply x hc _ _ (by rw [Shape.rowMajor_val_three, Shape.rowMajor_val_two]; rfl)

/-- Rows joined again. -/
theorem join_apply {n : ℕ} (x : (⟨3, ![4, 256, n]⟩ : Shape).Idx → α)
    (hc : (⟨3, ![4, 256, n]⟩ : Shape).ShapeCasts ⟨2, ![1024, n]⟩) (r : Fin 1024) (k : Fin n) :
    shapeCast ⟨2, ![1024, n]⟩ x hc (ix2 r k) = x (ix3 (hd r) (qy r) k) :=
  shapeCast_apply x hc _ _ (by
    rw [Shape.rowMajor_val_three, Shape.rowMajor_val_two]
    show (r.val / 256 * 256 + r.val % 256) * n + k.val = r.val * n + k.val
    rw [Nat.div_add_mod'])

/-- One leading unit repeated. -/
theorem rep_lead_apply {m a b : ℕ} (x : (⟨3, ![1, a, b]⟩ : Shape).Idx → α)
    (hb : (⟨3, ![1, a, b]⟩ : Shape).Broadcasts ⟨3, ![m, a, b]⟩) (h : Fin m) (t : Fin a) (k : Fin b) :
    broadcastTo ⟨3, ![m, a, b]⟩ x hb (ix3 h t k) = x (ix3 0 t k) := by
  refine broadcastTo_apply x hb _ _ fun c => ?_
  match c with
  | ⟨0, _⟩ => rfl
  | ⟨1, _⟩ =>
    show t.val = if a = 1 then 0 else t.val
    split
    · omega
    · rfl
  | ⟨2, _⟩ =>
    show k.val = if b = 1 then 0 else k.val
    split
    · omega
    · rfl

/-- One leading unit and one last unit repeated. -/
theorem rep_both_apply {m a b : ℕ} (x : (⟨3, ![1, a, 1]⟩ : Shape).Idx → α)
    (hb : (⟨3, ![1, a, 1]⟩ : Shape).Broadcasts ⟨3, ![m, a, b]⟩) (h : Fin m) (t : Fin a) (k : Fin b) :
    broadcastTo ⟨3, ![m, a, b]⟩ x hb (ix3 h t k) = x (ix3 0 t 0) := by
  refine broadcastTo_apply x hb _ _ fun c => ?_
  match c with
  | ⟨0, _⟩ => rfl
  | ⟨1, _⟩ =>
    show t.val = if a = 1 then 0 else t.val
    split
    · omega
    · rfl
  | ⟨2, _⟩ => rfl

/-- A column repeated along the lanes. -/
theorem rep_lane_apply {a b : ℕ} (x : (⟨2, ![a, 1]⟩ : Shape).Idx → α)
    (hb : (⟨2, ![a, 1]⟩ : Shape).Broadcasts ⟨2, ![a, b]⟩) (t : Fin a) (k : Fin b) :
    broadcastTo ⟨2, ![a, b]⟩ x hb (ix2 t k) = x (ix2 t 0) := by
  refine broadcastTo_apply x hb _ _ fun c => ?_
  match c with
  | ⟨0, _⟩ =>
    show t.val = if a = 1 then 0 else t.val
    split
    · omega
    · rfl
  | ⟨1, _⟩ => rfl

/-- Copies of a block of 128 lanes side by side. -/
theorem tile_apply {n : ℕ} (N : ℕ) (x : (⟨2, ![1024, 128]⟩ : Shape).Idx → α)
    (hc : Shape.Concatenates ((List.replicate N (⟨⟨2, ![1024, 128]⟩, x⟩ : (s : Shape) × (s.Idx → α))).map (·.1)) ⟨2, ![1024, n]⟩ 1)
    (r : Fin 1024) (k : Fin n) :
    concatenate ⟨2, ![1024, n]⟩ 1 (List.replicate N (⟨⟨2, ![1024, 128]⟩, x⟩ : (s : Shape) × (s.Idx → α))) hc (ix2 r k)
      = x (ix2 r ⟨k.val % 128, Nat.mod_lt _ (by decide)⟩) :=
  concatenate_replicate_apply 1 N x hc rfl (ix2 r k) _ rfl fun b hb => by
    match b, hb with
    | ⟨0, _⟩, _ => rfl
    | ⟨1, _⟩, hb => exact absurd rfl hb

/-- The first of two blocks of 128 lanes. -/
theorem pair_left {a : ℕ} (x y : (⟨2, ![a, 128]⟩ : Shape).Idx → α)
    (hc : Shape.Concatenates [⟨2, ![a, 128]⟩, ⟨2, ![a, 128]⟩] ⟨2, ![a, 256]⟩ 1) (r : Fin a) (k : Fin 128) :
    concatenate ⟨2, ![a, 256]⟩ 1 [⟨⟨2, ![a, 128]⟩, x⟩, ⟨⟨2, ![a, 128]⟩, y⟩] hc (ix2 r ⟨k.val, by omega⟩) = x (ix2 r k) :=
  concatenate_pair_apply_left 1 x y hc _ rfl _ fun b => by
    match b with
    | ⟨0, _⟩ => rfl
    | ⟨1, _⟩ => rfl

/-- The second of two blocks of 128 lanes. -/
theorem pair_right {a : ℕ} (x y : (⟨2, ![a, 128]⟩ : Shape).Idx → α)
    (hc : Shape.Concatenates [⟨2, ![a, 128]⟩, ⟨2, ![a, 128]⟩] ⟨2, ![a, 256]⟩ 1) (r : Fin a) (k : Fin 128) :
    concatenate ⟨2, ![a, 256]⟩ 1 [⟨⟨2, ![a, 128]⟩, x⟩, ⟨⟨2, ![a, 128]⟩, y⟩] hc (ix2 r ⟨128 + k.val, by omega⟩) = y (ix2 r k) :=
  concatenate_pair_apply_right 1 x y hc _ rfl rfl _ (fun b hb => by
    match b, hb with
    | ⟨0, _⟩, _ => rfl
    | ⟨1, _⟩, hb => exact absurd rfl hb) (by show k.val + 128 = 128 + k.val; omega)

/-- A row's maximum along the lanes, from minus infinity. -/
theorem rowMax_apply {a n : ℕ} (x : FVec Ideal ⟨2, ![a, n]⟩ .f32) (hr : (⟨2, ![a, n]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ x 0xFF800000#32 hr hφ hacc (ix1 r)
      = Finset.univ.sup fun k : Fin n => x (ix2 r k) := by
  rw [Ideal.multiReduction_maximumf_single, Finset.sup_def]
  have hb : FloatOps.ofBits (F := Ideal) .f32 0xFF800000#32 = (⊥ : EReal) := by
    show Ideal.ofBits .f32 0xFF800000#32 = ⊥
    simp [Ideal.ofBits, Ideal.ieee]
  rw [hb]
  have hl : ∀ k : Fin n, hr.lift (ix1 r) k = ix2 r k := fun k => by
    funext c
    match c with
    | ⟨0, _⟩ => rfl
    | ⟨1, _⟩ => rfl
  show Multiset.fold max ⊥ (Multiset.map _ _) = _
  rw [show ((fun k : Fin n => x (ix2 r k)) = x ∘ hr.lift (ix1 r)) from funext fun k => congrArg x (hl k).symm]
  rfl

/-- A sum over the first of three axes. -/
theorem headSum_apply {m a b : ℕ} (x : FVec Ideal ⟨3, ![m, a, b]⟩ .f32)
    (hr : (⟨3, ![m, a, b]⟩ : Shape).Reduces [0] ⟨2, ![a, b]⟩) (hφ : FKind.Formats .f32)
    (hacc : (0x00000000#32 : BitVec 32) = FKind.add.neutral .f32 hφ) (t : Fin a) (k : Fin b) :
    multiReduction .add [0] ⟨2, ![a, b]⟩ x 0x00000000#32 hr hφ hacc (ix2 t k) = ∑ h : Fin m, x (ix3 h t k) := by
  rw [Ideal.multiReduction_add_single]
  refine Finset.sum_congr rfl fun h _ => congrArg x ?_
  funext c
  match c with
  | ⟨0, _⟩ => rfl
  | ⟨1, _⟩ => rfl
  | ⟨2, _⟩ => rfl

/-- A product of rows with rows, from a zero accumulator. -/
theorem mm_nt {M K N : ℕ} {φ₁ φ₂ : FTy} (d : DotDims ⟨2, ![M, K]⟩ ⟨2, ![N, K]⟩ ⟨2, ![M, N]⟩)
    (hd : d = DotDims.transposedRhs M K N) (prec : Option ContractPrecision)
    (x : FVec Ideal ⟨2, ![M, K]⟩ φ₁) (y : FVec Ideal ⟨2, ![N, K]⟩ φ₂) (r : Fin M) (c : Fin N) :
    matmul d prec x y (constant ⟨2, ![M, N]⟩ .f32 0x00000000#32) (ix2 r c) = ∑ k : Fin K, x (ix2 r k) * y (ix2 c k) := by
  subst hd
  show FloatOps.matmul _ _ _ _ _ _ = _
  rw [Ideal.matmul_transposedRhs_apply]
  show Ideal.ofBits .f32 0x00000000#32 + _ = _
  rw [Ideal.ofBits_zero_f32, zero_add]

/-- A product of rows with columns, from a zero accumulator. -/
theorem mm_nn {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (y : FVec Ideal ⟨2, ![K, N]⟩ φ₂) (r : Fin M) (c : Fin N) :
    matmul d prec x y (constant ⟨2, ![M, N]⟩ .f32 0x00000000#32) (ix2 r c) = ∑ k : Fin K, x (ix2 r k) * y (ix2 k c) := by
  subst hd
  show FloatOps.matmul _ _ _ _ _ _ = _
  rw [Ideal.matmul_plain_apply]
  show Ideal.ofBits .f32 0x00000000#32 + _ = _
  rw [Ideal.ofBits_zero_f32, zero_add]

/-- A bias per query and lane added to every head's rows. -/
theorem biased_apply {n : ℕ} (x : FVec Ideal ⟨2, ![1024, n]⟩ .f32) (b : FVec Ideal ⟨2, ![256, n]⟩ .f32)
    (h1 : (⟨2, ![1024, n]⟩ : Shape).ShapeCasts ⟨3, ![4, 256, n]⟩) (h2 : (⟨2, ![256, n]⟩ : Shape).ShapeCasts ⟨3, ![1, 256, n]⟩)
    (h3 : (⟨3, ![1, 256, n]⟩ : Shape).Broadcasts ⟨3, ![4, 256, n]⟩) (h4 : (⟨3, ![4, 256, n]⟩ : Shape).ShapeCasts ⟨2, ![1024, n]⟩)
    (r : Fin 1024) (k : Fin n) :
    shapeCast ⟨2, ![1024, n]⟩ (addf (shapeCast ⟨3, ![4, 256, n]⟩ x h1) (broadcastTo ⟨3, ![4, 256, n]⟩ (shapeCast ⟨3, ![1, 256, n]⟩ b h2) h3)) h4 (ix2 r k)
      = x (ix2 r k) + b (ix2 (qy r) k) := by
  rw [join_apply, addf_apply, split_apply, rep_lead_apply, shapeCast_ab_1ab_apply, row_hd_qy]

/-- A row's maximum repeated along 128 lanes. -/
theorem maxLane_apply {n : ℕ} (x : FVec Ideal ⟨2, ![1024, n]⟩ .f32) (hr : (⟨2, ![1024, n]⟩ : Shape).Reduces [1] ⟨1, ![1024]⟩)
    (hφ : FKind.Formats .f32) (hacc : (0xFF800000#32 : BitVec 32) = FKind.maximumf.neutral .f32 hφ)
    (h1 : (⟨1, ![1024]⟩ : Shape).ShapeCasts ⟨2, ![1024, 1]⟩) (h2 : (⟨2, ![1024, 1]⟩ : Shape).ShapeCasts ⟨2, ![1024, 1]⟩)
    (h3 : (⟨2, ![1024, 1]⟩ : Shape).Broadcasts ⟨2, ![1024, 128]⟩) (r : Fin 1024) (l : Fin 128) :
    broadcastTo ⟨2, ![1024, 128]⟩ (shapeCast ⟨2, ![1024, 1]⟩ (shapeCast ⟨2, ![1024, 1]⟩
        (multiReduction .maximumf [1] ⟨1, ![1024]⟩ x 0xFF800000#32 hr hφ hacc) h1) h2) h3 (ix2 r l)
      = Finset.univ.sup fun k : Fin n => x (ix2 r k) := by
  rw [rep_lane_apply, shapeCast_self, shapeCast_a_a1_apply, rowMax_apply]

end Cert.Rows

end
-- ==== Proof.Comp.lean ====
/-
  The compressed branch and the window branch of one grid point of the attention kernel, read at a row: masked scores in
  base 2 less their maximum, their exponentials, the sums against the values and against ones, and the quotient.
-/
module

public import proofs.«01_k».proof.Proof.Gen.KernelIdeal.Skeleton
public import proofs.«01_k».proof.Proof.Attn
public import proofs.«01_k».proof.Proof.Rows
public import Idealize.ShloMosaic.Lib.WordCmp
public import Idealize.ShloMosaic.Lib.WordArith
public import Idealize.ShloMosaic.PureOps.IdealRules

@[expose] public section

set_option maxRecDepth 16384

noncomputable section

namespace Cert.Branch

open Idealize.ShloMosaic Idealize.ShloMosaic.ValueIdx Idealize.ShloMosaic.WordCmp Idealize.ShloMosaic.WordArith
open Cert.KernelIdeal Cert.KernelIdeal.Gen Cert.Attn Cert.Rows
open scoped BigOperators

/-- Selects of equal parts are equal. -/
theorem select_congr {α : Type} {c c' : BitVec 1} {a a' b b' : α} (hc : c = c') (ha : a = a') (hb : b = b') :
    Scalar.select c a b = Scalar.select c' a' b' := by rw [hc, ha, hb]

/-- A choice by a decided proposition. -/
theorem select_ofBool {α : Type} (p : Prop) [Decidable p] (a b : α) :
    Scalar.select (BitVec.ofBool (decide p)) a b = if p then a else b := by
  unfold Scalar.select
  by_cases h : p <;> simp [h]

/-- The named mask is minus infinity. -/
theorem mask_eq : Named.named (F := Ideal) Cert.KernelIdeal.κ "mask" (φ := .f32) 0xF149F2CA#32 = (⊥ : EReal) :=
  IdealRules.named_const.ideal_named_scalar _ _ _ _ rfl

/-- The named scale is the base-2 scale. -/
theorem scale_eq : Named.named (F := Ideal) Cert.KernelIdeal.κ "scale_log2e" (φ := .f32) 0x3E0293EE#32 = ((c2 : ℝ) : EReal) :=
  IdealRules.named_const.ideal_named_scalar _ _ _ _ rfl

/-- The base-2 scale is positive. -/
theorem c2_pos : 0 < c2 := by
  unfold c2
  have := Real.log_pos (show (1 : ℝ) < 2 by norm_num)
  positivity

/-- A real score, scaled, with a bias of zero or minus infinity. -/
theorem scale_add_bias {κ : Type} (A : Finset κ) [DecidableEq κ] (x : κ → ℝ) (k : κ) (p : Prop) [Decidable p] (hp : p ↔ k ∈ A) :
    ((x k : ℝ) : EReal) * ((c2 : ℝ) : EReal) + (if p then (0 : EReal) else ⊥) = sc A x k := by
  unfold sc
  by_cases h : k ∈ A
  · rw [if_pos (hp.2 h), if_pos h, add_zero, EReal.coe_mul]
  · rw [if_neg (fun h' => h (hp.1 h')), if_neg h, EReal.add_bot]

/-- The raw score of a query row and a key: their product over the lanes. -/
def raw {n : ℕ} (q : Fin 128 → ℝ) (K : Fin n → Fin 128 → ℝ) (k : Fin n) : ℝ := ∑ l, q l * K k l

/-- Compressed keys whose window of 32 positions ends at or before position `T`. -/
def seen (T : ℕ) : Finset (Fin 256) := Finset.univ.filter fun n => n.val * 16 + 31 ≤ T

/-- The maximum of a set's masked scores over all keys. -/
def top {n : ℕ} (A : Finset (Fin n)) (x : Fin n → ℝ) : EReal := Finset.univ.sup (sc A x)

/-- The maximum is one of a set's. -/
theorem isMax_top {n : ℕ} (A : Finset (Fin n)) (x : Fin n → ℝ) : IsMax A (top A x) :=
  isMax_sup A fun k => x k * c2

section Compressed

variable (T : Fin 256 → ℕ) (hT : ∀ t, T t < 4096) (v3 : IVec S256x1 32) (hv3 : ∀ t : Fin 256, v3 (ix2 t 0) = BitVec.ofNat 32 (T t))
  (v101 : IVec S256x256 32) (h101 : ∀ t n : Fin 256, v101 (ix2 t n) = BitVec.ofNat 32 n.val)
  (q : Vec Ideal S1024x128 .bf16) (Q : Fin 1024 → Fin 128 → ℝ) (hq : ∀ r l, q (ix2 r l) = ((Q r l : ℝ) : EReal))
  (kc : Vec Ideal S256x128 .bf16) (KC : Fin 256 → Fin 128 → ℝ) (hk : ∀ n l, kc (ix2 n l) = ((KC n l : ℝ) : EReal))
  (vc : Vec Ideal S256x128 .bf16) (VC : Fin 256 → Fin 128 → ℝ) (hv : ∀ n l, vc (ix2 n l) = ((VC n l : ℝ) : EReal))

include hT hv3 h101 hq hk in
/-- The compressed branch's exponentials at a row and a key. -/
theorem pay29_apply (r : Fin 1024) (n : Fin 256) :
    k0_pay29 (F := Ideal) v3 v101 16#32 q kc (ix2 r n)
      = Ideal.exp2 (sc (seen (T (qy r))) (raw (Q r) KC) n - top (seen (T (qy r))) (raw (Q r) KC)) := by
  have hs : ∀ (t n : Fin 256), Scalar.select (IntOp.cmpi .sle (IntOp.addi (IntOp.muli (BitVec.ofNat 32 n.val) 16#32) 31#32)
      (BitVec.ofNat 32 (T t))) (0 : EReal) ⊥ = if n.val * 16 + 31 ≤ T t then (0 : EReal) else ⊥ := fun t n => by
    have e : IntOp.addi (IntOp.muli (BitVec.ofNat 32 n.val) 16#32) 31#32 = BitVec.ofNat 32 (n.val * 16 + 31) := by
      show BitVec.ofNat 32 n.val * BitVec.ofNat 32 16 + BitVec.ofNat 32 31 = _
      rw [← BitVec.ofNat_mul, ← BitVec.ofNat_add]
    rw [e, cmpi_sle_ofNat (by have := n.isLt; omega) (by have := hT t; omega), select_ofBool]
  have hsc : ∀ (r : Fin 1024) (n : Fin 256),
      (∑ l : Fin 128, q (ix2 r l) * kc (ix2 n l)) * Named.named (F := Ideal) Cert.KernelIdeal.κ "scale_log2e" (φ := .f32) 0x3E0293EE#32
        + Scalar.select (IntOp.cmpi .sle (IntOp.addi (IntOp.muli (v101 (ix2 (qy r) n)) 16#32) 31#32) (v3 (ix2 (qy r) 0)))
            (Ideal.ofBits .f32 0x00000000#32) (Named.named (F := Ideal) Cert.KernelIdeal.κ "mask" (φ := .f32) 0xF149F2CA#32)
      = sc (seen (T (qy r))) (raw (Q r) KC) n := fun r n => by
    rw [h101, hv3, Ideal.ofBits_zero_f32, mask_eq, scale_eq, hs]
    simp only [hq, hk]
    rw [sum_coe_mul]
    exact scale_add_bias (seen (T (qy r))) (raw (Q r) KC) n (n.val * 16 + 31 ≤ T (qy r)) (by simp [seen])
  have hrow : ∀ (t n : Fin 256), broadcastTo S256x256 v3 broadcasts_S256x1_S256x256 (ix2 t n) = v3 (ix2 t 0) :=
    fun t n => rep_lane_apply v3 _ t n
  unfold k0_pay29
  show Ideal.exp2 (_ - _) = _
  refine congrArg₂ (fun a b => Ideal.exp2 (a - b)) ?_ ?_
  · refine (biased_apply _ _ _ _ _ _ r n).trans (Eq.trans ?_ (hsc r n))
    exact congrArg₂ (· + ·) (congrArg (· * _) (mm_nt (M := 1024) (K := 128) (N := 256) _ rfl _ _ _ r n))
      (congrArg (fun z => Scalar.select (IntOp.cmpi .sle _ z) _ _) (hrow (qy r) n))
  · refine (tile_apply 2 _ _ r n).trans ((maxLane_apply _ _ _ _ _ _ _ r _).trans ?_)
    refine Finset.sup_congr rfl fun k _ => (biased_apply _ _ _ _ _ _ r k).trans (Eq.trans ?_ (hsc r k))
    exact congrArg₂ (· + ·) (congrArg (· * _) (mm_nt (M := 1024) (K := 128) (N := 256) _ rfl _ _ _ r k))
      (congrArg (fun z => Scalar.select (IntOp.cmpi .sle _ z) _ _) (hrow (qy r) k))

include hT hv3 h101 hq hk hv in
/-- The compressed branch's sums against the values. -/
theorem pay30_num (r : Fin 1024) (d : Fin 128) :
    k0_pay30 (F := Ideal) v3 v101 16#32 q kc vc (ix2 r ⟨d.val, by omega⟩)
      = ((gam (top (seen (T (qy r))) (raw (Q r) KC)) * ∑ n ∈ seen (T (qy r)), wt (raw (Q r) KC n) * VC n d : ℝ) : EReal) := by
  unfold k0_pay30
  refine (mm_nn (M := 1024) (K := 256) (N := 256) dot_S1024x256_S256x256_S1024x256_1_0_0_1_n_n rfl none _ _ r _).trans ?_
  rw [← sum_exp2 subset_rfl (isMax_top _ _)]
  refine Finset.sum_congr rfl fun n _ => congrArg₂ (· * ·) (pay29_apply T hT v3 hv3 v101 h101 q Q hq kc KC hk r n) ?_
  exact (pair_left (a := 256) _ _ _ n d).trans (hv n d)

include hT hv3 h101 hq hk in
/-- The compressed branch's sums against ones. -/
theorem pay30_den (r : Fin 1024) (d : Fin 128) :
    k0_pay30 (F := Ideal) v3 v101 16#32 q kc vc (ix2 r ⟨128 + d.val, by omega⟩)
      = ((gam (top (seen (T (qy r))) (raw (Q r) KC)) * ∑ n ∈ seen (T (qy r)), wt (raw (Q r) KC n) * 1 : ℝ) : EReal) := by
  unfold k0_pay30
  refine (mm_nn (M := 1024) (K := 256) (N := 256) dot_S1024x256_S256x256_S1024x256_1_0_0_1_n_n rfl none _ _ r _).trans ?_
  rw [← sum_exp2 subset_rfl (isMax_top _ _)]
  refine Finset.sum_congr rfl fun n _ => congrArg₂ (· * ·) (pay29_apply T hT v3 hv3 v101 h101 q Q hq kc KC hk r n) ?_
  exact (pair_right (a := 256) _ _ _ n d).trans Ideal.ofBits_one_bf16

include hT hv3 h101 hq hk in
/-- The compressed branch's reciprocal sums: zero for a query that sees no compressed key. -/
theorem pay31_apply (r : Fin 1024) (d : Fin 128) :
    k0_pay31 (F := Ideal) v3 v101 16#32 q kc vc (ix2 r d)
      = if 31 ≤ T (qy r) then
          Ideal.div 1 ((gam (top (seen (T (qy r))) (raw (Q r) KC)) * ∑ n ∈ seen (T (qy r)), wt (raw (Q r) KC n) * 1 : ℝ) : EReal)
        else 0 := by
  have hvalid : ∀ t : Fin 256, IntOp.cmpi .sge (v3 (ix2 t 0)) 31#32 = BitVec.ofBool (decide (31 ≤ T t)) := fun t => by
    rw [hv3]; exact cmpi_sge_ofNat (by have := hT t; omega) (by omega)
  unfold k0_pay31
  refine (join_apply _ _ r d).trans ?_
  rw [← select_ofBool, ← hvalid (qy r)]
  show Scalar.select _ _ _ = _
  refine select_congr ?_ ?_ ?_
  · refine (rep_both_apply _ _ _ _ _).trans ?_
    rw [shapeCast_self]
    exact shapeCast_ab_1ab_apply _ _ _ _ _
  · refine (split_apply _ _ _ _ _).trans ?_
    rw [row_hd_qy]
    refine congrArg₂ Ideal.div Ideal.ofBits_one_f32 ?_
    refine Eq.trans ?_ (pay30_den T hT v3 hv3 v101 h101 q Q hq kc KC hk vc r d)
    exact slice2_axis1_apply 128 _ _ _ _ _ rfl
  · exact Ideal.ofBits_zero_f32

/-- No compressed key is seen from a position before the first window's end. -/
theorem seen_empty {t : ℕ} (h : ¬ 31 ≤ t) : seen t = ∅ := by
  ext n; simp only [seen, Finset.mem_filter, Finset.mem_univ, true_and, Finset.notMem_empty, iff_false]; omega

/-- A compressed key is seen from any later position. -/
theorem seen_nonempty {t : ℕ} (h : 31 ≤ t) : (seen t).Nonempty := ⟨0, by simp [seen, h]⟩

include hT hv3 h101 hq hk hv in
/-- The compressed branch's output: the weighted mean of the compressed values. -/
theorem pay32_apply (r : Fin 1024) (d : Fin 128) :
    k0_pay32 (F := Ideal) (k0_pay30 v3 v101 16#32 q kc vc) (k0_pay31 v3 v101 16#32 q kc vc) (ix2 r d)
      = ((attn (seen (T (qy r))) (raw (Q r) KC) (fun n => VC n d) : ℝ) : EReal) := by
  unfold k0_pay32
  rw [shapeCast_self]
  refine (congrArg₂ (· * ·) ((slice2_axis1_apply 0 _ _ _ _ ⟨d.val, by omega⟩ (by simp)).trans
    (pay30_num T hT v3 hv3 v101 h101 q Q hq kc KC hk vc VC hv r d)) (pay31_apply T hT v3 hv3 v101 h101 q Q hq kc KC hk vc r d)).trans ?_
  by_cases h : 31 ≤ T (qy r)
  · simp only [if_pos h]
    exact sum_mul_inv _ _ _ _
  · simp only [if_neg h, seen_empty h, attn]
    simp

include hT hv3 h101 hq hk in
/-- The compressed branch's weights, normalised. -/
theorem pay29_mul_pay31 (r : Fin 1024) (n : Fin 256) (d : Fin 128) :
    k0_pay29 (F := Ideal) v3 v101 16#32 q kc (ix2 r n) * k0_pay31 (F := Ideal) v3 v101 16#32 q kc vc (ix2 r d)
      = ((prob (seen (T (qy r))) (raw (Q r) KC) n : ℝ) : EReal) := by
  rw [pay29_apply T hT v3 hv3 v101 h101 q Q hq kc KC hk, pay31_apply T hT v3 hv3 v101 h101 q Q hq kc KC hk]
  by_cases h : 31 ≤ T (qy r)
  · rw [if_pos h]
    exact exp2_mul_inv (seen_nonempty h) (isMax_top _ _) _ _
  · rw [if_neg h, seen_empty h]
    simp [prob]

include hT hv3 h101 hq hk in
/-- The importance of a selection block for a query: the overlaps against the weights summed over the heads. -/
theorem pay36_apply (ov : Vec Ideal S64x256 .f32) (OV : Fin 64 → Fin 256 → ℝ) (ho : ∀ j n, ov (ix2 j n) = ((OV j n : ℝ) : EReal))
    (j : Fin 64) (t : Fin 256) :
    k0_pay36 (F := Ideal) (k0_pay29 v3 v101 16#32 q kc) (k0_pay31 v3 v101 16#32 q kc vc) ov (ix2 j t)
      = ((∑ n, OV j n * ∑ h, prob (seen (T t)) (raw (Q (row h t)) KC) n : ℝ) : EReal) := by
  unfold k0_pay36
  refine (mm_nt (M := 64) (K := 256) (N := 256) dot_S64x256_S256x256_S64x256_1_1_0_0_n_n rfl none _ _ j t).trans ?_
  rw [← sum_coe_mul]
  refine Finset.sum_congr rfl fun n _ => congrArg₂ (· * ·) ?_ ?_
  · rw [shapeCast_self]; exact ho j n
  · refine (headSum_apply _ _ _ _ t n).trans ?_
    rw [← sum_coe]
    refine Finset.sum_congr rfl fun h _ => (split_apply _ _ h t n).trans ?_
    have := pay29_mul_pay31 T hT v3 hv3 v101 h101 q Q hq kc KC hk vc (row h t) n ⟨n.val % 128, Nat.mod_lt _ (by decide)⟩
    rw [qy_row] at this
    exact (congrArg (_ * ·) (tile_apply 2 _ _ (row h t) n)).trans this

end Compressed

end Cert.Branch

end
-- ==== Proof.Step.lean ====
/-
  One chunk of the attention over the selected keys, read at a row: the running maximum, the rescaling factor and the
  exponentials it leaves, and the two sums carried with a lag of one chunk (the exponentials of a chunk meet its values
  while the next chunk's scores are taken).
-/
module

public import proofs.«01_k».proof.Proof.Comp

@[expose] public section

set_option maxRecDepth 16384

noncomputable section

namespace Cert.Branch

open Idealize.ShloMosaic Idealize.ShloMosaic.ValueIdx Idealize.ShloMosaic.WordCmp Idealize.ShloMosaic.WordArith
open Cert.KernelIdeal Cert.KernelIdeal.Gen Cert.Attn Cert.Rows
open scoped BigOperators

/-- The values of a key over the 256 lanes carried: the value's 128 lanes, then ones. -/
def ext (V : Fin 4096 → Fin 128 → ℝ) (k : Fin 4096) (c : Fin 256) : ℝ := if h : c.val < 128 then V k ⟨c.val, h⟩ else 1

/-- Key `j` of the chunk that starts at `o`. -/
def key (o : ℕ) (ho : o + 512 ≤ 4096) (j : Fin 512) : Fin 4096 := ⟨o + j.val, by omega⟩

/-- The keys of `S` before position `o`. -/
def before (S : Finset (Fin 4096)) (o : ℕ) : Finset (Fin 4096) := S.filter fun k => k.val < o

theorem key_injective (o : ℕ) (ho : o + 512 ≤ 4096) : Function.Injective (key o ho) := fun a b h => by
  have := congrArg Fin.val h; simp only [key] at this; exact Fin.ext (by omega)

/-- The keys before the end of a chunk: those before its start and those in it. -/
theorem before_add (S : Finset (Fin 4096)) (o : ℕ) (ho : o + 512 ≤ 4096) :
    before S (o + 512) = before S o ∪ (Finset.univ.filter fun j => key o ho j ∈ S).map ⟨key o ho, key_injective o ho⟩ := by
  ext k
  simp only [before, Finset.mem_filter, Finset.mem_union, Finset.mem_map, Finset.mem_univ, true_and, Function.Embedding.coeFn_mk]
  constructor
  · rintro ⟨h, hk⟩
    by_cases h' : k.val < o
    · exact .inl ⟨h, h'⟩
    · refine .inr ⟨⟨k.val - o, by omega⟩, ?_, ?_⟩
      · have : key o ho ⟨k.val - o, by omega⟩ = k := Fin.ext (by simp only [key]; omega)
        rwa [this]
      · exact Fin.ext (by simp only [key]; omega)
  · rintro (⟨h, hk⟩ | ⟨j, hj, rfl⟩)
    · exact ⟨h, by omega⟩
    · exact ⟨hj, by simp only [key]; omega⟩

/-- A sum over the keys before the end of a chunk, by the chunk. -/
theorem sum_before_add (S : Finset (Fin 4096)) (o : ℕ) (ho : o + 512 ≤ 4096) (f : Fin 4096 → ℝ) :
    ∑ k ∈ before S (o + 512), f k = ∑ k ∈ before S o, f k + ∑ j, if key o ho j ∈ S then f (key o ho j) else 0 := by
  rw [before_add S o ho, Finset.sum_union, Finset.sum_map, Finset.sum_filter]
  · rfl
  · rw [Finset.disjoint_left]
    intro k hk hk'
    obtain ⟨j, _, rfl⟩ := Finset.mem_map.1 hk'
    have := (Finset.mem_filter.1 hk).2
    simp only [Function.Embedding.coeFn_mk, key] at this
    omega

/-- The maximum over the keys before the end of a chunk. -/
theorem isMax_before_add (S : Finset (Fin 4096)) (x : Fin 4096 → ℝ) (o : ℕ) (ho : o + 512 ≤ 4096) {m : EReal} (hm : IsMax (before S o) m) :
    IsMax (before S (o + 512)) (max m (Finset.univ.sup fun j => sc S x (key o ho j))) := by
  rw [before_add S o ho]
  refine hm.max ?_
  have h := isMax_sup (Finset.univ.filter fun j => key o ho j ∈ S) fun j => x (key o ho j) * c2
  have e : (Finset.univ.sup fun j => sc S x (key o ho j))
      = Finset.univ.sup fun j => if j ∈ (Finset.univ.filter fun j => key o ho j ∈ S) then ((x (key o ho j) * c2 : ℝ) : EReal) else ⊥ :=
    Finset.sup_congr rfl fun j _ => by simp [sc]
  rw [e]
  rcases h with ⟨h0, hs⟩ | ⟨h1, hs⟩
  · exact .inl ⟨by rw [h0]; rfl, hs⟩
  · exact .inr ⟨h1.map, hs⟩

/-- The two sums carried, with the new chunk's exponentials against its values added: `α · acc + p · [v, 1]`. -/
def fold (α : FVec Ideal S1024x128 .f32) (acc : FVec Ideal S1024x256 .f32) (p : FVec Ideal S1024x512 .bf16) (v : FVec Ideal S512x128 .bf16) :
    FVec Ideal S1024x256 .f32 := k0_pay126 (F := Ideal) α acc p v

/-- Read at a row and a lane. -/
theorem fold_apply (α : FVec Ideal S1024x128 .f32) (acc : FVec Ideal S1024x256 .f32) (p : FVec Ideal S1024x512 .bf16) (v : FVec Ideal S512x128 .bf16)
    (W : Fin 512 → Fin 4096) (V : Fin 4096 → Fin 128 → ℝ) (hv : ∀ j d, v (ix2 j d) = ((V (W j) d : ℝ) : EReal)) (r : Fin 1024) (c : Fin 256) :
    fold α acc p v (ix2 r c) = α (ix2 r ⟨c.val % 128, Nat.mod_lt _ (by decide)⟩) * acc (ix2 r c) + ∑ j, p (ix2 r j) * ((ext V (W j) c : ℝ) : EReal) := by
  unfold fold k0_pay126
  refine congrArg₂ (· + ·) (congrArg (· * _) (tile_apply 2 α _ r c)) ?_
  refine (mm_nn (M := 1024) (K := 512) (N := 256) dot_S1024x512_S512x256_S1024x256_1_0_0_1_n_n rfl none _ _ r c).trans ?_
  refine Finset.sum_congr rfl fun j _ => congrArg (_ * ·) ?_
  unfold ext
  by_cases h : c.val < 128
  · rw [dif_pos h]
    exact (pair_left (a := 512) _ _ _ j ⟨c.val, h⟩).trans (hv j _)
  · rw [dif_neg h]
    have e : c = ⟨128 + (⟨c.val - 128, by omega⟩ : Fin 128).val, by show 128 + (c.val - 128) < 256; omega⟩ := Fin.ext (by show c.val = 128 + (c.val - 128); omega)
    rw [e]
    exact (pair_right (a := 512) _ _ _ j _).trans Ideal.ofBits_one_bf16

/-- What the loop leaves after the keys before `o`, the exponentials held being of the keys `W j`: a maximum per row, on
every lane, and the two sums relative to it once the held exponentials are added. -/
structure Inv (S : Fin 1024 → Finset (Fin 4096)) (x : Fin 1024 → Fin 4096 → ℝ) (V : Fin 4096 → Fin 128 → ℝ) (o : ℕ) (W : Fin 512 → Fin 4096)
    (m α : FVec Ideal S1024x128 .f32) (acc : FVec Ideal S1024x256 .f32) (p : FVec Ideal S1024x512 .bf16) : Prop where
  /-- The lanes of a row of the maximum agree and are a maximum. -/
  top : ∀ r, ∃ μ : EReal, (∀ t, m (ix2 r t) = μ) ∧ IsMax (before (S r) o) μ
  /-- The sums. -/
  sum : ∀ r t c, α (ix2 r t) * acc (ix2 r c) + ∑ j, p (ix2 r j) * ((ext V (W j) c : ℝ) : EReal)
    = ((gam (m (ix2 r t)) * ∑ k ∈ before (S r) o, wt (x r k) * ext V k c : ℝ) : EReal)

variable {S : Fin 1024 → Finset (Fin 4096)} {x : Fin 1024 → Fin 4096 → ℝ} {V : Fin 4096 → Fin 128 → ℝ}

/-- Of equal states. -/
theorem Inv.congr {o : ℕ} {W : Fin 512 → Fin 4096} {m m' α α' : FVec Ideal S1024x128 .f32} {acc acc' : FVec Ideal S1024x256 .f32}
    {p p' : FVec Ideal S1024x512 .bf16} (h : Inv S x V o W m α acc p) (hm : m' = m) (hα : α' = α) (hacc : acc' = acc) (hp : p' = p) :
    Inv S x V o W m' α' acc' p' := by subst hm hα hacc hp; exact h

/-- At the start: no key, the maximum minus infinity, the factor one, the sums and the exponentials zero. -/
theorem Inv.start (W : Fin 512 → Fin 4096) : Inv S x V 0 W (k0_pay108 (F := Ideal)) k0_pay109 k0_pay110 k0_pay111 where
  top r := ⟨⊥, fun t => by unfold k0_pay108; rw [shapeCast_self]; exact mask_eq, .inl ⟨by simp [before], rfl⟩⟩
  sum r t c := by
    have h1 : (k0_pay110 (F := Ideal)) (ix2 r c) = 0 := by unfold k0_pay110; rw [shapeCast_self]; exact Ideal.ofBits_zero_f32
    have h2 : ∀ j, (k0_pay111 (F := Ideal)) (ix2 r j) = 0 := fun j => by
      unfold k0_pay111; rw [shapeCast_self]; show Ideal.ofBits .bf16 0x0000#16 = 0; simp [Ideal.ofBits, Ideal.ieee]
    rw [h1]
    simp only [h2]
    simp [before]

/-- One chunk. -/
theorem Inv.step {o : ℕ} (ho : o + 512 ≤ 4096) {W : Fin 512 → Fin 4096} {m α : FVec Ideal S1024x128 .f32} {acc : FVec Ideal S1024x256 .f32}
    {p : FVec Ideal S1024x512 .bf16} (h : Inv S x V o W m α acc p) (v : FVec Ideal S512x128 .bf16)
    (hv : ∀ j d, v (ix2 j d) = ((V (W j) d : ℝ) : EReal))
    (s : Fin 1024 → Fin 512 → EReal) (hs : ∀ r j, s r j = sc (S r) (x r) (key o ho j))
    (m' α' : FVec Ideal S1024x128 .f32) (acc' : FVec Ideal S1024x256 .f32) (p' : FVec Ideal S1024x512 .bf16)
    (hm' : ∀ r t, m' (ix2 r t) = max (m (ix2 r t)) (Finset.univ.sup (s r)))
    (hα' : ∀ r t, α' (ix2 r t) = Ideal.exp2 (m (ix2 r t) - m' (ix2 r t)))
    (hacc' : ∀ r c, acc' (ix2 r c) = fold α acc p v (ix2 r c))
    (hp' : ∀ r j, p' (ix2 r j) = Ideal.exp2 (s r j - m' (ix2 r ⟨j.val % 128, Nat.mod_lt _ (by decide)⟩))) :
    Inv S x V (o + 512) (key o ho) m' α' acc' p' := by
  have hsup : ∀ r, Finset.univ.sup (s r) = Finset.univ.sup fun j => sc (S r) (x r) (key o ho j) := fun r => Finset.sup_congr rfl fun j _ => hs r j
  have key0 : ∀ r, ∃ μ μ' : EReal, (∀ t, m (ix2 r t) = μ) ∧ (∀ t, m' (ix2 r t) = μ') ∧ IsMax (before (S r) o) μ ∧ IsMax (before (S r) (o + 512)) μ' := fun r => by
    obtain ⟨μ, h1, h2⟩ := h.top r
    exact ⟨μ, _, h1, fun t => by rw [hm', h1, hsup], h2, isMax_before_add (S r) (x r) o ho h2⟩
  refine ⟨fun r => ?_, fun r t c => ?_⟩
  · obtain ⟨μ, μ', _, h', _, h2⟩ := key0 r
    exact ⟨μ', h', h2⟩
  · obtain ⟨μ, μ', h1, h1', h2, h2'⟩ := key0 r
    have hsub : before (S r) o ⊆ before (S r) (o + 512) := fun k hk => by
      simp only [before, Finset.mem_filter] at hk ⊢; exact ⟨hk.1, by omega⟩
    have hmem : ∀ j, key o ho j ∈ before (S r) (o + 512) ↔ key o ho j ∈ S r := fun j => by
      simp only [before, Finset.mem_filter, key]; exact ⟨fun h => h.1, fun h => ⟨h, by omega⟩⟩
    rw [hα', h1, h1', hacc', fold_apply α acc p v W V hv, h.sum, h1, rescale hsub h2 h2']
    have e : ∀ j, p' (ix2 r j) * ((ext V (key o ho j) c : ℝ) : EReal)
        = (((if key o ho j ∈ S r then wt (x r (key o ho j)) * gam μ' else 0) * ext V (key o ho j) c : ℝ) : EReal) := fun j => by
      have e1 : sc (S r) (x r) (key o ho j) = sc (before (S r) (o + 512)) (x r) (key o ho j) := by
        unfold sc; exact if_congr (hmem j).symm rfl rfl
      rw [hp', hs, h1', e1, exp2_sc subset_rfl h2', ← EReal.coe_mul]
      congr 2
      exact if_congr (hmem j) rfl rfl
    simp only [e]
    rw [sum_coe, ← EReal.coe_add, sum_before_add (S r) o ho, mul_add, Finset.mul_sum (a := gam μ') (s := Finset.univ)]
    congr 2
    refine Finset.sum_congr rfl fun j _ => ?_
    split <;> ring

/-- At the end: the sums' quotient is the weighted mean. -/
theorem Inv.result {o : ℕ} {W : Fin 512 → Fin 4096} {m α : FVec Ideal S1024x128 .f32} {acc : FVec Ideal S1024x256 .f32}
    {p : FVec Ideal S1024x512 .bf16} (h : Inv S x V o W m α acc p) (v : FVec Ideal S512x128 .bf16)
    (hv : ∀ j d, v (ix2 j d) = ((V (W j) d : ℝ) : EReal)) (r : Fin 1024) (hS : before (S r) o = S r) (d : Fin 128) :
    fold α acc p v (ix2 r ⟨d.val, by omega⟩) * Ideal.div 1 (fold α acc p v (ix2 r ⟨128 + d.val, by omega⟩))
      = ((attn (S r) (x r) (fun k => V k d) : ℝ) : EReal) := by
  obtain ⟨μ, h1, _⟩ := h.top r
  rw [fold_apply α acc p v W V hv, fold_apply α acc p v W V hv, h.sum, h.sum, h1, h1, hS, ← sum_mul_inv (S r) μ (x r) fun k => V k d]
  have a1 : ∀ k, ext V k ⟨d.val, by omega⟩ = V k d := fun k => by unfold ext; rw [dif_pos d.isLt]
  have a2 : ∀ k, ext V k ⟨128 + d.val, by omega⟩ = 1 := fun k => by unfold ext; rw [dif_neg (by show ¬ (128 + d.val < 128); omega)]
  simp only [a1, a2]

end Cert.Branch

end
-- ==== Proof.Window.lean ====
/-
  The window branch of one grid point of the attention kernel, read at a row: the scores of the block of 768 keys that ends
  with the tile's last query, masked to the 512 keys up to the query, and their softmax against the values.
-/
module

public import proofs.«01_k».proof.Proof.Comp

@[expose] public section

set_option maxRecDepth 16384

noncomputable section

namespace Cert.Branch

open Idealize.ShloMosaic Idealize.ShloMosaic.ValueIdx Idealize.ShloMosaic.WordCmp Idealize.ShloMosaic.WordArith
open Cert.KernelIdeal Cert.KernelIdeal.Gen Cert.Attn Cert.Rows
open scoped BigOperators

/-- Keys of the window block that lie in a query's window: block position `k` is key `w + k`. -/
def near (w T : ℕ) : Finset (Fin 768) := Finset.univ.filter fun k => w + k.val ≤ T ∧ T < w + k.val + 512

/-- A small word read as an integer. -/
theorem toInt_small {a : ℕ} (ha : a < 2 ^ 20) : (BitVec.ofNat 32 a).toInt = (a : ℤ) := by
  rw [BitVec.toInt_eq_toNat_of_lt] <;> rw [BitVec.toNat_ofNat, Nat.mod_eq_of_lt (by omega)]
  omega

/-- A difference of two small words, as an integer. -/
theorem toInt_sub_small {a b : ℕ} (ha : a < 2 ^ 20) (hb : b < 2 ^ 20) :
    (BitVec.ofNat 32 a - BitVec.ofNat 32 b).toInt = (a : ℤ) - b := by
  rw [BitVec.toInt_sub, toInt_small ha, toInt_small hb, Int.bmod_def]
  split <;> omega

/-- A difference of two small words is nonnegative when the second is at most the first. -/
theorem sge_sub {a b : ℕ} (ha : a < 2 ^ 20) (hb : b < 2 ^ 20) :
    IntOp.cmpi .sge (IntOp.subi (BitVec.ofNat 32 a) (BitVec.ofNat 32 b)) 0#32 = BitVec.ofBool (decide (b ≤ a)) := by
  rw [cmpi_sge_eq]
  refine congrArg BitVec.ofBool (decide_eq_decide.2 ?_)
  rw [show IntOp.subi (BitVec.ofNat 32 a) (BitVec.ofNat 32 b) = BitVec.ofNat 32 a - BitVec.ofNat 32 b from rfl,
    toInt_sub_small ha hb, BitVec.toInt_zero]
  omega

/-- A difference of two small words is below 512 when the first is below the second plus 512. -/
theorem slt_sub {a b : ℕ} (ha : a < 2 ^ 20) (hb : b < 2 ^ 20) :
    IntOp.cmpi .slt (IntOp.subi (BitVec.ofNat 32 a) (BitVec.ofNat 32 b)) 512#32 = BitVec.ofBool (decide (a < b + 512)) := by
  rw [cmpi_slt_eq]
  refine congrArg BitVec.ofBool (decide_eq_decide.2 ?_)
  rw [show IntOp.subi (BitVec.ofNat 32 a) (BitVec.ofNat 32 b) = BitVec.ofNat 32 a - BitVec.ofNat 32 b from rfl,
    toInt_sub_small ha hb, show (512#32).toInt = 512 by decide]
  omega

/-- The window's first key: 512 before the tile's first query, or zero. -/
theorem maxsi_sub {a : ℕ} (ha : a < 2 ^ 20) :
    Scalar.maxsi (Scalar.subi (BitVec.ofNat 32 a) 512#32) 0#32 = BitVec.ofNat 32 (a - 512) := by
  have e : (BitVec.ofNat 32 a - 512#32).toInt = (a : ℤ) - 512 := toInt_sub_small (b := 512) ha (by norm_num)
  show IntOp.maxsi (BitVec.ofNat 32 a - 512#32) 0#32 = _
  unfold IntOp.maxsi
  rcases lt_or_ge 512 a with h | h
  · have h2 : BitVec.ofNat 32 a - 512#32 = BitVec.ofNat 32 (a - 512) := by
      apply BitVec.eq_of_toInt_eq
      rw [e, toInt_small (by omega)]; omega
    rw [if_pos]
    · exact h2
    · rw [BitVec.slt_iff_toInt_lt, e]; simp only [BitVec.toInt_zero]; omega
  · rw [show a - 512 = 0 by omega, if_neg]
    rw [BitVec.slt_iff_toInt_lt, e]; simp only [BitVec.toInt_zero]; omega

section Window

variable (t0 : ℕ) (ht0 : t0 < 4096)
  (T : Fin 256 → ℕ) (hT : ∀ t, T t < 4096) (v3 : IVec S256x1 32) (hv3 : ∀ t : Fin 256, v3 (ix2 t 0) = BitVec.ofNat 32 (T t))
  (q : Vec Ideal S1024x128 .bf16) (Q : Fin 1024 → Fin 128 → ℝ) (hq : ∀ r l, q (ix2 r l) = ((Q r l : ℝ) : EReal))
  (kw : Vec Ideal S768x128 .bf16) (KW : Fin 768 → Fin 128 → ℝ) (hk : ∀ n l, kw (ix2 n l) = ((KW n l : ℝ) : EReal))
  (vw : Vec Ideal S768x128 .bf16) (VW : Fin 768 → Fin 128 → ℝ) (hv : ∀ n l, vw (ix2 n l) = ((VW n l : ℝ) : EReal))

include ht0 hT hv3 hq hk in
/-- The window branch's exponentials at a row and a key of the block. -/
theorem pay33_apply (r : Fin 1024) (n : Fin 768) :
    k0_pay33 (F := Ideal) (BitVec.ofNat 32 t0) v3 q kw (ix2 r n)
      = Ideal.exp2 (sc (near (t0 - 512) (T (qy r))) (raw (Q r) KW) n - top (near (t0 - 512) (T (qy r))) (raw (Q r) KW)) := by
  have hs : ∀ (t : Fin 256) (n : Fin 768), Scalar.select
      (IntOp.andi (IntOp.cmpi .sge (IntOp.subi (BitVec.ofNat 32 (T t)) (IntOp.addi (Scalar.maxsi (Scalar.subi (BitVec.ofNat 32 t0) 512#32) 0#32) (BitVec.ofNat 32 n.val))) 0#32)
        (IntOp.cmpi .slt (IntOp.subi (BitVec.ofNat 32 (T t)) (IntOp.addi (Scalar.maxsi (Scalar.subi (BitVec.ofNat 32 t0) 512#32) 0#32) (BitVec.ofNat 32 n.val))) 512#32))
      (0 : EReal) ⊥ = if n ∈ near (t0 - 512) (T t) then (0 : EReal) else ⊥ := fun t n => by
    have hn := n.isLt
    have ht := hT t
    have e : IntOp.addi (Scalar.maxsi (Scalar.subi (BitVec.ofNat 32 t0) 512#32) 0#32) (BitVec.ofNat 32 n.val) = BitVec.ofNat 32 (t0 - 512 + n.val) := by
      rw [maxsi_sub (by omega)]
      show BitVec.ofNat 32 (t0 - 512) + BitVec.ofNat 32 n.val = _
      rw [← BitVec.ofNat_add]
    rw [e, sge_sub (by omega) (by omega), slt_sub (by omega) (by omega), WordArith.andi_ofBool, ← Bool.decide_and, select_ofBool]
    exact if_congr (by simp [near]) rfl rfl
  have hrow : ∀ (t : Fin 256) (n : Fin 768), broadcastTo S256x768 v3 broadcasts_S256x1_S256x768 (ix2 t n) = BitVec.ofNat 32 (T t) :=
    fun t n => (rep_lane_apply v3 _ t n).trans (hv3 t)
  have hio : ∀ (t : Fin 256) (n : Fin 768), iota .tc S256x768 32 [1] iota_S256x768_d1_w32 (ix2 t n) = BitVec.ofNat 32 n.val :=
    fun t n => iota_single_apply _ _ _ _ _ _
  have hsc : ∀ (r : Fin 1024) (n : Fin 768),
      (∑ l : Fin 128, q (ix2 r l) * kw (ix2 n l)) * Named.named (F := Ideal) Cert.KernelIdeal.κ "scale_log2e" (φ := .f32) 0x3E0293EE#32
        + Scalar.select (IntOp.andi
            (IntOp.cmpi .sge (IntOp.subi (broadcastTo S256x768 v3 broadcasts_S256x1_S256x768 (ix2 (qy r) n)) (IntOp.addi (Scalar.maxsi (Scalar.subi (BitVec.ofNat 32 t0) 512#32) 0#32) (iota .tc S256x768 32 [1] iota_S256x768_d1_w32 (ix2 (qy r) n)))) 0#32)
            (IntOp.cmpi .slt (IntOp.subi (broadcastTo S256x768 v3 broadcasts_S256x1_S256x768 (ix2 (qy r) n)) (IntOp.addi (Scalar.maxsi (Scalar.subi (BitVec.ofNat 32 t0) 512#32) 0#32) (iota .tc S256x768 32 [1] iota_S256x768_d1_w32 (ix2 (qy r) n)))) 512#32))
            (Ideal.ofBits .f32 0x00000000#32) (Named.named (F := Ideal) Cert.KernelIdeal.κ "mask" (φ := .f32) 0xF149F2CA#32)
      = sc (near (t0 - 512) (T (qy r))) (raw (Q r) KW) n := fun r n => by
    rw [hrow, hio, Ideal.ofBits_zero_f32, mask_eq, scale_eq, hs]
    simp only [hq, hk]
    rw [sum_coe_mul]
    exact scale_add_bias (near (t0 - 512) (T (qy r))) (raw (Q r) KW) n _ Iff.rfl
  unfold k0_pay33
  show Ideal.exp2 (_ - _) = _
  refine congrArg₂ (fun a b => Ideal.exp2 (a - b)) ?_ ?_
  · refine (biased_apply _ _ _ _ _ _ r n).trans (Eq.trans ?_ (hsc r n))
    exact congrArg (· + _) (congrArg (· * _) (mm_nt (M := 1024) (K := 128) (N := 768) _ rfl _ _ _ r n))
  · refine (tile_apply 6 _ _ r n).trans ((maxLane_apply _ _ _ _ _ _ _ r _).trans ?_)
    refine Finset.sup_congr rfl fun k _ => (biased_apply _ _ _ _ _ _ r k).trans (Eq.trans ?_ (hsc r k))
    exact congrArg (· + _) (congrArg (· * _) (mm_nt (M := 1024) (K := 128) (N := 768) _ rfl _ _ _ r k))

include ht0 hT hv3 hq hk hv in
/-- The window branch's output: the weighted mean of the values in the window. -/
theorem pay35_apply (r : Fin 1024) (d : Fin 128) :
    k0_pay35 (F := Ideal) (k0_pay33 (BitVec.ofNat 32 t0) v3 q kw) vw k0_pay34 (ix2 r d)
      = ((attn (near (t0 - 512) (T (qy r))) (raw (Q r) KW) (fun n => VW n d) : ℝ) : EReal) := by
  have num : ∀ y : FVec Ideal S768x256 .bf16, ∀ (c : Fin 256) (v : Fin 768 → ℝ), (∀ n, y (ix2 n c) = ((v n : ℝ) : EReal)) →
      matmul dot_S1024x768_S768x256_S1024x256_1_0_0_1_n_n none (k0_pay33 (F := Ideal) (BitVec.ofNat 32 t0) v3 q kw) y (constant S1024x256 .f32 0x00000000#32) (ix2 r c)
        = ((gam (top (near (t0 - 512) (T (qy r))) (raw (Q r) KW)) * ∑ n ∈ near (t0 - 512) (T (qy r)), wt (raw (Q r) KW n) * v n : ℝ) : EReal) := fun y c v hy => by
    refine (mm_nn (M := 1024) (K := 768) (N := 256) dot_S1024x768_S768x256_S1024x256_1_0_0_1_n_n rfl none _ _ r c).trans ?_
    rw [← sum_exp2 subset_rfl (isMax_top _ _)]
    exact Finset.sum_congr rfl fun n _ => congrArg₂ (· * ·) (pay33_apply t0 ht0 T hT v3 hv3 q Q hq kw KW hk r n) (hy n)
  unfold k0_pay35
  rw [shapeCast_self]
  refine Eq.trans ?_ (sum_mul_inv (near (t0 - 512) (T (qy r))) (top (near (t0 - 512) (T (qy r))) (raw (Q r) KW)) (raw (Q r) KW) (fun n => VW n d))
  refine congrArg₂ (· * ·) ?_ (congrArg₂ Ideal.div Ideal.ofBits_one_f32 ?_)
  · refine (slice2_axis1_apply 0 _ _ _ _ ⟨d.val, by omega⟩ (by simp)).trans (num _ _ _ fun n => ?_)
    exact (pair_left (a := 768) _ _ _ n d).trans (hv n d)
  · refine (slice2_axis1_apply 128 _ _ _ _ ⟨128 + d.val, by omega⟩ rfl).trans (num _ _ (fun _ => 1) fun n => ?_)
    exact (pair_right (a := 768) _ _ _ n d).trans Ideal.ofBits_one_bf16

end Window

end Cert.Branch

end
-- ==== Proof.Chunk.lean ====
/-
  The scores of a chunk of keys: the query's product with the key, plus the bias of the key's block carried on the lanes
  beside (zero for a block selected, minus infinity for one that is not), scaled; and on the last chunk the bias of the
  keys after the query.
-/
module

public import proofs.«01_k».proof.Proof.Step
public import proofs.«01_k».proof.Proof.Window

@[expose] public section

set_option maxRecDepth 16384

noncomputable section

namespace Cert.Branch

open Idealize.ShloMosaic Idealize.ShloMosaic.ValueIdx Idealize.ShloMosaic.WordCmp Idealize.ShloMosaic.WordArith
open Cert.KernelIdeal Cert.KernelIdeal.Gen Cert.Attn Cert.Rows
open scoped BigOperators
open Classical

/-- A leading pair of units dropped. -/
theorem drop_units {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- Block of a key. -/
def blk (k : Fin 4096) : Fin 64 := ⟨k.val / 64, by omega⟩

/-- Keys of the blocks `P`, not after position `T`. -/
def pick (P : Fin 64 → Prop) (T : ℕ) : Finset (Fin 4096) := Finset.univ.filter fun k => P (blk k) ∧ k.val ≤ T

/-- A sum over 256 lanes is one over 128 and one over the next 128. -/
theorem sum_lanes (f : Fin 256 → EReal) : ∑ l, f l = ∑ l : Fin 128, f ⟨l.val, by omega⟩ + ∑ l : Fin 128, f ⟨128 + l.val, by omega⟩ :=
  Fin.sum_univ_add (a := 128) (b := 128) f

section Scores

variable (P : Fin 1024 → Fin 64 → Prop) (q : Fin 1024 → Fin 128 → ℝ) (K : Fin 4096 → Fin 128 → ℝ)
  (Q : FVec Ideal S1024x256 .bf16) (hq : ∀ r (l : Fin 128), Q (ix2 r ⟨l.val, by omega⟩) = ((q r l : ℝ) : EReal))
  (hb : ∀ r (l : Fin 128), Q (ix2 r ⟨128 + l.val, by omega⟩) = if h : l.val < 64 then (if P r ⟨l.val, h⟩ then (0 : EReal) else ⊥) else 0)
  (kc : FVec Ideal S1x1x512x256 .bf16) (W : Fin 512 → Fin 4096)
  (hk : ∀ j (l : Fin 128), kc (ix4 (0 : Fin 1) (0 : Fin 1) j ⟨l.val, by omega⟩) = ((K (W j) l : ℝ) : EReal))
  (ho : ∀ j (l : Fin 128), kc (ix4 (0 : Fin 1) (0 : Fin 1) j ⟨128 + l.val, by omega⟩) = if l.val = (blk (W j)).val then (1 : EReal) else 0)

include hq hb hk ho

/-- The scaled scores, with the blocks' bias. -/
theorem scores_apply (r : Fin 1024) (j : Fin 512) :
    (∑ l : Fin 256, Q (ix2 r l) * kc (ix4 (0 : Fin 1) (0 : Fin 1) j l)) * Named.named (F := Ideal) Cert.KernelIdeal.κ "scale_log2e" (φ := .f32) 0x3E0293EE#32
      = ((raw (q r) K (W j) : ℝ) : EReal) * ((c2 : ℝ) : EReal) + (if P r (blk (W j)) then (0 : EReal) else ⊥) := by
  have hB : ∑ l : Fin 128, Q (ix2 r ⟨128 + l.val, by omega⟩) * kc (ix4 (0 : Fin 1) (0 : Fin 1) j ⟨128 + l.val, by omega⟩)
      = if P r (blk (W j)) then (0 : EReal) else ⊥ := by
    have hl : (blk (W j)).val < 128 := by have := (blk (W j)).isLt; omega
    rw [Finset.sum_eq_single (⟨(blk (W j)).val, hl⟩ : Fin 128)]
    · rw [hb, ho, if_pos rfl, mul_one, dif_pos (blk (W j)).isLt]
    · intro l _ hne
      rw [ho, if_neg (fun h => hne (Fin.ext h)), mul_zero]
    · intro h; exact absurd (Finset.mem_univ _) h
  rw [scale_eq, sum_lanes, hB]
  simp only [hq, hk]
  rw [sum_coe_mul]
  show (((raw (q r) K (W j) : ℝ) : EReal) + _) * _ = _
  by_cases h : P r (blk (W j))
  · rw [if_pos h, add_zero, add_zero]
  · rw [if_neg h, EReal.add_bot, EReal.add_bot, EReal.bot_mul_coe_of_pos c2_pos]

/-- A chunk before the queries: its keys are none of them after a query. -/
theorem pay5_apply (T : Fin 1024 → ℕ) (hT : ∀ r j, (W j).val ≤ T r) (r : Fin 1024) (j : Fin 512) :
    k0_pay5 (F := Ideal) Q kc (ix2 r j) = sc (pick (P r) (T r)) (raw (q r) K) (W j) := by
  unfold k0_pay5
  refine (congrArg (· * _) ((mm_nt (M := 1024) (K := 256) (N := 512) dot_S1024x256_S512x256_S1024x512_1_1_0_0_n_n rfl none _ _ r j).trans
    (Finset.sum_congr rfl fun l _ => congrArg (_ * ·) (drop_units kc _ j l)))).trans ?_
  refine (scores_apply P q K Q hq hb kc W hk ho r j).trans ?_
  exact scale_add_bias _ _ _ _ (by simp [pick, hT r j])

/-- The last chunk, with the bias of the keys after the query. -/
theorem pay121_apply (T : Fin 1024 → ℕ) (b : FVec Ideal S256x512 .f32) (hbias : ∀ r j, b (ix2 (qy r) j) = if (W j).val ≤ T r then (0 : EReal) else ⊥)
    (r : Fin 1024) (j : Fin 512) :
    k0_pay121 (F := Ideal) b (k0_pay120 Q kc) (ix2 r j) = sc (pick (P r) (T r)) (raw (q r) K) (W j) := by
  unfold k0_pay121 k0_pay120
  refine (biased_apply _ _ _ _ _ _ r j).trans ?_
  refine (congrArg (· + _) (congrArg (· * _) ((mm_nt (M := 1024) (K := 256) (N := 512) dot_S1024x256_S512x256_S1024x512_1_1_0_0_n_n rfl none _ _ r j).trans
    (Finset.sum_congr rfl fun l _ => congrArg (_ * ·) (drop_units kc _ j l))))).trans ?_
  refine (congrArg₂ (· + ·) (scores_apply P q K Q hq hb kc W hk ho r j) (hbias r j)).trans ?_
  rw [add_assoc]
  have e : (if P r (blk (W j)) then (0 : EReal) else ⊥) + (if (W j).val ≤ T r then (0 : EReal) else ⊥)
      = if P r (blk (W j)) ∧ (W j).val ≤ T r then (0 : EReal) else ⊥ := by
    by_cases h1 : P r (blk (W j)) <;> by_cases h2 : (W j).val ≤ T r <;> simp [h1, h2]
  rw [e]
  exact scale_add_bias _ _ _ _ (by simp [pick])

end Scores

/-- The new maximum of a chunk before the queries. -/
theorem pay6_apply (Q : FVec Ideal S1024x256 .bf16) (kc : FVec Ideal S1x1x512x256 .bf16) (m : FVec Ideal S1024x128 .f32) (r : Fin 1024) (t : Fin 128) :
    k0_pay6 (F := Ideal) Q kc m (ix2 r t) = max (m (ix2 r t)) (Finset.univ.sup fun j => k0_pay5 (F := Ideal) Q kc (ix2 r j)) := by
  unfold k0_pay6
  exact congrArg (max _) (maxLane_apply _ _ _ _ _ _ _ r t)

/-- Its exponentials. -/
theorem pay112_apply (s : FVec Ideal S1024x512 .f32) (m : FVec Ideal S1024x128 .f32) (r : Fin 1024) (j : Fin 512) :
    k0_pay112 (F := Ideal) s m (ix2 r j) = Ideal.exp2 (s (ix2 r j) - m (ix2 r ⟨j.val % 128, Nat.mod_lt _ (by decide)⟩)) := by
  unfold k0_pay112
  rw [shapeCast_self]
  exact congrArg (fun a => Ideal.exp2 (_ - a)) (tile_apply 4 m _ r j)

/-- The new maximum of the last chunk. -/
theorem pay122_apply (b : FVec Ideal S256x512 .f32) (y : FVec Ideal S4x256x512 .f32) (m : FVec Ideal S1024x128 .f32) (r : Fin 1024) (t : Fin 128) :
    k0_pay122 (F := Ideal) b y m (ix2 r t) = max (m (ix2 r t)) (Finset.univ.sup fun j => k0_pay121 (F := Ideal) b y (ix2 r j)) := by
  unfold k0_pay122
  exact congrArg (max _) (maxLane_apply _ _ _ _ _ _ _ r t)

/-- Its exponentials. -/
theorem pay123_apply (b : FVec Ideal S256x512 .f32) (y : FVec Ideal S4x256x512 .f32) (m : FVec Ideal S1024x128 .f32) (r : Fin 1024) (j : Fin 512) :
    k0_pay123 (F := Ideal) b y m (ix2 r j)
      = Ideal.exp2 (k0_pay121 (F := Ideal) b y (ix2 r j) - k0_pay122 (F := Ideal) b y m (ix2 r ⟨j.val % 128, Nat.mod_lt _ (by decide)⟩)) := by
  unfold k0_pay123
  rw [shapeCast_self]
  exact congrArg (fun a => Ideal.exp2 (_ - a)) (tile_apply 4 _ _ r j)

/-- The bias of the keys after the query, on the chunk that starts at `o`. -/
theorem pay118_apply (v3 : IVec S256x1 32) (T : Fin 256 → ℕ) (hT : ∀ t, T t < 4096) (hv3 : ∀ t, v3 (ix2 t 0) = BitVec.ofNat 32 (T t))
    (n : ℕ) (hn : n < 8) (t : Fin 256) (j : Fin 512) :
    k0_pay118 (F := Ideal) v3 (BitVec.ofNat 32 n) 512#32 (ix2 t j) = if n * 512 + j.val ≤ T t then (0 : EReal) else ⊥ := by
  have hj := j.isLt
  have e : IntOp.cmpi .sle (IntOp.addi (Scalar.muli (BitVec.ofNat 32 n) 512#32) (BitVec.ofNat 32 j.val)) (BitVec.ofNat 32 (T t))
      = BitVec.ofBool (decide (n * 512 + j.val ≤ T t)) := by
    have e1 : IntOp.addi (Scalar.muli (BitVec.ofNat 32 n) 512#32) (BitVec.ofNat 32 j.val) = BitVec.ofNat 32 (n * 512 + j.val) := by
      show BitVec.ofNat 32 n * BitVec.ofNat 32 512 + BitVec.ofNat 32 j.val = _
      rw [← BitVec.ofNat_mul, ← BitVec.ofNat_add]
    rw [e1]
    show BitVec.ofBool ((BitVec.ofNat 32 (n * 512 + j.val)).sle (BitVec.ofNat 32 (T t))) = _
    have := hT t
    rw [BitVec.sle_eq_decide, toInt_small (by omega), toInt_small (by omega)]
    congr 1
    exact decide_eq_decide.2 (by omega)
  unfold k0_pay118
  show Scalar.select _ _ _ = _
  refine (select_congr (c' := BitVec.ofBool (decide (n * 512 + j.val ≤ T t))) (a' := (0 : EReal)) (b' := (⊥ : EReal)) ?_ Ideal.ofBits_zero_f32 mask_eq).trans (select_ofBool _ _ _)
  refine Eq.trans (congrArg₂ (IntOp.cmpi .sle) (congrArg (IntOp.addi _) ?_) ?_) e
  · exact iota_single_apply _ _ _ _ _ _
  · exact (rep_lane_apply v3 _ t j).trans (hv3 t)

end Cert.Branch

end
-- ==== Proof.Loop.lean ====
/-
  The loop over the chunks of selected keys: each trip takes the state found in its four buffers to the next, so that
  after `n` trips the buffers hold the sums over the keys before `512 n`.
-/
module

public import proofs.«01_k».proof.Proof.Chunk
public import proofs.«01_k».proof.Proof.Gen.KernelIdeal.Loops
public import Idealize.ShloMosaic.Lib.VecWindow

@[expose] public section

set_option maxRecDepth 100000

noncomputable section

namespace Cert.Branch

open Idealize.ShloMosaic Idealize.ShloMosaic.ValueIdx Idealize.ShloMosaic.TcCoe Idealize.SL.Sem
open Cert.KernelIdeal Cert.KernelIdeal.Gen Cert.Attn Cert.Rows
open scoped BigOperators
open Classical

/-- A grid point of the tile `a` of queries. -/
def tileAt (a : Fin 16) : grid0.Coords := fun b => match b with
  | ⟨0, _⟩ => (0 : Fin 4)
  | ⟨1, _⟩ => (0 : Fin 4)
  | ⟨2, _⟩ => a

/-- The tile of queries of a grid point. -/
def tile (i : grid0.Coords) : Fin 16 := i 2

/-- The first loop's trips: the chunks that end at or before the first query. -/
theorem trips_eq (i : grid0.Coords) : (k0_t1_loop i).trips = (tile i).val / 2 :=
  (by decide +kernel : ∀ a : Fin 16, (k0_t1_loop (tileAt a)).trips = a.val / 2) (tile i)

/-- The second loop has no trip. -/
theorem trips2_eq (i : grid0.Coords) : (k0_t2_loop i).trips = 0 :=
  (by decide +kernel : ∀ a : Fin 16, (k0_t2_loop (tileAt a)).trips = 0) (tile i)

/-- A trip is one of at most eight. -/
theorem trip_lt (i : grid0.Coords) (k : Fin (k0_t1_loop i).trips) : k.val < 8 := by
  have h1 := k.isLt
  have h2 := trips_eq i
  have h3 := (tile i).isLt
  omega

/-- The place of a chunk's keys. -/
theorem off2_eq (i : grid0.Coords) (k : Fin (k0_t1_loop i).trips) : k0_off2 i k = ![0, 0, k.val * 512, 0] := by
  have h : ∀ n : Fin 8, (Scalar.indexCast (Scalar.muli (Scf.iv 0#32 1#32 n.val) 512#32)).toNat = n.val * 512 := by decide +kernel
  exact congrArg (fun a => ![0, 0, a, 0]) (h ⟨k.val, trip_lt i k⟩)

/-- The place of the values of the chunk before (the first chunk's own on the first trip). -/
theorem off3_eq (i : grid0.Coords) (k : Fin (k0_t1_loop i).trips) : k0_off3 i k = ![(k.val - 1) * 512, 0] := by
  have h : ∀ n : Fin 8, (Scalar.indexCast (Scalar.muli (Scalar.maxsi (Scalar.subi (Scf.iv 0#32 1#32 n.val) 1#32) 0#32) 512#32)).toNat = (n.val - 1) * 512 := by decide +kernel
  exact congrArg (fun a => ![a, 0]) (h ⟨k.val, trip_lt i k⟩)

/-- The place of the last chunk's keys. -/
theorem off6_eq (i : grid0.Coords) : k0_off6 i = ![0, 0, (tile i).val / 2 * 512, 0] :=
  (by decide +kernel : ∀ a : Fin 16, k0_off6 (tileAt a) = ![0, 0, a.val / 2 * 512, 0]) (tile i)

/-- The place of the values of the chunk before the last. -/
theorem off7_eq (i : grid0.Coords) : k0_off7 i = ![((tile i).val / 2 - 1) * 512, 0] :=
  (by decide +kernel : ∀ a : Fin 16, k0_off7 (tileAt a) = ![(a.val / 2 - 1) * 512, 0]) (tile i)

/-- The place of the last chunk's values. -/
theorem off8_eq (i : grid0.Coords) : k0_off8 i = ![(tile i).val / 2 * 512, 0] :=
  (by decide +kernel : ∀ a : Fin 16, k0_off8 (tileAt a) = ![a.val / 2 * 512, 0]) (tile i)

/-- A lane of the first 128 is one of the 256. -/
theorem lane_lo (l : Fin 128) : l.val < 256 := by omega

/-- A lane of the next 128 is one of the 256. -/
theorem lane_hi (l : Fin 128) : 128 + l.val < 256 := by omega

section Run

variable (c : Dev nD) (i : grid0.Coords) (arg3 : Memref sig .tc .vmem S256x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x1x4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S256x128 .bf16) (harg10 : arg10.IsWhole) (arg11 : Memref sig .tc .vmem S64x256 .f32) (harg11 : arg11.IsWhole) (arg12 : Memref sig .tc .vmem S256x512 .bf16) (harg12 : arg12.IsWhole) (arg13 : Memref sig .tc .vmem S1024x128 .bf16) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x256 .f32) (harg17 : arg17.IsWhole) (arg18 : Memref sig .tc .vmem S1024x512 .bf16) (harg18 : arg18.IsWhole) (arg19 : Memref sig .tc .vmem S1024x128 .f32) (harg19 : arg19.IsWhole) (arg20 : Memref sig .tc .vmem S1024x128 .f32) (harg20 : arg20.IsWhole) (arg21 : Memref sig .tc .vmem S3x1024x128 .f32) (harg21 : arg21.IsWhole)
  (v0 w v1189 v1194 : BitVec 32) (X6 : BufTy.Contents (Elt Ideal) arg6.view.ty) (X7 : BufTy.Contents (Elt Ideal) arg7.view.ty) (X14 : BufTy.Contents (Elt Ideal) arg14.view.ty)

/-- What one trip writes, of what it finds. -/
theorem trip_eq (k : Fin (k0_t1_loop i).trips) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (h2 : ∀ a, (k0_off2 i k) a + S1x1x512x256.size a ≤ S1x1x4096x256.size a) (h3 : ∀ a, (k0_off3 i k) a + S512x128.size a ≤ S4096x128.size a) :
    tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 k f15 f16 f17 f18
      = ([⟨Rect.unit ![0, 0] S1024x128.size (by decide), k0_pay114 (F := Ideal) (k0_pay6 (arg14.view.readAt (Elt Ideal) (Rect.unit ![0, 0] S1024x256.size (by decide)).toLoadRect X14) (arg6.view.readAt (Elt Ideal) (Rect.unit (s := S1x1x4096x256) (k0_off2 i k) S1x1x512x256.size h2).toLoadRect X6) (arg15.view.readAt (Elt Ideal) (Rect.unit ![0, 0] S1024x128.size (by decide)).toLoadRect f15))⟩],
        [⟨Rect.unit ![0, 0] S1024x128.size (by decide), k0_pay113 (F := Ideal) (arg15.view.readAt (Elt Ideal) (Rect.unit ![0, 0] S1024x128.size (by decide)).toLoadRect f15) (k0_pay6 (arg14.view.readAt (Elt Ideal) (Rect.unit ![0, 0] S1024x256.size (by decide)).toLoadRect X14) (arg6.view.readAt (Elt Ideal) (Rect.unit (s := S1x1x4096x256) (k0_off2 i k) S1x1x512x256.size h2).toLoadRect X6) (arg15.view.readAt (Elt Ideal) (Rect.unit ![0, 0] S1024x128.size (by decide)).toLoadRect f15))⟩],
        [⟨Rect.unit ![0, 0] S1024x256.size (by decide), k0_pay7 (F := Ideal) (arg18.view.readAt (Elt Ideal) (Rect.unit ![0, 0] S1024x512.size (by decide)).toLoadRect f18) (arg7.view.readAt (Elt Ideal) (Rect.unit (s := S4096x128) (k0_off3 i k) S512x128.size h3).toLoadRect X7) (arg16.view.readAt (Elt Ideal) (Rect.unit ![0, 0] S1024x128.size (by decide)).toLoadRect f16) (arg17.view.readAt (Elt Ideal) (Rect.unit ![0, 0] S1024x256.size (by decide)).toLoadRect f17)⟩],
        [⟨Rect.unit ![0, 0] S1024x512.size (by decide), k0_pay112 (F := Ideal) (k0_pay5 (arg14.view.readAt (Elt Ideal) (Rect.unit ![0, 0] S1024x256.size (by decide)).toLoadRect X14) (arg6.view.readAt (Elt Ideal) (Rect.unit (s := S1x1x4096x256) (k0_off2 i k) S1x1x512x256.size h2).toLoadRect X6)) (k0_pay6 (arg14.view.readAt (Elt Ideal) (Rect.unit ![0, 0] S1024x256.size (by decide)).toLoadRect X14) (arg6.view.readAt (Elt Ideal) (Rect.unit (s := S1x1x4096x256) (k0_off2 i k) S1x1x512x256.size h2).toLoadRect X6) (arg15.view.readAt (Elt Ideal) (Rect.unit ![0, 0] S1024x128.size (by decide)).toLoadRect f15))⟩]) := by
  unfold tripL_k0_t1 trip_k0_t1
  dsimp only
  sl_unfold_words
  rfl

/-- The same, of the buffers read. -/
theorem trip_read (k : Fin (k0_t1_loop i).trips) (f15 : BufTy.Contents (Elt Ideal) arg15.view.ty) (f16 : BufTy.Contents (Elt Ideal) arg16.view.ty) (f17 : BufTy.Contents (Elt Ideal) arg17.view.ty) (f18 : BufTy.Contents (Elt Ideal) arg18.view.ty)
    (h2 : ∀ a, (k0_off2 i k) a + S1x1x512x256.size a ≤ S1x1x4096x256.size a) (h3 : ∀ a, (k0_off3 i k) a + S512x128.size a ≤ S4096x128.size a) :
    tripL_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 k f15 f16 f17 f18
      = ([⟨Rect.unit ![0, 0] S1024x128.size (by decide), k0_pay114 (F := Ideal) (k0_pay6 (arg14.view.read (Elt Ideal) X14) (arg6.view.readAt (Elt Ideal) (Rect.unit (s := S1x1x4096x256) (k0_off2 i k) S1x1x512x256.size h2).toLoadRect X6) (arg15.view.read (Elt Ideal) f15))⟩],
        [⟨Rect.unit ![0, 0] S1024x128.size (by decide), k0_pay113 (F := Ideal) (arg15.view.read (Elt Ideal) f15) (k0_pay6 (arg14.view.read (Elt Ideal) X14) (arg6.view.readAt (Elt Ideal) (Rect.unit (s := S1x1x4096x256) (k0_off2 i k) S1x1x512x256.size h2).toLoadRect X6) (arg15.view.read (Elt Ideal) f15))⟩],
        [⟨Rect.unit ![0, 0] S1024x256.size (by decide), k0_pay7 (F := Ideal) (arg18.view.read (Elt Ideal) f18) (arg7.view.readAt (Elt Ideal) (Rect.unit (s := S4096x128) (k0_off3 i k) S512x128.size h3).toLoadRect X7) (arg16.view.read (Elt Ideal) f16) (arg17.view.read (Elt Ideal) f17)⟩],
        [⟨Rect.unit ![0, 0] S1024x512.size (by decide), k0_pay112 (F := Ideal) (k0_pay5 (arg14.view.read (Elt Ideal) X14) (arg6.view.readAt (Elt Ideal) (Rect.unit (s := S1x1x4096x256) (k0_off2 i k) S1x1x512x256.size h2).toLoadRect X6)) (k0_pay6 (arg14.view.read (Elt Ideal) X14) (arg6.view.readAt (Elt Ideal) (Rect.unit (s := S1x1x4096x256) (k0_off2 i k) S1x1x512x256.size h2).toLoadRect X6) (arg15.view.read (Elt Ideal) f15))⟩]) := by
  rw [trip_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 k f15 f16 f17 f18 h2 h3]
  simp only [fun h => View.readAt_full (Val := Elt Ideal) arg14.view X14 (off := ![0, 0]) h, fun h => View.readAt_full (Val := Elt Ideal) arg15.view f15 (off := ![0, 0]) h,
    fun h => View.readAt_full (Val := Elt Ideal) arg16.view f16 (off := ![0, 0]) h, fun h => View.readAt_full (Val := Elt Ideal) arg17.view f17 (off := ![0, 0]) h,
    fun h => View.readAt_full (Val := Elt Ideal) arg18.view f18 (off := ![0, 0]) h]

variable {X6 X7 X14}
  (P : Fin 1024 → Fin 64 → Prop) (q : Fin 1024 → Fin 128 → ℝ) (K V : Fin 4096 → Fin 128 → ℝ) (T : Fin 1024 → ℕ)
  (hQ : ∀ r (l : Fin 128), arg14.view.read (Elt Ideal) X14 (ix2 r ⟨l.val, lane_lo l⟩) = ((q r l : ℝ) : EReal))
  (hB : ∀ r (l : Fin 128), arg14.view.read (Elt Ideal) X14 (ix2 r ⟨128 + l.val, lane_hi l⟩)
    = if h : l.val < 64 then (if P r ⟨l.val, h⟩ then (0 : EReal) else ⊥) else 0)
  (hK : ∀ k (l : Fin 128), arg6.view.read (Elt Ideal) X6 (ix4 (0 : Fin 1) (0 : Fin 1) k ⟨l.val, lane_lo l⟩) = ((K k l : ℝ) : EReal))
  (hO : ∀ k (l : Fin 128), arg6.view.read (Elt Ideal) X6 (ix4 (0 : Fin 1) (0 : Fin 1) k ⟨128 + l.val, lane_hi l⟩) = if l.val = (blk k).val then (1 : EReal) else 0)
  (hV : ∀ k (d : Fin 128), arg7.view.read (Elt Ideal) X7 (ix2 k d) = ((V k d : ℝ) : EReal))
  (hT : ∀ r, (tile i).val * 256 ≤ T r)

/-- A chunk of the keys, read. -/
theorem read_keys (f : S1x1x4096x256.Idx → EReal) {off : Fin 4 → ℕ} (o : ℕ) (ho : o + 512 ≤ 4096) (he : off = ![0, 0, o, 0])
    (h : ∀ a, off a + S1x1x512x256.size a ≤ S1x1x4096x256.size a) (j : Fin 512) (l : Fin 256) :
    f ((Rect.unit (s := S1x1x4096x256) off S1x1x512x256.size h).toLoadRect.idx (ix4 (0 : Fin 1) (0 : Fin 1) j l)) = f (ix4 0 0 (key o ho j) l) := by
  subst he
  refine congrArg f (funext fun a => Fin.ext ?_)
  match a with
  | ⟨0, _⟩ => rfl
  | ⟨1, _⟩ => rfl
  | ⟨2, _⟩ => show o + 1 * j.val = o + j.val; omega
  | ⟨3, _⟩ => show 0 + 1 * l.val = l.val; omega

/-- A chunk of the values, read. -/
theorem read_values (f : S4096x128.Idx → EReal) {off : Fin 2 → ℕ} (o : ℕ) (ho : o + 512 ≤ 4096) (he : off = ![o, 0])
    (h : ∀ a, off a + S512x128.size a ≤ S4096x128.size a) (j : Fin 512) (d : Fin 128) :
    f ((Rect.unit (s := S4096x128) off S512x128.size h).toLoadRect.idx (ix2 j d)) = f (ix2 (key o ho j) d) := by
  subst he
  refine congrArg f (funext fun a => Fin.ext ?_)
  match a with
  | ⟨0, _⟩ => show o + 1 * j.val = o + j.val; omega
  | ⟨1, _⟩ => show 0 + 1 * d.val = d.val; omega

include hQ hB hK hO hV hT in
/-- After `n` trips the buffers hold the sums over the keys before `512 n`. -/
theorem loop_inv (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (W0 : Fin 512 → Fin 4096)
    (h0 : Inv (fun r => pick (P r) (T r)) (fun r => raw (q r) K) V 0 W0 (arg15.view.read (Elt Ideal) G15) (arg16.view.read (Elt Ideal) G16)
      (arg17.view.read (Elt Ideal) G17) (arg18.view.read (Elt Ideal) G18)) (hW0 : W0 = key 0 (by decide)) :
    ∀ (n : ℕ) (hn : n ≤ (k0_t1_loop i).trips) (hw : (n - 1) * 512 + 512 ≤ 4096),
      ∀ L, L = pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 G15 G16 G17 G18 n →
      Inv (fun r => pick (P r) (T r)) (fun r => raw (q r) K) V (n * 512) (key ((n - 1) * 512) hw)
        (arg15.view.read (Elt Ideal) (arg15.view.writes (Elt Ideal) G15 L.1)) (arg16.view.read (Elt Ideal) (arg16.view.writes (Elt Ideal) G16 L.2.1))
        (arg17.view.read (Elt Ideal) (arg17.view.writes (Elt Ideal) G17 L.2.2.1)) (arg18.view.read (Elt Ideal) (arg18.view.writes (Elt Ideal) G18 L.2.2.2)) := by
  intro n
  induction n with
  | zero =>
    intro hn hw L hL
    subst hW0
    rw [pb_k0_t1.eq_1] at hL
    subst hL
    exact h0
  | succ n ih =>
    intro hn hw L hL
    have hk : n < (k0_t1_loop i).trips := hn
    have hn8 : n < 8 := trip_lt i ⟨n, hk⟩
    have hw' : (n - 1) * 512 + 512 ≤ 4096 := by omega
    have ho : n * 512 + 512 ≤ 4096 := by omega
    have h2 : ∀ a, (k0_off2 i ⟨n, hk⟩) a + S1x1x512x256.size a ≤ S1x1x4096x256.size a := by
      rw [off2_eq]; intro a
      match a with
      | ⟨0, _⟩ => exact (by decide : 0 + 1 ≤ 1)
      | ⟨1, _⟩ => exact (by decide : 0 + 1 ≤ 1)
      | ⟨2, _⟩ => exact ho
      | ⟨3, _⟩ => exact (by decide : 0 + 256 ≤ 256)
    have h3 : ∀ a, (k0_off3 i ⟨n, hk⟩) a + S512x128.size a ≤ S4096x128.size a := by
      rw [off3_eq]; intro a
      match a with
      | ⟨0, _⟩ => exact hw'
      | ⟨1, _⟩ => exact (by decide : 0 + 128 ≤ 128)
    have IH := ih hk.le hw' _ rfl
    rw [pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 G15 G16 G17 G18 ⟨n, hk⟩] at hL
    generalize pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 G15 G16 G17 G18 n = Ln at hL IH
    rw [trip_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 X6 X7 X14 ⟨n, hk⟩ _ _ _ _ h2 h3] at hL
    subst hL
    have hs : ∀ r j, k0_pay5 (F := Ideal) (arg14.view.read (Elt Ideal) X14)
        (arg6.view.readAt (Elt Ideal) (Rect.unit (s := S1x1x4096x256) (k0_off2 i ⟨n, hk⟩) S1x1x512x256.size h2).toLoadRect X6) (ix2 r j)
          = sc (pick (P r) (T r)) (raw (q r) K) (key (n * 512) ho j) := fun r j =>
      pay5_apply P q K _ hQ hB _ (key (n * 512) ho)
        (fun j l => (read_keys (arg6.view.read (Elt Ideal) X6) (n * 512) ho (off2_eq i ⟨n, hk⟩) h2 j _).trans (hK _ l))
        (fun j l => (read_keys (arg6.view.read (Elt Ideal) X6) (n * 512) ho (off2_eq i ⟨n, hk⟩) h2 j _).trans (hO _ l))
        T (fun r j => by
          have := hT r; have := j.isLt; have := trips_eq i
          show n * 512 + j.val ≤ T r
          omega) r j
    have hS := IH.step ho
      (arg7.view.readAt (Elt Ideal) (Rect.unit (s := S4096x128) (k0_off3 i ⟨n, hk⟩) S512x128.size h3).toLoadRect X7)
      (fun j d => (read_values (arg7.view.read (Elt Ideal) X7) _ hw' (off3_eq i ⟨n, hk⟩) h3 j d).trans (hV _ d)) _ hs
      (k0_pay6 (F := Ideal) (arg14.view.read (Elt Ideal) X14) (arg6.view.readAt (Elt Ideal) (Rect.unit (s := S1x1x4096x256) (k0_off2 i ⟨n, hk⟩) S1x1x512x256.size h2).toLoadRect X6) _)
      (k0_pay113 (F := Ideal) _ _) (k0_pay7 (F := Ideal) _ _ _ _) (k0_pay112 (F := Ideal) _ _)
      (fun r t => pay6_apply _ _ _ r t) (fun r t => by unfold k0_pay113; rw [shapeCast_self]; rfl)
      (fun r c => by unfold k0_pay7; rw [shapeCast_self]; rfl) (fun r j => pay112_apply _ _ r j)
    have e : (n + 1) * 512 = n * 512 + 512 := by ring
    have e' : ∀ x : FVec Ideal S1024x128 .f32, k0_pay114 (F := Ideal) x = x := fun x => by unfold k0_pay114; rw [shapeCast_self]
    rw [e]
    exact hS.congr ((View.read_writes_full _ _ _ _ _).trans (e' _)) (View.read_writes_full _ _ _ _ _) (View.read_writes_full _ _ _ _ _)
      (View.read_writes_full _ _ _ _ _)

end Run

end Cert.Branch

end
-- ==== Proof.Diag.lean ====
/-
  The last chunk of selected keys, and the selected branch's result: the loop's sums, the last chunk with the causal
  bound, and the quotient by the sum of the weights.
-/
module

public import proofs.«01_k».proof.Proof.Loop
public import proofs.«01_k».proof.Proof.Gen.KernelIdeal.Frame.RunA

@[expose] public section

set_option maxRecDepth 100000

noncomputable section

namespace Cert.Branch

open Idealize.ShloMosaic Idealize.ShloMosaic.ValueIdx Idealize.ShloMosaic.TcCoe Idealize.SL.Sem
open Cert.KernelIdeal Cert.KernelIdeal.Gen Cert.Attn Cert.Rows
open scoped BigOperators
open Classical

/-- The queries' positions: the tile's first and the row. -/
theorem v3_apply (i : grid0.Coords) (t : Fin 256) : (kernelRun0_A.sl.v3 i) (ix2 t 0) = BitVec.ofNat 32 ((tile i).val * 256 + t.val) := by
  have h : ∀ (a : Fin 16), Scalar.muli (BitVec.ofNat 32 a.val) 256#32 = BitVec.ofNat 32 (a.val * 256) := by decide +kernel
  have e : (kernelRun0_A.sl.v3 i) (ix2 t 0) = Scalar.muli (BitVec.ofNat 32 (tile i).val) 256#32 + BitVec.ofNat 32 t.val := by
    unfold kernelRun0_A.sl.v3 kernelRun0_A.sl.v2 kernelRun0_A.sl.v1
    show _ + iota Kind.tc S256x1 32 [0] _ (ix2 t (0 : Fin 1)) = _
    rw [iota_single_apply]; rfl
  rw [e, h, BitVec.ofNat_add]

/-- The last chunk's number. -/
theorem v1205_eq (i : grid0.Coords) : (kernelRun0_A.sl.v1205 i) = BitVec.ofNat 32 ((tile i).val / 2) :=
  (by decide +kernel : ∀ a : Fin 16, (kernelRun0_A.sl.v1205 (tileAt a)) = BitVec.ofNat 32 (a.val / 2)) (tile i)

/-- A whole read after three lists of stores, the last of them empty. -/
theorem cov_append {κ : Kind} {sp : Space} {s : Shape} {e : EltTy} (v : View sig κ sp s e) (E L G : List (View.Piece (Elt Ideal) s e)) (hE : E = [])
    {off : Fin s.rank → ℕ} (inb : ∀ a, off a + s.size a ≤ s.size a) :
    v.readCov (E ++ (L ++ G)) (Rect.unit off s.size inb).toLoadRect = v.read (Elt Ideal) (v.writes (Elt Ideal) (v.writes (Elt Ideal) v.junk G) L) := by
  subst hE
  exact (View.readAt_full _ _ _).trans (by rw [List.nil_append, View.writes_append])

section Run

variable (c : Dev nD) (i : grid0.Coords) (arg3 : Memref sig .tc .vmem S256x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x1x4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S256x128 .bf16) (harg10 : arg10.IsWhole) (arg11 : Memref sig .tc .vmem S64x256 .f32) (harg11 : arg11.IsWhole) (arg12 : Memref sig .tc .vmem S256x512 .bf16) (harg12 : arg12.IsWhole) (arg13 : Memref sig .tc .vmem S1024x128 .bf16) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x256 .f32) (harg17 : arg17.IsWhole) (arg18 : Memref sig .tc .vmem S1024x512 .bf16) (harg18 : arg18.IsWhole) (arg19 : Memref sig .tc .vmem S1024x128 .f32) (harg19 : arg19.IsWhole) (arg20 : Memref sig .tc .vmem S1024x128 .f32) (harg20 : arg20.IsWhole) (arg21 : Memref sig .tc .vmem S3x1024x128 .f32) (harg21 : arg21.IsWhole)
  (x0 : Vec Ideal S256x512 .bf16) (x1 : Vec Ideal S256x128 .bf16) (x2 : Vec Ideal S256x128 .bf16) (x3 : Vec Ideal S1x1x4096x256 .bf16) (x4 : Vec Ideal S4096x128 .bf16) (x8 : Vec Ideal S64x256 .f32)

/-- The second loop writes nothing. -/
theorem second_loop (v0 w v1189 v1194 v1226 : BitVec 32) (X6 : BufTy.Contents (Elt Ideal) arg6.view.ty) (X7 : BufTy.Contents (Elt Ideal) arg7.view.ty) (X14 : BufTy.Contents (Elt Ideal) arg14.view.ty)
    (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 w v1189 v1194 v1226 X6 X7 X14 f15 f16 f17 f18 (Scf.trips (k0_t2_loop i).lb (k0_t2_loop i).ub (k0_t2_loop i).st) = ([], [], [], []) := by
  have h : Scf.trips (k0_t2_loop i).lb (k0_t2_loop i).ub (k0_t2_loop i).st = 0 := trips2_eq i
  rw [h, pb_k0_t2.eq_1]

/-- The largest scores the loop leaves. -/
theorem v1267_eq : (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = arg15.view.read (Elt Ideal) (arg15.view.writes (Elt Ideal) (arg15.view.writes (Elt Ideal) arg15.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kernelRun0_A.sl.v0 i) 512#32 (kernelRun0_A.sl.v1189 i) (kernelRun0_A.sl.v1194 i) (harg6.unread x3) (harg7.unread x4) (arg14.view.writes (Elt Ideal) arg14.view.junk (kernelRun0_A.sl.HS1_8 (F := Ideal) c i arg3 harg3 arg4 harg4 arg5 harg5 arg11 harg11 arg13 x0 x1 x2 x8)) (arg15.view.writes (Elt Ideal) arg15.view.junk (kernelRun0_A.sl.HS2_1 (F := Ideal))) (arg16.view.writes (Elt Ideal) arg16.view.junk (kernelRun0_A.sl.HS3_1 (F := Ideal))) (arg17.view.writes (Elt Ideal) arg17.view.junk (kernelRun0_A.sl.HS4_1 (F := Ideal))) (arg18.view.writes (Elt Ideal) arg18.view.junk (kernelRun0_A.sl.HS5_1 (F := Ideal))) (Scf.trips (k0_t1_loop i).lb (k0_t1_loop i).ub (k0_t1_loop i).st)).1) := by
  unfold kernelRun0_A.sl.v1267
  exact cov_append _ _ _ _ (congrArg (fun z => z.1) (second_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _)) _

/-- The factors the loop leaves. -/
theorem v1252_eq : (kernelRun0_A.sl.v1252 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = arg16.view.read (Elt Ideal) (arg16.view.writes (Elt Ideal) (arg16.view.writes (Elt Ideal) arg16.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kernelRun0_A.sl.v0 i) 512#32 (kernelRun0_A.sl.v1189 i) (kernelRun0_A.sl.v1194 i) (harg6.unread x3) (harg7.unread x4) (arg14.view.writes (Elt Ideal) arg14.view.junk (kernelRun0_A.sl.HS1_8 (F := Ideal) c i arg3 harg3 arg4 harg4 arg5 harg5 arg11 harg11 arg13 x0 x1 x2 x8)) (arg15.view.writes (Elt Ideal) arg15.view.junk (kernelRun0_A.sl.HS2_1 (F := Ideal))) (arg16.view.writes (Elt Ideal) arg16.view.junk (kernelRun0_A.sl.HS3_1 (F := Ideal))) (arg17.view.writes (Elt Ideal) arg17.view.junk (kernelRun0_A.sl.HS4_1 (F := Ideal))) (arg18.view.writes (Elt Ideal) arg18.view.junk (kernelRun0_A.sl.HS5_1 (F := Ideal))) (Scf.trips (k0_t1_loop i).lb (k0_t1_loop i).ub (k0_t1_loop i).st)).2.1) := by
  unfold kernelRun0_A.sl.v1252
  exact cov_append _ _ _ _ (congrArg (fun z => z.2.1) (second_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _)) _

/-- The sums the loop leaves. -/
theorem v1254_eq : (kernelRun0_A.sl.v1254 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = arg17.view.read (Elt Ideal) (arg17.view.writes (Elt Ideal) (arg17.view.writes (Elt Ideal) arg17.view.junk (kernelRun0_A.sl.HS4_1 (F := Ideal))) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kernelRun0_A.sl.v0 i) 512#32 (kernelRun0_A.sl.v1189 i) (kernelRun0_A.sl.v1194 i) (harg6.unread x3) (harg7.unread x4) (arg14.view.writes (Elt Ideal) arg14.view.junk (kernelRun0_A.sl.HS1_8 (F := Ideal) c i arg3 harg3 arg4 harg4 arg5 harg5 arg11 harg11 arg13 x0 x1 x2 x8)) (arg15.view.writes (Elt Ideal) arg15.view.junk (kernelRun0_A.sl.HS2_1 (F := Ideal))) (arg16.view.writes (Elt Ideal) arg16.view.junk (kernelRun0_A.sl.HS3_1 (F := Ideal))) (arg17.view.writes (Elt Ideal) arg17.view.junk (kernelRun0_A.sl.HS4_1 (F := Ideal))) (arg18.view.writes (Elt Ideal) arg18.view.junk (kernelRun0_A.sl.HS5_1 (F := Ideal))) (Scf.trips (k0_t1_loop i).lb (k0_t1_loop i).ub (k0_t1_loop i).st)).2.2.1) := by
  unfold kernelRun0_A.sl.v1254
  exact cov_append _ _ _ _ (congrArg (fun z => z.2.2.1) (second_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _)) _

/-- The weights the loop leaves. -/
theorem v1246_eq : (kernelRun0_A.sl.v1246 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = arg18.view.read (Elt Ideal) (arg18.view.writes (Elt Ideal) (arg18.view.writes (Elt Ideal) arg18.view.junk (kernelRun0_A.sl.HS5_1 (F := Ideal))) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kernelRun0_A.sl.v0 i) 512#32 (kernelRun0_A.sl.v1189 i) (kernelRun0_A.sl.v1194 i) (harg6.unread x3) (harg7.unread x4) (arg14.view.writes (Elt Ideal) arg14.view.junk (kernelRun0_A.sl.HS1_8 (F := Ideal) c i arg3 harg3 arg4 harg4 arg5 harg5 arg11 harg11 arg13 x0 x1 x2 x8)) (arg15.view.writes (Elt Ideal) arg15.view.junk (kernelRun0_A.sl.HS2_1 (F := Ideal))) (arg16.view.writes (Elt Ideal) arg16.view.junk (kernelRun0_A.sl.HS3_1 (F := Ideal))) (arg17.view.writes (Elt Ideal) arg17.view.junk (kernelRun0_A.sl.HS4_1 (F := Ideal))) (arg18.view.writes (Elt Ideal) arg18.view.junk (kernelRun0_A.sl.HS5_1 (F := Ideal))) (Scf.trips (k0_t1_loop i).lb (k0_t1_loop i).ub (k0_t1_loop i).st)).2.2.2) := by
  unfold kernelRun0_A.sl.v1246
  exact cov_append _ _ _ _ (congrArg (fun z => z.2.2.2) (second_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _)) _

/-- The last sums are a step's. -/
theorem v1298_eq : (kernelRun0_A.sl.v1298 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = fold (k0_pay124 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
      (k0_pay119 (F := Ideal) (kernelRun0_A.sl.v1246 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (arg7.view.readAt (Elt Ideal) (Rect.unit (s := S4096x128) (k0_off7 i) S512x128.size (Facts₀.k0_off7_inb i)).toLoadRect (harg7.unread x4)) (kernelRun0_A.sl.v1252 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (kernelRun0_A.sl.v1254 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
      (k0_pay123 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
      (arg7.view.readAt (Elt Ideal) (Rect.unit (s := S4096x128) (k0_off8 i) S512x128.size (Facts₀.k0_off8_inb i)).toLoadRect (harg7.unread x4)) := by
  have e1 : (kernelRun0_A.sl.v1288 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = k0_pay124 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) := by
    unfold kernelRun0_A.sl.v1288 kernelRun0_A.sl.HS3_1_1
    exact (View.readCov_full _ _ _ _ _).trans rfl
  have e2 : (kernelRun0_A.sl.v1290 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = (k0_pay119 (F := Ideal) (kernelRun0_A.sl.v1246 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (arg7.view.readAt (Elt Ideal) (Rect.unit (s := S4096x128) (k0_off7 i) S512x128.size (Facts₀.k0_off7_inb i)).toLoadRect (harg7.unread x4)) (kernelRun0_A.sl.v1252 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (kernelRun0_A.sl.v1254 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8)) := by
    unfold kernelRun0_A.sl.v1290 kernelRun0_A.sl.HS4_1_1
    exact (View.readCov_full _ _ _ _ _).trans rfl
  have e3 : (kernelRun0_A.sl.v1292 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) = k0_pay123 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) := by
    unfold kernelRun0_A.sl.v1292 kernelRun0_A.sl.HS5_1_1
    exact (View.readCov_full _ _ _ _ _).trans rfl
  rw [← e1, ← e2, ← e3]
  rfl

variable (P : Fin 1024 → Fin 64 → Prop) (q : Fin 1024 → Fin 128 → ℝ) (K V : Fin 4096 → Fin 128 → ℝ) (T : Fin 1024 → ℕ)
  (hQ : ∀ r (l : Fin 128), (kernelRun0_A.sl.v1241 (F := Ideal) c i arg3 harg3 arg4 harg4 arg5 harg5 arg11 harg11 arg13 arg14 x0 x1 x2 x8) (ix2 r ⟨l.val, lane_lo l⟩) = ((q r l : ℝ) : EReal))
  (hB : ∀ r (l : Fin 128), (kernelRun0_A.sl.v1241 (F := Ideal) c i arg3 harg3 arg4 harg4 arg5 harg5 arg11 harg11 arg13 arg14 x0 x1 x2 x8) (ix2 r ⟨128 + l.val, lane_hi l⟩)
    = if h : l.val < 64 then (if P r ⟨l.val, h⟩ then (0 : EReal) else ⊥) else 0)
  (hK : ∀ k (l : Fin 128), x3 (ix4 (0 : Fin 1) (0 : Fin 1) k ⟨l.val, lane_lo l⟩) = ((K k l : ℝ) : EReal))
  (hO : ∀ k (l : Fin 128), x3 (ix4 (0 : Fin 1) (0 : Fin 1) k ⟨128 + l.val, lane_hi l⟩) = if l.val = (blk k).val then (1 : EReal) else 0)
  (hV : ∀ k (d : Fin 128), x4 (ix2 k d) = ((V k d : ℝ) : EReal))
  (hT : ∀ r, T r = (tile i).val * 256 + (qy r).val)

include hQ hB hK hO hV hT in
/-- The selected branch: the attention over the selected blocks' keys up to the query. -/
theorem selected_apply (r : Fin 1024) (d : Fin 128) :
    (kernelRun0_A.sl.v1298 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (ix2 r ⟨d.val, lane_lo d⟩) * Ideal.div 1 ((kernelRun0_A.sl.v1298 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (ix2 r ⟨128 + d.val, lane_hi d⟩))
      = ((attn (pick (P r) (T r)) (raw (q r) K) (fun k => V k d) : ℝ) : EReal) := by
  have e14 : (kernelRun0_A.sl.v1241 (F := Ideal) c i arg3 harg3 arg4 harg4 arg5 harg5 arg11 harg11 arg13 arg14 x0 x1 x2 x8) = arg14.view.read (Elt Ideal) (arg14.view.writes (Elt Ideal) arg14.view.junk (kernelRun0_A.sl.HS1_8 (F := Ideal) c i arg3 harg3 arg4 harg4 arg5 harg5 arg11 harg11 arg13 x0 x1 x2 x8)) := View.readAt_full _ _ _
  have hti := (tile i).isLt
  have htr : (k0_t1_loop i).trips = (tile i).val / 2 := trips_eq i
  have hw : ((k0_t1_loop i).trips - 1) * 512 + 512 ≤ 4096 := by omega
  have ho : (k0_t1_loop i).trips * 512 + 512 ≤ 4096 := by omega
  have I0 := loop_inv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kernelRun0_A.sl.v0 i) 512#32 (kernelRun0_A.sl.v1189 i) (kernelRun0_A.sl.v1194 i) (X6 := harg6.unread x3) (X7 := harg7.unread x4) (X14 := (arg14.view.writes (Elt Ideal) arg14.view.junk (kernelRun0_A.sl.HS1_8 (F := Ideal) c i arg3 harg3 arg4 harg4 arg5 harg5 arg11 harg11 arg13 x0 x1 x2 x8))) P q K V T
    (fun r l => (congrFun e14 _).symm.trans (hQ r l)) (fun r l => (congrFun e14 _).symm.trans (hB r l))
    (fun k l => (congrFun (harg6.read_unread x3) _).trans (hK k l)) (fun k l => (congrFun (harg6.read_unread x3) _).trans (hO k l))
    (fun k l => (congrFun (harg7.read_unread x4) _).trans (hV k l)) (fun r => by rw [hT r]; omega)
    (arg15.view.writes (Elt Ideal) arg15.view.junk (kernelRun0_A.sl.HS2_1 (F := Ideal))) (arg16.view.writes (Elt Ideal) arg16.view.junk (kernelRun0_A.sl.HS3_1 (F := Ideal))) (arg17.view.writes (Elt Ideal) arg17.view.junk (kernelRun0_A.sl.HS4_1 (F := Ideal))) (arg18.view.writes (Elt Ideal) arg18.view.junk (kernelRun0_A.sl.HS5_1 (F := Ideal))) (key 0 (by decide))
    ((Inv.start _).congr (View.read_writes_full _ _ _ _ _) (View.read_writes_full _ _ _ _ _) (View.read_writes_full _ _ _ _ _) (View.read_writes_full _ _ _ _ _)) rfl
    _ (le_refl (k0_t1_loop i).trips) hw _ rfl
  have I1 := I0.congr (m' := (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8)) (α' := (kernelRun0_A.sl.v1252 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8)) (acc' := (kernelRun0_A.sl.v1254 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8)) (p' := (kernelRun0_A.sl.v1246 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
    (v1267_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (v1252_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (v1254_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (v1246_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8)
  have e10 : (kernelRun0_A.sl.r_10 (F := Ideal) c i arg3 harg3 arg4 harg4 arg5 harg5 arg6 harg6 arg11 harg11 arg13 arg14 x0 x1 x2 x3 x8) = k0_pay120 (F := Ideal) (kernelRun0_A.sl.v1241 (F := Ideal) c i arg3 harg3 arg4 harg4 arg5 harg5 arg11 harg11 arg13 arg14 x0 x1 x2 x8) (arg6.view.readAt (Elt Ideal) (Rect.unit (s := S1x1x4096x256) (k0_off6 i) S1x1x512x256.size (Facts₀.k0_off6_inb i)).toLoadRect (harg6.unread x3)) := rfl
  have hs : ∀ r j, k0_pay121 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (ix2 r j) = sc (pick (P r) (T r)) (raw (q r) K) (key ((k0_t1_loop i).trips * 512) ho j) := fun r j =>
    (congrArg (fun z => k0_pay121 (F := Ideal) (kernelRun0_A.sl.r_9 (F := Ideal) i) z (ix2 r j)) e10).trans <| pay121_apply P q K _ hQ hB _ (key ((k0_t1_loop i).trips * 512) ho)
      (fun j l => (read_keys (arg6.view.read (Elt Ideal) (harg6.unread x3)) _ ho ((off6_eq i).trans (by rw [htr])) (Facts₀.k0_off6_inb i) j _).trans ((congrFun (harg6.read_unread x3) _).trans (hK _ l)))
      (fun j l => (read_keys (arg6.view.read (Elt Ideal) (harg6.unread x3)) _ ho ((off6_eq i).trans (by rw [htr])) (Facts₀.k0_off6_inb i) j _).trans ((congrFun (harg6.read_unread x3) _).trans (hO _ l)))
      T _ (fun r j => by
        have h : (kernelRun0_A.sl.r_9 (F := Ideal) i) (ix2 (qy r) j) = _ := (congrArg (fun z => k0_pay118 (F := Ideal) (kernelRun0_A.sl.v3 i) z 512#32 (ix2 (qy r) j)) (v1205_eq i)).trans <| pay118_apply (kernelRun0_A.sl.v3 i) (fun t => (tile i).val * 256 + t.val) (fun t => by have := t.isLt; omega) (v3_apply i) ((tile i).val / 2) (by omega) (qy r) j
        refine h.trans ?_
        have e : (key ((k0_t1_loop i).trips * 512) ho j).val = (tile i).val / 2 * 512 + j.val := by
          show (k0_t1_loop i).trips * 512 + j.val = _
          rw [htr]
        exact if_congr (by rw [hT r, e]) rfl rfl) r j
  have I2 := I1.step ho
    (arg7.view.readAt (Elt Ideal) (Rect.unit (s := S4096x128) (k0_off7 i) S512x128.size (Facts₀.k0_off7_inb i)).toLoadRect (harg7.unread x4))
    (fun j d => (read_values (arg7.view.read (Elt Ideal) (harg7.unread x4)) _ hw ((off7_eq i).trans (by rw [htr])) (Facts₀.k0_off7_inb i) j d).trans ((congrFun (harg7.read_unread x4) _).trans (hV _ d))) _ hs
    (k0_pay122 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8)) (k0_pay124 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
    (k0_pay119 (F := Ideal) (kernelRun0_A.sl.v1246 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (arg7.view.readAt (Elt Ideal) (Rect.unit (s := S4096x128) (k0_off7 i) S512x128.size (Facts₀.k0_off7_inb i)).toLoadRect (harg7.unread x4)) (kernelRun0_A.sl.v1252 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (kernelRun0_A.sl.v1254 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
    (k0_pay123 (F := Ideal) (kernelRun0_A.sl.r_9 (F := Ideal) i) (kernelRun0_A.sl.r_10 (F := Ideal) c i arg3 harg3 arg4 harg4 arg5 harg5 arg6 harg6 arg11 harg11 arg13 arg14 x0 x1 x2 x3 x8) (kernelRun0_A.sl.v1267 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8))
    (fun r t => pay122_apply _ _ _ r t) (fun r t => by unfold k0_pay124; rw [shapeCast_self]; rfl)
    (fun r c => by unfold k0_pay119; rw [shapeCast_self]; rfl) (fun r j => pay123_apply _ _ _ r j)
  have hfin : before (pick (P r) (T r)) ((k0_t1_loop i).trips * 512 + 512) = pick (P r) (T r) := by
    ext k
    simp only [before, pick, Finset.mem_filter, Finset.mem_univ, true_and]
    have := hT r; have := (qy r).isLt
    constructor
    · rintro ⟨h, _⟩; exact h
    · intro h; exact ⟨h, by have := h.2; omega⟩
  rw [v1298_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8]
  exact I2.result _ (fun j d => (read_values (arg7.view.read (Elt Ideal) (harg7.unread x4)) _ ho ((off8_eq i).trans (by rw [htr])) (Facts₀.k0_off8_inb i) j d).trans ((congrFun (harg7.read_unread x4) _).trans (hV _ d))) r hfin d

end Run

end Cert.Branch

end
-- ==== Proof.Buffers.lean ====
/-
  What the block finds in the buffers it fills piece by piece: the queries stacked head by head, the queries beside
  the selected blocks' biases, and the gates; and its output, four heads side by side.
-/
module

public import proofs.«01_k».proof.Proof.Diag
public import proofs.«01_k».proof.Proof.Gen.KernelIdeal.Frame

@[expose] public section

set_option maxRecDepth 100000

noncomputable section

namespace Cert.Branch

open Idealize.ShloMosaic Idealize.ShloMosaic.ValueIdx Idealize.ShloMosaic.TcCoe Idealize.SL.Sem
open Cert.KernelIdeal Cert.KernelIdeal.Gen Cert.Attn Cert.Rows
open scoped BigOperators
open Classical

/-- The column of a head's lane. -/
def col (h : Fin 4) (l : Fin 128) : Fin 512 := ⟨h.val * 128 + l.val, by omega⟩

/-- The lane of a head's gate. -/
def gateLane (h : Fin 4) (br : Fin 3) : Fin 128 := ⟨3 * h.val + br.val, by omega⟩

/-- A head's columns, read. -/
theorem head_read (arg3 : Memref sig .tc .vmem S256x512 .bf16) (harg3 : arg3.IsWhole) (x0 : Vec Ideal S256x512 .bf16) (o : ℕ) (ho : o + 128 ≤ 512)
    (inb : ∀ a, (![0, o] : Fin 2 → ℕ) a + S256x128.size a ≤ S256x512.size a) (h) (x : S256x128.Idx) :
    shapeCast S256x128 (arg3.view.readAt (Elt Ideal) (Rect.unit (s := S256x512) ![0, o] S256x128.size inb).toLoadRect (harg3.unread x0)) h x
      = x0 (ix2 (⟨(x 0).val, (x 0).isLt⟩ : Fin 256) (⟨o + (x 1).val, by have h1 : (x 1).val < 128 := (x 1).isLt; omega⟩ : Fin 512)) := by
  refine (congrFun (shapeCast_self (s := S256x128) _ h) x).trans ?_
  refine (congrFun (harg3.read_unread x0) _).trans (congrArg x0 (funext fun a => Fin.ext ?_))
  match a with
  | ⟨0, _⟩ => show 0 + 1 * (x 0).val = (x 0).val; omega
  | ⟨1, _⟩ => show o + 1 * (x 1).val = o + (x 1).val; omega

/-- The stacked queries as a function of the place. -/
def stacked (x0 : Vec Ideal S256x512 .bf16) (r : ℕ) (l : ℕ) (hr : r < 1024) (hl : l < 128) : EReal :=
  x0 (ix2 (⟨r % 256, by omega⟩ : Fin 256) (⟨r / 256 * 128 + l, by omega⟩ : Fin 512))

/-- A head's rows of the stacked queries. -/
theorem stacked_piece (x0 : Vec Ideal S256x512 .bf16) (h : ℕ) (hh : h < 4) (t l : ℕ) (ht : t < 256) (hl : l < 128) (r : ℕ) (hr : r < 1024) (l' : ℕ) (hl' : l' < 128)
    (e : r = h * 256 + t) (e' : l' = l) (o : ℕ) (ho : o = h * 128) (ho' : o + l < 512) :
    x0 (ix2 (⟨t, ht⟩ : Fin 256) (⟨o + l, ho'⟩ : Fin 512)) = stacked x0 r l' hr hl' := by
  subst e e' ho
  have e1 : (h * 256 + t) % 256 = t := by omega
  have e2 : (h * 256 + t) / 256 = h := by omega
  refine congrArg x0 (funext fun a => Fin.ext ?_)
  match a with
  | ⟨0, _⟩ => exact e1.symm
  | ⟨1, _⟩ => exact (congrArg (fun z => z * 128 + l') e2).symm

/-- One lane of the gates, copied along the lanes. -/
theorem gate_piece (y : FVec Ideal S256x128 .f32) (n : ℕ) (hn : n < 128) (h1 h2 h3 h4) (x : S1x256x128.Idx) :
    shapeCast S1x256x128 (broadcastTo S256x128 (shapeCast S256x1 (extractStridedSlice S256x1 ![0, n] y h1) h2) h3) h4 x
      = y (ix2 (⟨(x 1).val, (x 1).isLt⟩ : Fin 256) (⟨n, hn⟩ : Fin 128)) := by
  obtain ⟨u, t, d, rfl⟩ : ∃ (u : Fin 1) (t : Fin 256) (d : Fin 128), x = ix3 u t d := ⟨x 0, x 1, x 2, eq_ix3 x⟩
  obtain rfl : u = 0 := Subsingleton.elim _ _
  refine (shapeCast_ab_1ab_apply _ _ _ _ _).trans ((rep_lane_apply _ _ _ _).trans ?_)
  rw [shapeCast_self]
  refine (slice2_axis1_apply n _ _ t (0 : Fin 1) ⟨n, hn⟩ rfl).trans rfl

/-- The gates as a function of the place. -/
def gates (y : FVec Ideal S256x128 .f32) (b r : ℕ) (hb : b < 3) (hr : r < 1024) : EReal :=
  y (ix2 (⟨r % 256, by omega⟩ : Fin 256) (⟨3 * (r / 256) + b, by omega⟩ : Fin 128))

/-- A head's rows of one branch's gates. -/
theorem gates_piece (y : FVec Ideal S256x128 .f32) (h b : ℕ) (hh : h < 4) (t : ℕ) (ht : t < 256) (b' r : ℕ) (hb' : b' < 3) (hr : r < 1024)
    (e : r = h * 256 + t) (e' : b' = b) (n : ℕ) (hn : n = 3 * h + b) (hn' : n < 128) :
    y (ix2 (⟨t, ht⟩ : Fin 256) (⟨n, hn'⟩ : Fin 128)) = gates y b' r hb' hr := by
  subst e e' hn
  have e1 : (h * 256 + t) % 256 = t := by omega
  have e2 : (h * 256 + t) / 256 = h := by omega
  refine congrArg y (funext fun a => Fin.ext ?_)
  match a with
  | ⟨0, _⟩ => exact e1.symm
  | ⟨1, _⟩ => exact (congrArg (fun z => 3 * z + b') e2).symm

section Run

variable (c : Dev nD) (i : grid0.Coords) (arg3 : Memref sig .tc .vmem S256x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x1x4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S256x128 .bf16) (harg10 : arg10.IsWhole) (arg11 : Memref sig .tc .vmem S64x256 .f32) (harg11 : arg11.IsWhole) (arg12 : Memref sig .tc .vmem S256x512 .bf16) (harg12 : arg12.IsWhole) (arg13 : Memref sig .tc .vmem S1024x128 .bf16) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x256 .f32) (harg17 : arg17.IsWhole) (arg18 : Memref sig .tc .vmem S1024x512 .bf16) (harg18 : arg18.IsWhole) (arg19 : Memref sig .tc .vmem S1024x128 .f32) (harg19 : arg19.IsWhole) (arg20 : Memref sig .tc .vmem S1024x128 .f32) (harg20 : arg20.IsWhole) (arg21 : Memref sig .tc .vmem S3x1024x128 .f32) (harg21 : arg21.IsWhole)
  (x0 : Vec Ideal S256x512 .bf16) (x1 : Vec Ideal S256x128 .bf16) (x2 : Vec Ideal S256x128 .bf16) (x3 : Vec Ideal S1x1x4096x256 .bf16) (x4 : Vec Ideal S4096x128 .bf16) (x5 : Vec Ideal S4096x128 .bf16) (x6 : Vec Ideal S4096x128 .bf16) (x7 : Vec Ideal S256x128 .bf16) (x8 : Vec Ideal S64x256 .f32)

/-- The stacked queries. -/
theorem v111_apply (r : Fin 1024) (l : Fin 128) : (kernelRun0_A.sl.v111 (F := Ideal) c arg3 harg3 arg13 x0) (ix2 r l) = x0 (ix2 (qy r) (col (hd r) l)) := by
  have key : ∀ y : S1024x128.Idx, arg13.view.read (Elt Ideal) (arg13.view.writes (Elt Ideal) arg13.view.junk (kernelRun0_A.sl.HS0_4 (F := Ideal) c arg3 harg3 x0)) y = stacked x0 (y 0).val (y 1).val (y 0).isLt (y 1).isLt := fun y => by
    refine View.read_writes_apply_of_pieces (Val := Elt Ideal) arg13.view _ (fun y => stacked x0 (y 0).val (y 1).val (y 0).isLt (y 1).isLt) _ ?_ y
      (View.cover_of_tiledL (s := S1024x128) _ S256x128.size (by sl_kernel_rfl) y)
    unfold kernelRun0_A.sl.HS0_4
    refine List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩
    · exact (head_read arg3 harg3 x0 384 (by decide) _ _ x).trans (stacked_piece x0 3 (by decide) _ _ (x 0).isLt (x 1).isLt _ _ _ _ (by show 768 + 1 * (x 0).val = _; omega) (by show 0 + 1 * (x 1).val = _; omega) _ rfl _)
    · exact (head_read arg3 harg3 x0 256 (by decide) _ _ x).trans (stacked_piece x0 2 (by decide) _ _ (x 0).isLt (x 1).isLt _ _ _ _ (by show 512 + 1 * (x 0).val = _; omega) (by show 0 + 1 * (x 1).val = _; omega) _ rfl _)
    · exact (head_read arg3 harg3 x0 128 (by decide) _ _ x).trans (stacked_piece x0 1 (by decide) _ _ (x 0).isLt (x 1).isLt _ _ _ _ (by show 256 + 1 * (x 0).val = _; omega) (by show 0 + 1 * (x 1).val = _; omega) _ rfl _)
    · exact (head_read arg3 harg3 x0 0 (by decide) _ _ x).trans (stacked_piece x0 0 (by decide) _ _ (x 0).isLt (x 1).isLt _ _ _ _ (by show 0 + 1 * (x 0).val = _; omega) (by show 0 + 1 * (x 1).val = _; omega) _ rfl _)
  exact (congrFun (View.readAt_full arg13.view _ _) (ix2 r l)).trans (key (ix2 r l))

/-- The queries beside the selected blocks' biases. -/
theorem v1241_key (y : S1024x256.Idx) : (kernelRun0_A.sl.v1241 (F := Ideal) c i arg3 harg3 arg4 harg4 arg5 harg5 arg11 harg11 arg13 arg14 x0 x1 x2 x8) y = if h : (y 1).val < 128 then stacked x0 (y 0).val (y 1).val (y 0).isLt h
      else (kernelRun0_A.sl.v1167 (F := Ideal) c i arg3 harg3 arg4 harg4 arg5 harg5 arg11 harg11 arg13 x0 x1 x2 x8) (ix2 (⟨(y 0).val % 256, Nat.mod_lt _ (by decide)⟩ : Fin 256) (⟨(y 1).val - 128, by have h : (y 1).val < 256 := (y 1).isLt; omega⟩ : Fin 128)) := by
  refine (congrFun (View.readAt_full arg14.view _ _) y).trans ?_
  refine View.read_writes_apply_of_pieces (Val := Elt Ideal) arg14.view _ (fun y : S1024x256.Idx => if h : (y 1).val < 128 then stacked x0 (y 0).val (y 1).val (y 0).isLt h
      else (kernelRun0_A.sl.v1167 (F := Ideal) c i arg3 harg3 arg4 harg4 arg5 harg5 arg11 harg11 arg13 x0 x1 x2 x8) (ix2 (⟨(y 0).val % 256, Nat.mod_lt _ (by decide)⟩ : Fin 256) (⟨(y 1).val - 128, by have h : (y 1).val < 256 := (y 1).isLt; omega⟩ : Fin 128))) _ ?_ y
    (View.cover_of_tiledL (s := S1024x256) _ S256x128.size (by sl_kernel_rfl) y)
  have low : ∀ (z : EReal) (y : S1024x256.Idx) (h : (y 1).val < 128), z = stacked x0 (y 0).val (y 1).val (y 0).isLt h →
      z = (if h : (y 1).val < 128 then stacked x0 (y 0).val (y 1).val (y 0).isLt h
      else (kernelRun0_A.sl.v1167 (F := Ideal) c i arg3 harg3 arg4 harg4 arg5 harg5 arg11 harg11 arg13 x0 x1 x2 x8) (ix2 (⟨(y 0).val % 256, Nat.mod_lt _ (by decide)⟩ : Fin 256) (⟨(y 1).val - 128, by have h : (y 1).val < 256 := (y 1).isLt; omega⟩ : Fin 128))) := fun z y h e => by
    rw [dif_pos h]; exact e
  have high : ∀ (x : S256x128.Idx) (k : ℕ) (y : S1024x256.Idx) (_ : (y 0).val = k * 256 + (x 0).val) (_ : (y 1).val = 128 + (x 1).val), (kernelRun0_A.sl.v1167 (F := Ideal) c i arg3 harg3 arg4 harg4 arg5 harg5 arg11 harg11 arg13 x0 x1 x2 x8) x
      = (if h : (y 1).val < 128 then stacked x0 (y 0).val (y 1).val (y 0).isLt h
      else (kernelRun0_A.sl.v1167 (F := Ideal) c i arg3 harg3 arg4 harg4 arg5 harg5 arg11 harg11 arg13 x0 x1 x2 x8) (ix2 (⟨(y 0).val % 256, Nat.mod_lt _ (by decide)⟩ : Fin 256) (⟨(y 1).val - 128, by have h : (y 1).val < 256 := (y 1).isLt; omega⟩ : Fin 128))) := fun x k y e0 e1 => by
    have hx : (x 0).val < 256 := (x 0).isLt
    rw [dif_neg (by omega)]
    refine congrArg (kernelRun0_A.sl.v1167 (F := Ideal) c i arg3 harg3 arg4 harg4 arg5 harg5 arg11 harg11 arg13 x0 x1 x2 x8) (funext fun a => Fin.ext ?_)
    match a with
    | ⟨0, _⟩ => show (x 0).val = (y 0).val % 256; omega
    | ⟨1, _⟩ => show (x 1).val = (y 1).val - 128; omega
  unfold kernelRun0_A.sl.HS1_8
  refine List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩
  · exact high x 3 _ (by show 768 + 1 * (x 0).val = _; omega) (by show 128 + 1 * (x 1).val = _; omega)
  · exact low _ _ (by have h : (x 1).val < 128 := (x 1).isLt; show 0 + 1 * (x 1).val < 128; omega) ((head_read arg3 harg3 x0 384 (by decide) _ _ x).trans (stacked_piece x0 3 (by decide) _ _ (x 0).isLt (x 1).isLt _ _ _ _ (by show 768 + 1 * (x 0).val = _; omega) (by show 0 + 1 * (x 1).val = _; omega) _ rfl _))
  · exact high x 2 _ (by show 512 + 1 * (x 0).val = _; omega) (by show 128 + 1 * (x 1).val = _; omega)
  · exact low _ _ (by have h : (x 1).val < 128 := (x 1).isLt; show 0 + 1 * (x 1).val < 128; omega) ((head_read arg3 harg3 x0 256 (by decide) _ _ x).trans (stacked_piece x0 2 (by decide) _ _ (x 0).isLt (x 1).isLt _ _ _ _ (by show 512 + 1 * (x 0).val = _; omega) (by show 0 + 1 * (x 1).val = _; omega) _ rfl _))
  · exact high x 1 _ (by show 256 + 1 * (x 0).val = _; omega) (by show 128 + 1 * (x 1).val = _; omega)
  · exact low _ _ (by have h : (x 1).val < 128 := (x 1).isLt; show 0 + 1 * (x 1).val < 128; omega) ((head_read arg3 harg3 x0 128 (by decide) _ _ x).trans (stacked_piece x0 1 (by decide) _ _ (x 0).isLt (x 1).isLt _ _ _ _ (by show 256 + 1 * (x 0).val = _; omega) (by show 0 + 1 * (x 1).val = _; omega) _ rfl _))
  · exact high x 0 _ (by show 0 + 1 * (x 0).val = _; omega) (by show 128 + 1 * (x 1).val = _; omega)
  · exact low _ _ (by have h : (x 1).val < 128 := (x 1).isLt; show 0 + 1 * (x 1).val < 128; omega) ((head_read arg3 harg3 x0 0 (by decide) _ _ x).trans (stacked_piece x0 0 (by decide) _ _ (x 0).isLt (x 1).isLt _ _ _ _ (by show 0 + 1 * (x 0).val = _; omega) (by show 0 + 1 * (x 1).val = _; omega) _ rfl _))

/-- Its first 128 lanes are the queries. -/
theorem v1241_low (r : Fin 1024) (l : Fin 128) : (kernelRun0_A.sl.v1241 (F := Ideal) c i arg3 harg3 arg4 harg4 arg5 harg5 arg11 harg11 arg13 arg14 x0 x1 x2 x8) (ix2 r ⟨l.val, lane_lo l⟩) = x0 (ix2 (qy r) (col (hd r) l)) :=
  (v1241_key c i arg3 harg3 arg4 harg4 arg5 harg5 arg11 harg11 arg13 arg14 x0 x1 x2 x8 _).trans (dif_pos (show l.val < 128 from l.isLt))

/-- Its next 128 lanes are the biases. -/
theorem v1241_high (r : Fin 1024) (l : Fin 128) : (kernelRun0_A.sl.v1241 (F := Ideal) c i arg3 harg3 arg4 harg4 arg5 harg5 arg11 harg11 arg13 arg14 x0 x1 x2 x8) (ix2 r ⟨128 + l.val, lane_hi l⟩) = (kernelRun0_A.sl.v1167 (F := Ideal) c i arg3 harg3 arg4 harg4 arg5 harg5 arg11 harg11 arg13 x0 x1 x2 x8) (ix2 (qy r) l) := by
  refine (v1241_key c i arg3 harg3 arg4 harg4 arg5 harg5 arg11 harg11 arg13 arg14 x0 x1 x2 x8 _).trans ((dif_neg (show ¬ 128 + l.val < 128 by omega)).trans ?_)
  refine congrArg (kernelRun0_A.sl.v1167 (F := Ideal) c i arg3 harg3 arg4 harg4 arg5 harg5 arg11 harg11 arg13 x0 x1 x2 x8) (funext fun a => Fin.ext ?_)
  match a with
  | ⟨0, _⟩ => rfl
  | ⟨1, _⟩ => show 128 + l.val - 128 = l.val; omega

/-- The gates' buffer. -/
theorem gates_key (y : S3x1024x128.Idx) : arg21.view.read (Elt Ideal) (arg21.view.writes (Elt Ideal) arg21.view.junk (kernelRun0_A.sl.HS8_12 (F := Ideal) c arg10 harg10 x7)) y = gates (kernelRun0_A.sl.v12 (F := Ideal) c arg10 harg10 x7) (y 0).val (y 1).val (y 0).isLt (y 1).isLt := by
  refine View.read_writes_apply_of_pieces (Val := Elt Ideal) arg21.view _ (fun y : S3x1024x128.Idx => gates (kernelRun0_A.sl.v12 (F := Ideal) c arg10 harg10 x7) (y 0).val (y 1).val (y 0).isLt (y 1).isLt) _ ?_ y
    (View.cover_of_tiledL (s := S3x1024x128) _ S1x256x128.size (by sl_kernel_rfl) y)
  have piece : ∀ (h b : ℕ) (hh : h < 4) (x : S1x256x128.Idx) (n : ℕ) (hn' : n < 128) (hn : n = 3 * h + b) (y : S3x1024x128.Idx) (_ : (y 0).val = b + 1 * (x 0).val) (_ : (y 1).val = h * 256 + 1 * (x 1).val) (h1 h2 h3 h4),
      shapeCast S1x256x128 (broadcastTo S256x128 (shapeCast S256x1 (extractStridedSlice S256x1 ![0, n] (kernelRun0_A.sl.v12 (F := Ideal) c arg10 harg10 x7) h1) h2) h3) h4 x = gates (kernelRun0_A.sl.v12 (F := Ideal) c arg10 harg10 x7) (y 0).val (y 1).val (y 0).isLt (y 1).isLt :=
    fun h b hh x n hn' hn y e0 e1 h1 h2 h3 h4 =>
      (gate_piece (kernelRun0_A.sl.v12 (F := Ideal) c arg10 harg10 x7) n hn' h1 h2 h3 h4 x).trans (gates_piece (kernelRun0_A.sl.v12 (F := Ideal) c arg10 harg10 x7) h b hh _ (x 1).isLt _ _ _ _ (by omega) (by have h : (x 0).val < 1 := (x 0).isLt; omega) n hn hn')
  unfold kernelRun0_A.sl.HS8_12
  refine List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩⟩
  · exact piece 3 2 (by decide) x 11 (by decide) rfl _ rfl rfl (by decide) (by decide) (by decide) (by decide)
  · exact piece 3 1 (by decide) x 10 (by decide) rfl _ rfl rfl (by decide) (by decide) (by decide) (by decide)
  · exact piece 3 0 (by decide) x 9 (by decide) rfl _ rfl rfl (by decide) (by decide) (by decide) (by decide)
  · exact piece 2 2 (by decide) x 8 (by decide) rfl _ rfl rfl (by decide) (by decide) (by decide) (by decide)
  · exact piece 2 1 (by decide) x 7 (by decide) rfl _ rfl rfl (by decide) (by decide) (by decide) (by decide)
  · exact piece 2 0 (by decide) x 6 (by decide) rfl _ rfl rfl (by decide) (by decide) (by decide) (by decide)
  · exact piece 1 2 (by decide) x 5 (by decide) rfl _ rfl rfl (by decide) (by decide) (by decide) (by decide)
  · exact piece 1 1 (by decide) x 4 (by decide) rfl _ rfl rfl (by decide) (by decide) (by decide) (by decide)
  · exact piece 1 0 (by decide) x 3 (by decide) rfl _ rfl rfl (by decide) (by decide) (by decide) (by decide)
  · exact piece 0 2 (by decide) x 2 (by decide) rfl _ rfl rfl (by decide) (by decide) (by decide) (by decide)
  · exact piece 0 1 (by decide) x 1 (by decide) rfl _ rfl rfl (by decide) (by decide) (by decide) (by decide)
  · exact piece 0 0 (by decide) x 0 (by decide) rfl _ rfl rfl (by decide) (by decide) (by decide) (by decide)

/-- One branch's gates, read. -/
theorem gates_read (br : Fin 3) (inb : ∀ a, (![br.val, 0, 0] : Fin 3 → ℕ) a + S1x1024x128.size a ≤ S3x1024x128.size a) (r : Fin 1024) (d : Fin 128) :
    arg21.view.readCov (kernelRun0_A.sl.HS8_12 (F := Ideal) c arg10 harg10 x7) (Rect.unit (s := S3x1024x128) ![br.val, 0, 0] S1x1024x128.size inb).toLoadRect (ix3 (0 : Fin 1) r d) = (kernelRun0_A.sl.v12 (F := Ideal) c arg10 harg10 x7) (ix2 (qy r) (gateLane (hd r) br)) := by
  refine (gates_key c arg10 harg10 arg21 x7 _).trans (congrArg (kernelRun0_A.sl.v12 (F := Ideal) c arg10 harg10 x7) (funext fun a => Fin.ext ?_))
  have e : 0 + 1 * r.val = r.val := by omega
  match a with
  | ⟨0, _⟩ => show (0 + 1 * r.val) % 256 = r.val % 256; rw [e]
  | ⟨1, _⟩ => show 3 * ((0 + 1 * r.val) / 256) + (br.val + 1 * 0) = 3 * (r.val / 256) + br.val; rw [e]; omega

/-- The gates: the logistic function of the gates' scores. -/
theorem v12_apply (t : Fin 256) (n : Fin 128) : (kernelRun0_A.sl.v12 (F := Ideal) c arg10 harg10 x7) (ix2 t n) = Ideal.div 1 (1 + Ideal.exp (0 - x7 (ix2 t n))) := by
  have e5 : (kernelRun0_A.sl.v5 (F := Ideal) c arg10 harg10 x7) (ix2 t n) = x7 (ix2 t n) := (congrFun (View.readAt_full arg10.view (harg10.unread x7) _) _).trans (congrFun (harg10.read_unread x7) _)
  have e1 : (kernelRun0_A.sl.cst_1 (F := Ideal) : EReal) = 1 := Ideal.ofBits_one_f32
  have e0 : (kernelRun0_A.sl.cst (F := Ideal) : EReal) = 0 := Ideal.ofBits_zero_f32
  show Ideal.div (kernelRun0_A.sl.cst_1 (F := Ideal)) (kernelRun0_A.sl.cst_1 (F := Ideal) + Ideal.exp (kernelRun0_A.sl.cst (F := Ideal) - (kernelRun0_A.sl.v5 (F := Ideal) c arg10 harg10 x7) (ix2 t n))) = _
  rw [e5, e1, e0]

/-- The three branches' results, each times its gate, added. -/
theorem pay127_apply (a : FVec Ideal S1024x256 .f32) (g0 : FVec Ideal S1x1024x128 .f32) (oc : FVec Ideal S1024x128 .f32) (g1 g2 : FVec Ideal S1x1024x128 .f32) (ow : FVec Ideal S1024x128 .f32) (r : Fin 1024) (d : Fin 128) :
    k0_pay127 (F := Ideal) a g0 oc g1 g2 ow (ix2 r d) = g0 (ix3 0 r d) * oc (ix2 r d)
      + g1 (ix3 0 r d) * (a (ix2 r ⟨d.val, lane_lo d⟩) * Ideal.div 1 (a (ix2 r ⟨128 + d.val, lane_hi d⟩))) + g2 (ix3 0 r d) * ow (ix2 r d) := by
  have e1 : (Ideal.ofBits .f32 0x3F800000#32 : EReal) = 1 := Ideal.ofBits_one_f32
  unfold k0_pay127
  show shapeCast S1024x128 g0 _ (ix2 r d) * oc (ix2 r d) + shapeCast S1024x128 g1 _ (ix2 r d) * (extractStridedSlice S1024x128 ![0, 0] a _ (ix2 r d) * Ideal.div (Ideal.ofBits .f32 0x3F800000#32) (extractStridedSlice S1024x128 ![0, 128] a _ (ix2 r d)))
    + shapeCast S1024x128 g2 _ (ix2 r d) * ow (ix2 r d) = _
  rw [e1, shapeCast_1ab_ab_apply, shapeCast_1ab_ab_apply, shapeCast_1ab_ab_apply, slice2_axis1_apply 0 a _ r d ⟨d.val, lane_lo d⟩ (by show d.val = 0 + d.val; omega),
    slice2_axis1_apply 128 a _ r d ⟨128 + d.val, lane_hi d⟩ rfl]

/-- The output: a head's rows in its columns. -/
theorem out_apply (t : Fin 256) (h : Fin 4) (d : Fin 128) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 (ix2 t (col h d)) = (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) (ix2 (row h t) d) := by
  have slice : ∀ (o : ℕ) (ho : o + 256 ≤ 1024) (hs) (x : S256x128.Idx), truncf .bf16 (extractStridedSlice S256x128 ![o, 0] (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) hs) bitsLt_bf16_f32 x
      = (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) (ix2 (⟨o + (x 0).val, by have h : (x 0).val < 256 := (x 0).isLt; omega⟩ : Fin 1024) (⟨(x 1).val, (x 1).isLt⟩ : Fin 128)) := fun o ho hs x => by
    obtain ⟨t, d, rfl⟩ : ∃ (t : Fin 256) (d : Fin 128), x = ix2 t d := ⟨x 0, x 1, eq_ix2 x⟩
    exact slice2_axis0_apply o (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) hs t d ⟨o + t.val, by have := t.isLt; omega⟩ rfl
  let G : S256x512.Idx → EReal := fun y => (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) (ix2 (⟨(y 1).val / 128 * 256 + (y 0).val, by have h0 : (y 0).val < 256 := (y 0).isLt; have h1 : (y 1).val < 512 := (y 1).isLt; omega⟩ : Fin 1024) (⟨(y 1).val % 128, Nat.mod_lt _ (by decide)⟩ : Fin 128))
  have at_ : ∀ (k : ℕ) (x : S256x128.Idx) (hx : k * 256 + (x 0).val < 1024) (y : S256x512.Idx) (_ : (y 0).val = (x 0).val) (_ : (y 1).val = k * 128 + (x 1).val),
      (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) (ix2 (⟨k * 256 + (x 0).val, hx⟩ : Fin 1024) (⟨(x 1).val, (x 1).isLt⟩ : Fin 128)) = G y := fun k x hx y e0 e1 => by
    have h1 : (x 1).val < 128 := (x 1).isLt
    refine congrArg (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) (funext fun a => Fin.ext ?_)
    match a with
    | ⟨0, _⟩ => show k * 256 + (x 0).val = (y 1).val / 128 * 256 + (y 0).val; omega
    | ⟨1, _⟩ => show (x 1).val = (y 1).val % 128; omega
  have key : out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 (ix2 t (col h d)) = G (ix2 t (col h d)) := by
    unfold out0_A_9
    refine View.read_writes_apply_of_pieces (Val := Elt Ideal) VO0_9 _ G _ ?_ _ (cover0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 _)
    unfold kernelRun0_A
    dsimp only
    refine List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩
    · exact (slice 768 (by decide) _ x).trans (at_ 3 x _ _ (by show 0 + 1 * (x 0).val = _; omega) (by show 384 + 1 * (x 1).val = _; omega))
    · exact (slice 512 (by decide) _ x).trans (at_ 2 x _ _ (by show 0 + 1 * (x 0).val = _; omega) (by show 256 + 1 * (x 1).val = _; omega))
    · exact (slice 256 (by decide) _ x).trans (at_ 1 x _ _ (by show 0 + 1 * (x 0).val = _; omega) (by show 128 + 1 * (x 1).val = _; omega))
    · exact (slice 0 (by decide) _ x).trans (at_ 0 x _ _ (by show 0 + 1 * (x 0).val = _; omega) (by show 0 + 1 * (x 1).val = _; omega))
  refine key.trans (congrArg (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) (funext fun a => Fin.ext ?_))
  match a with
  | ⟨0, _⟩ => show (h.val * 128 + d.val) / 128 * 256 + t.val = h.val * 256 + t.val; omega
  | ⟨1, _⟩ => show (h.val * 128 + d.val) % 128 = d.val; omega

end Run

end Cert.Branch

end
-- ==== Proof.TopSel.lean ====
/-
  The first positions of a stable descending sort are the positions of small rank, a position's rank being the number of
  positions that beat it: those of a greater value, and those of an equal value that come earlier.
-/
module

public import Idealize.ShloMosaic.PureOps.Ideal.Laws
public import Idealize.ShloMosaic.Lib.SortFacts

@[expose] public section

noncomputable section

namespace Cert.TopSel

open Idealize.ShloMosaic

/-- Position `a` beats position `b`: a greater value, or an equal one at an earlier position. -/
def Beats {n : ℕ} (f : Fin n → EReal) (a b : Fin n) : Prop := f b < f a ∨ (f a = f b ∧ a < b)

theorem beats_irrefl {n : ℕ} (f : Fin n → EReal) (a : Fin n) : ¬ Beats f a a := by
  rintro (h | ⟨_, h⟩) <;> exact lt_irrefl _ h

theorem beats_asymm {n : ℕ} {f : Fin n → EReal} {a b : Fin n} (h : Beats f a b) : ¬ Beats f b a := by
  rintro (h' | ⟨e', h'⟩) <;> rcases h with h | ⟨e, h⟩
  · exact lt_asymm h h'
  · exact absurd h' (by rw [e]; exact lt_irrefl _)
  · exact absurd h (by rw [e']; exact lt_irrefl _)
  · exact lt_asymm h h'

/-- Inserting an earlier position into a list in order leaves it in order. -/
theorem pairwise_insert {n : ℕ} (f : Fin n → EReal) (a : Fin n) (l : List (Fin n)) (ha : ∀ b ∈ l, a < b)
    (hl : l.Pairwise (Beats f)) : (insertBefore (fun x y => decide (f y < f x)) a l).Pairwise (Beats f) := by
  induction l with
  | nil => simp [insertBefore]
  | cons b l ih =>
    obtain ⟨hb, hl'⟩ := List.pairwise_cons.mp hl
    unfold insertBefore
    split
    · next h =>
      have hba : f a < f b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : f b ≤ f a := by simpa using h
      refine List.pairwise_cons.mpr ⟨fun x hx => ?_, hl⟩
      have hle : f x ≤ f a := by
        rcases List.mem_cons.mp hx with rfl | hx'
        · exact hab
        · rcases hb x hx' with h1 | ⟨h1, -⟩
          · exact h1.le.trans hab
          · exact h1 ▸ hab
      rcases hle.lt_or_eq with h1 | h1
      · exact Or.inl h1
      · exact Or.inr ⟨h1.symm, ha x hx⟩

/-- The stable descending sort leaves the positions in order: an earlier one beats a later one. -/
theorem pairwise_sort {n : ℕ} (f : Fin n → EReal) (l : List (Fin n)) (hl : l.Pairwise (· < ·)) :
    (stableSort (fun x y => decide (f y < f x)) l).Pairwise (Beats f) := by
  induction l with
  | nil => simp [stableSort]
  | cons a l ih =>
    obtain ⟨ha, hl'⟩ := List.pairwise_cons.mp hl
    unfold stableSort
    exact pairwise_insert f a _ (fun b hb => ha b ((perm_stableSort _ l).mem_iff.mp hb)) (ih hl')

/-- Of two places of the sort, the earlier one's position beats the later one's. -/
theorem beats_sortedFrom {n : ℕ} (f : Fin n → EReal) (i j : Fin n) (hij : i < j) :
    Beats f (sortedFrom (fun x y => decide (f y < f x)) i) (sortedFrom (fun x y => decide (f y < f x)) j) := by
  have h := pairwise_sort f (List.finRange n) (List.pairwise_lt_finRange n)
  exact List.pairwise_iff_get.mp h _ _ hij

open Classical in
/-- The position at place `k` of the sort is beaten by exactly `k` positions. -/
theorem card_beats_sortedFrom {n : ℕ} (f : Fin n → EReal) (k : Fin n) :
    (Finset.univ.filter fun a => Beats f a (sortedFrom (fun x y => decide (f y < f x)) k)).card = k.val := by
  set σ := sortedFrom (fun x y : Fin n => decide (f y < f x)) with hσ
  have hinj : Function.Injective σ := sortedFrom_injective _
  have : (Finset.univ.filter fun a => Beats f a (σ k)) = (Finset.univ.filter fun i : Fin n => i < k).image σ := by
    ext a
    simp only [Finset.mem_filter, Finset.mem_univ, true_and, Finset.mem_image]
    constructor
    · intro h
      obtain ⟨i, rfl⟩ := sortedFrom_surjective (fun x y : Fin n => decide (f y < f x)) a
      refine ⟨i, ?_, rfl⟩
      rcases lt_trichotomy i k with hik | rfl | hki
      · exact hik
      · exact absurd h (beats_irrefl f _)
      · exact absurd h (beats_asymm (beats_sortedFrom f k i hki))
    · rintro ⟨i, hi, rfl⟩
      exact beats_sortedFrom f i k hi
  rw [this, Finset.card_image_of_injective _ hinj]
  simp [Finset.filter_gt_eq_Iio]

open Classical in
/-- The positions beaten by fewer than `K` positions are the first `K` of the sort. -/
theorem selected_iff {n : ℕ} (f : Fin n → EReal) (K : ℕ) (b : Fin n) :
    (Finset.univ.filter fun a => Beats f a b).card < K
      ↔ ∃ k : Fin n, k.val < K ∧ sortedFrom (fun x y => decide (f y < f x)) k = b := by
  obtain ⟨k, rfl⟩ := sortedFrom_surjective (fun x y : Fin n => decide (f y < f x)) b
  rw [card_beats_sortedFrom]
  constructor
  · intro h; exact ⟨k, h, rfl⟩
  · rintro ⟨k', h, e⟩; rwa [← sortedFrom_injective _ e]

end Cert.TopSel

end
-- ==== Proof.Rank.lean ====
/-
  The choice of 16 of 64 blocks by rank, as the kernel makes it: a block's rank counts, row by row, the blocks whose score is
  greater, or equal and earlier; a block of rank below 16 gets bias zero and any other minus infinity.
-/
module

public import proofs.«01_k».proof.Proof.Window
public import proofs.«01_k».proof.Proof.TopSel

@[expose] public section

set_option maxRecDepth 16384

noncomputable section

namespace Cert.Branch

open Idealize.ShloMosaic Idealize.ShloMosaic.ValueIdx Idealize.ShloMosaic.WordCmp
open Cert.KernelIdeal Cert.KernelIdeal.Gen Cert.Attn Cert.Rows Cert.TopSel
open scoped BigOperators

/-- A row of the score is a slice of it. -/
theorem slices_row (n : ℕ) (h : n < 64) : S64x256.Slices ![n, 0] S1x256 :=
  ⟨rfl, fun a => by
    match a with
    | ⟨0, _⟩ => show n + 1 ≤ 64; omega
    | ⟨1, _⟩ => show 0 + 256 ≤ 256; omega⟩

/-- Where row `n` of the score beats each row: it is greater, or equal and earlier. -/
def beats (v : IVec S64x1 32) (s : FVec Ideal S64x256 .f32) (n : ℕ) (h : n < 64) : IVec S64x256 1 :=
  ori (cmpf .ogt (broadcastTo S64x256 (extractStridedSlice S1x256 ![n, 0] s (slices_row n h)) broadcasts_S1x256_S64x256) s)
    (andi (cmpf .oeq (broadcastTo S64x256 (extractStridedSlice S1x256 ![n, 0] s (slices_row n h)) broadcasts_S1x256_S64x256) s)
      (broadcastTo S64x256 (cmpi .sgt v (broadcast S64x1 (BitVec.ofNat 32 n))) broadcasts_S64x1_S64x256))

/-- The rank counted over the first `n` rows. -/
def rankTo (v : IVec S64x1 32) (s : FVec Ideal S64x256 .f32) : (n : ℕ) → n ≤ 64 → FVec Ideal S64x256 .f32
  | 0, _ => broadcast S64x256 (Scalar.ofBits (F := Ideal) .f32 0x00000000#32)
  | n + 1, h => addf (rankTo v s n (Nat.le_of_succ_le h))
      (select (beats v s n h) (broadcast S64x256 (Scalar.ofBits (F := Ideal) .f32 0x3F800000#32))
        (broadcast S64x256 (Scalar.ofBits (F := Ideal) .f32 0x00000000#32)))

open Classical in
/-- `beats` at a block and a query, for a column that numbers the blocks. -/
theorem beats_apply (v : IVec S64x1 32) (hv : ∀ j : Fin 64, v (ix2 j 0) = BitVec.ofNat 32 j.val) (s : FVec Ideal S64x256 .f32)
    (n : ℕ) (h : n < 64) (j : Fin 64) (t : Fin 256) :
    beats v s n h (ix2 j t) = BitVec.ofBool (decide (Beats (fun k : Fin 64 => s (ix2 k t)) ⟨n, h⟩ j)) := by
  have hs : broadcastTo S64x256 (extractStridedSlice S1x256 ![n, 0] s (slices_row n h)) broadcasts_S1x256_S64x256 (ix2 j t) = s (ix2 ⟨n, h⟩ t) :=
    (broadcastTo_1b_ab_apply _ _ _ _).trans (slice2_axis0_apply n _ _ _ _ ⟨n, h⟩ (by simp))
  have hb : broadcastTo S64x256 (cmpi .sgt v (broadcast S64x1 (BitVec.ofNat 32 n))) broadcasts_S64x1_S64x256 (ix2 j t)
      = BitVec.ofBool (decide (n < j.val)) := by
    refine (rep_lane_apply _ _ j t).trans ?_
    show IntOp.cmpi .sgt (v (ix2 j 0)) (BitVec.ofNat 32 n) = _
    rw [hv]
    exact cmpi_sgt_ofNat (by omega) (by omega)
  show IntOp.ori (FloatOps.cmpf .ogt (broadcastTo S64x256 _ _ (ix2 j t)) (s (ix2 j t)))
    (IntOp.andi (FloatOps.cmpf .oeq (broadcastTo S64x256 _ _ (ix2 j t)) (s (ix2 j t))) (broadcastTo S64x256 _ _ (ix2 j t))) = _
  rw [hs, hb]
  show IntOp.ori (BitVec.ofBool (decide _)) (IntOp.andi (BitVec.ofBool (decide _)) _) = _
  rw [WordCmp.andi_ofBool, WordCmp.ori_ofBool]
  refine congrArg BitVec.ofBool ?_
  rw [← Bool.decide_and, ← Bool.decide_or]
  exact decide_eq_decide.2 Iff.rfl

open Classical in
/-- The rank so far is the number of the rows so far that beat the block. -/
theorem rankTo_apply (v : IVec S64x1 32) (hv : ∀ j : Fin 64, v (ix2 j 0) = BitVec.ofNat 32 j.val) (s : FVec Ideal S64x256 .f32)
    (n : ℕ) (h : n ≤ 64) (j : Fin 64) (t : Fin 256) :
    rankTo v s n h (ix2 j t)
      = (((Finset.univ.filter fun a : Fin 64 => a.val < n ∧ Beats (fun k : Fin 64 => s (ix2 k t)) a j).card : ℝ) : EReal) := by
  induction n with
  | zero => exact Ideal.ofBits_zero_f32.trans (by simp)
  | succ n ih =>
    refine (congrArg₂ (· + ·) (ih (Nat.le_of_succ_le h)) (select_congr (beats_apply v hv s n h j t) Ideal.ofBits_one_f32 Ideal.ofBits_zero_f32)).trans ?_
    rw [select_ofBool]
    have e : (Finset.univ.filter fun a : Fin 64 => a.val < n + 1 ∧ Beats (fun k : Fin 64 => s (ix2 k t)) a j)
        = (Finset.univ.filter fun a : Fin 64 => a.val < n ∧ Beats (fun k : Fin 64 => s (ix2 k t)) a j)
          ∪ (if Beats (fun k : Fin 64 => s (ix2 k t)) ⟨n, h⟩ j then {⟨n, h⟩} else ∅) := by
      ext a
      by_cases hb : Beats (fun k : Fin 64 => s (ix2 k t)) ⟨n, h⟩ j
      · simp only [if_pos hb, Finset.mem_filter, Finset.mem_univ, true_and, Finset.mem_union, Finset.mem_singleton]
        constructor
        · rintro ⟨h1, h2⟩
          rcases Nat.lt_succ_iff_lt_or_eq.1 h1 with h1 | h1
          · exact Or.inl ⟨h1, h2⟩
          · exact Or.inr (Fin.ext h1)
        · rintro (⟨h1, h2⟩ | rfl)
          · exact ⟨by omega, h2⟩
          · exact ⟨Nat.lt_succ_self _, hb⟩
      · simp only [if_neg hb, Finset.mem_filter, Finset.mem_univ, true_and, Finset.union_empty]
        constructor
        · rintro ⟨h1, h2⟩
          rcases Nat.lt_succ_iff_lt_or_eq.1 h1 with h1 | h1
          · exact ⟨h1, h2⟩
          · exact absurd ((Fin.ext h1 : a = ⟨n, h⟩) ▸ h2) hb
        · rintro ⟨h1, h2⟩
          exact ⟨by omega, h2⟩
    rw [e, Finset.card_union_of_disjoint]
    · split
      · rw [Finset.card_singleton]; push_cast; rfl
      · rw [Finset.card_empty]; push_cast; rfl
    · split
      · simp
      · simp

/-- Two stacks of 64 rows, at a row of the first. -/
theorem stack_low {α : Type} (x y : (⟨2, ![64, 256]⟩ : Shape).Idx → α)
    (hc : Shape.Concatenates [⟨2, ![64, 256]⟩, ⟨2, ![64, 256]⟩] ⟨2, ![128, 256]⟩ 0) (l : Fin 128) (h : l.val < 64) (t : Fin 256) :
    concatenate ⟨2, ![128, 256]⟩ 0 [⟨⟨2, ![64, 256]⟩, x⟩, ⟨⟨2, ![64, 256]⟩, y⟩] hc (ix2 l t) = x (ix2 ⟨l.val, h⟩ t) :=
  concatenate_pair_apply_left 0 x y hc _ rfl _ fun b => by
    match b with
    | ⟨0, _⟩ => rfl
    | ⟨1, _⟩ => rfl

/-- Two stacks of 64 rows, at a row of the second. -/
theorem stack_high {α : Type} (x y : (⟨2, ![64, 256]⟩ : Shape).Idx → α)
    (hc : Shape.Concatenates [⟨2, ![64, 256]⟩, ⟨2, ![64, 256]⟩] ⟨2, ![128, 256]⟩ 0) (l : Fin 128) (h : ¬ l.val < 64) (t : Fin 256) :
    concatenate ⟨2, ![128, 256]⟩ 0 [⟨⟨2, ![64, 256]⟩, x⟩, ⟨⟨2, ![64, 256]⟩, y⟩] hc (ix2 l t) = y (ix2 ⟨l.val - 64, by omega⟩ t) :=
  concatenate_pair_apply_right 0 x y hc _ rfl rfl _ (fun b hb => by
    match b, hb with
    | ⟨0, _⟩, hb => exact absurd rfl hb
    | ⟨1, _⟩, _ => rfl) (by show l.val - 64 + 64 = l.val; omega)

open Classical in
/-- The bias of a block for a query: zero for a block that fewer than 16 blocks beat, minus infinity otherwise; and zero on
the lanes beyond the blocks. -/
theorem pay99_apply (v : IVec S64x1 32) (hv : ∀ j : Fin 64, v (ix2 j 0) = BitVec.ofNat 32 j.val) (s : FVec Ideal S64x256 .f32)
    (t : Fin 256) (l : Fin 128) :
    k0_pay99 (F := Ideal) v s (rankTo v s 61 (by decide)) (beats v s 61 (by decide)) (Scalar.ofBits .f32 0x3F800000#32) (Scalar.ofBits .f32 0x00000000#32) (ix2 t l)
      = if h : l.val < 64 then
          (if (Finset.univ.filter fun a : Fin 64 => Beats (fun k : Fin 64 => s (ix2 k t)) a ⟨l.val, h⟩).card < 16 then (0 : EReal) else ⊥)
        else 0 := by
  have hr : ∀ j : Fin 64, Scalar.select (FloatOps.cmpf .olt (rankTo v s 64 le_rfl (ix2 j t)) (Ideal.ofBits .f32 0x41800000#32))
      (Ideal.ofBits .f32 0x00000000#32) (Named.named (F := Ideal) Cert.KernelIdeal.κ "mask" (φ := .f32) 0xF149F2CA#32)
      = if (Finset.univ.filter fun a : Fin 64 => Beats (fun k : Fin 64 => s (ix2 k t)) a j).card < 16 then (0 : EReal) else ⊥ := fun j => by
    rw [rankTo_apply v hv, Ideal.ofBits_zero_f32, mask_eq]
    have h16 : Ideal.ofBits .f32 0x41800000#32 = ((16 : ℝ) : EReal) := by
      simp [Ideal.ofBits, Ideal.ieee]; rw [← EReal.coe_mul]; norm_num
    rw [h16]
    show Scalar.select (BitVec.ofBool (decide _)) _ _ = _
    rw [select_ofBool]
    refine if_congr ?_ rfl rfl
    rw [EReal.coe_lt_coe_iff]
    have : (Finset.univ.filter fun a : Fin 64 => a.val < 64 ∧ Beats (fun k : Fin 64 => s (ix2 k t)) a j)
        = Finset.univ.filter fun a : Fin 64 => Beats (fun k : Fin 64 => s (ix2 k t)) a j :=
      Finset.filter_congr fun a _ => and_iff_right a.isLt
    rw [this]
    exact_mod_cast Iff.rfl
  unfold k0_pay99
  rw [truncf_apply]
  show transpose S256x128 [1, 0] (_ : S128x256.Idx → EReal) transposes_S128x256_p1_0_S256x128 (ix2 t l) = _
  refine (transpose_ix2_apply _ _ _ _).trans ?_
  by_cases h : l.val < 64
  · rw [dif_pos h]
    exact (stack_low _ _ _ l h t).trans (hr ⟨l.val, h⟩)
  · rw [dif_neg h]
    exact (stack_high _ _ _ l h t).trans Ideal.ofBits_zero_f32

/-- The score the kernel gives a block that is always chosen. -/
def forced : EReal := Ideal.ofBits .f32 0x7149F2CA#32

/-- The score of block `j` for a query at position `T`: the first block, the query's own and the one before it are always
chosen; another that begins at or before the query has its importance; the rest have minus infinity. -/
def score (imp : Fin 64 → ℝ) (T : ℕ) (j : Fin 64) : EReal :=
  if j.val = 0 ∨ j.val = T / 64 ∨ j.val + 1 = T / 64 then forced else if j.val * 64 ≤ T then ((imp j : ℝ) : EReal) else ⊥

/-- The kernel's test that a quotient was rounded towards zero from below never fires on a position. -/
theorem no_round : ∀ t : Fin 4096,
    IntOp.andi (IntOp.cmpi .ne (IntOp.subi ((IntOp.cmpi .sgt (BitVec.ofNat 32 t.val) 0#32).setWidth 32) ((IntOp.cmpi .slt (BitVec.ofNat 32 t.val) 0#32).setWidth 32))
        (Scalar.subi (Scalar.extui (Scalar.cmpi .sgt 64#32 0#32)) (Scalar.extui (Scalar.cmpi .slt 64#32 0#32))))
      (IntOp.cmpi .ne (IntOp.remsi .vector (BitVec.ofNat 32 t.val) 64#32) 0#32) = 0#1 := by decide +kernel

/-- A position's quotient by 64. -/
theorem div_64 : ∀ t : Fin 4096, IntOp.divsi .vector (BitVec.ofNat 32 t.val) 64#32 = BitVec.ofNat 32 (t.val / 64) := by decide +kernel

/-- A block number against a quotient less one. -/
theorem eq_pred {j b : ℕ} (hj : j < 64) (hb : b < 64) :
    IntOp.cmpi .eq (BitVec.ofNat 32 j) (IntOp.subi (BitVec.ofNat 32 b) 1#32) = BitVec.ofBool (decide (j + 1 = b)) := by
  have : ∀ j b : Fin 64, IntOp.cmpi .eq (BitVec.ofNat 32 j.val) (IntOp.subi (BitVec.ofNat 32 b.val) 1#32) = BitVec.ofBool (decide (j.val + 1 = b.val)) := by
    decide +kernel
  exact this ⟨j, hj⟩ ⟨b, hb⟩

/-- The score at a block and a query. -/
theorem pay41_apply (T : Fin 256 → ℕ) (hT : ∀ t, T t < 4096) (imp : FVec Ideal S64x256 .f32) (IMP : Fin 256 → Fin 64 → ℝ)
    (hi : ∀ j t, imp (ix2 j t) = ((IMP t j : ℝ) : EReal)) (v0 : BitVec 32)
    (hv : ∀ t : Fin 256, k0_pay37 v0 (ix2 0 t) = BitVec.ofNat 32 (T t)) (v : IVec S64x1 32) (hj : ∀ j : Fin 64, v (ix2 j 0) = BitVec.ofNat 32 j.val)
    (j : Fin 64) (t : Fin 256) :
    k0_pay41 (F := Ideal) imp (k0_pay37 v0) v (k0_pay38 v0) (k0_pay39 v0) (k0_pay40 v0) (ix2 j t) = score (IMP t) (T t) j := by
  have hd : T t / 64 < 64 := by have := hT t; omega
  have h38 : k0_pay38 v0 (ix2 0 t) = BitVec.ofNat 32 (T t / 64) := by
    show IntOp.divsi .vector (k0_pay37 v0 (ix2 0 t)) 64#32 = _
    rw [hv]; exact div_64 ⟨T t, hT t⟩
  have h39 : k0_pay39 v0 (ix2 0 t) = 0#1 := by
    refine Eq.trans ?_ (no_round ⟨T t, hT t⟩)
    show IntOp.andi (IntOp.cmpi .ne (IntOp.subi ((IntOp.cmpi .sgt (k0_pay37 v0 (ix2 0 t)) 0#32).setWidth 32) ((IntOp.cmpi .slt (k0_pay37 v0 (ix2 0 t)) 0#32).setWidth 32)) _)
      (IntOp.cmpi .ne (IntOp.remsi .vector (k0_pay37 v0 (ix2 0 t)) 64#32) 0#32) = _
    rw [hv]; rfl
  have hq : Scalar.select (k0_pay39 v0 (ix2 0 t)) (k0_pay40 v0 (ix2 0 t)) (k0_pay38 v0 (ix2 0 t)) = BitVec.ofNat 32 (T t / 64) := by
    rw [h39, h38]; rfl
  unfold k0_pay41
  have row : ∀ x : IVec S1x256 32, broadcastTo S64x256 x broadcasts_S1x256_S64x256 (ix2 j t) = x (ix2 0 t) := fun x => broadcastTo_1b_ab_apply x _ _ _
  have col : ∀ x : IVec S64x1 32, broadcastTo S64x256 x broadcasts_S64x1_S64x256 (ix2 j t) = x (ix2 j 0) := fun x => rep_lane_apply x _ j t
  have col1 : ∀ x : IVec S64x1 1, broadcastTo S64x256 x broadcasts_S64x1_S64x256 (ix2 j t) = x (ix2 j 0) := fun x => rep_lane_apply x _ j t
  show Scalar.select (IntOp.ori (IntOp.ori (broadcastTo S64x256 _ _ (ix2 j t)) (IntOp.cmpi .eq (broadcastTo S64x256 _ _ (ix2 j t)) (broadcastTo S64x256 _ _ (ix2 j t))))
      (IntOp.cmpi .eq (broadcastTo S64x256 _ _ (ix2 j t)) (broadcastTo S64x256 _ _ (ix2 j t)))) forced
    (Scalar.select (IntOp.cmpi .sle (broadcastTo S64x256 _ _ (ix2 j t)) (broadcastTo S64x256 _ _ (ix2 j t))) (imp (ix2 j t)) (Named.named (F := Ideal) Cert.KernelIdeal.κ "mask" (φ := .f32) 0xF149F2CA#32)) = _
  rw [row, row, row, col, col, col1, hi, mask_eq]
  show Scalar.select (IntOp.ori (IntOp.ori (IntOp.cmpi .eq (v (ix2 j 0)) 0#32) (IntOp.cmpi .eq (v (ix2 j 0)) (Scalar.select (k0_pay39 v0 (ix2 0 t)) (k0_pay40 v0 (ix2 0 t)) (k0_pay38 v0 (ix2 0 t)))))
      (IntOp.cmpi .eq (v (ix2 j 0)) (IntOp.subi (Scalar.select (k0_pay39 v0 (ix2 0 t)) (k0_pay40 v0 (ix2 0 t)) (k0_pay38 v0 (ix2 0 t))) 1#32))) forced
    (Scalar.select (IntOp.cmpi .sle (IntOp.muli (v (ix2 j 0)) 64#32) (k0_pay37 v0 (ix2 0 t))) ((IMP t j : ℝ) : EReal) ⊥) = _
  have hm : IntOp.muli (BitVec.ofNat 32 j.val) 64#32 = BitVec.ofNat 32 (j.val * 64) := by
    show BitVec.ofNat 32 j.val * BitVec.ofNat 32 64 = _
    rw [← BitVec.ofNat_mul]
  rw [hq, hj, hv, eq_pred j.isLt hd, hm, cmpi_sle_ofNat (by omega) (by have := hT t; omega), cmpi_eq_ofNat (by omega) (by omega),
    cmpi_eq_ofNat (by omega) (by omega), WordCmp.ori_ofBool, WordCmp.ori_ofBool, select_ofBool,
    ← Bool.decide_or, ← Bool.decide_or, select_ofBool]
  unfold score
  exact if_congr (by rw [or_assoc]) rfl rfl

end Cert.Branch

end
-- ==== Proof.Spec.lean ====
/-
  The layer's attention of one query as real numbers: the compressed, the selected and the window branch, each times
  its gate, added.
-/
module

public import proofs.«01_k».proof.Proof.Chunk
public import proofs.«01_k».proof.Proof.Rank
public import proofs.«01_k».proof.Proof.Window

@[expose] public section

noncomputable section

namespace Cert.Branch

open Idealize.ShloMosaic Cert.Attn
open scoped BigOperators
open Classical

/-- The logistic function. -/
def logis (x : ℝ) : ℝ := 1 / (1 + Real.exp (-x))

/-- The keys of the window that ends at `T`. -/
def window (T : ℕ) : Finset (Fin 4096) := Finset.univ.filter fun k => k.val ≤ T ∧ T < k.val + 512

/-- The importance of a block: the compressed branch's probabilities, added over the heads, weighed by the overlaps. -/
def imp (q : Fin 4 → Fin 128 → ℝ) (KC : Fin 256 → Fin 128 → ℝ) (OV : Fin 64 → Fin 256 → ℝ) (T : ℕ) (j : Fin 64) : ℝ :=
  ∑ n, OV j n * ∑ h, prob (seen T) (raw (q h) KC) n

/-- The selected blocks: those that fewer than sixteen blocks beat. -/
def chosen (I : Fin 64 → ℝ) (T : ℕ) (j : Fin 64) : Prop :=
  (Finset.univ.filter fun a : Fin 64 => TopSel.Beats (score I T) a j).card < 16

/-- The attention's result of the query at `T`, at a head and a lane. -/
def nsa (q : Fin 4 → Fin 128 → ℝ) (KC VC : Fin 256 → Fin 128 → ℝ) (K V KW VW : Fin 4096 → Fin 128 → ℝ) (OV : Fin 64 → Fin 256 → ℝ)
    (g : Fin 4 → Fin 3 → ℝ) (T : ℕ) (h : Fin 4) (d : Fin 128) : ℝ :=
  logis (g h 0) * attn (seen T) (raw (q h) KC) (fun n => VC n d)
    + logis (g h 1) * attn (pick (chosen (imp q KC OV T) T) T) (raw (q h) K) (fun k => V k d)
    + logis (g h 2) * attn (window T) (raw (q h) KW) (fun k => VW k d)

/-- The logistic function of a real, as the kernel computes it. -/
theorem logis_coe (x : ℝ) : Ideal.div 1 (1 + Ideal.exp (0 - (x : EReal))) = ((logis x : ℝ) : EReal) := by
  have h : (0 : EReal) - (x : EReal) = ((-x : ℝ) : EReal) := by rw [zero_sub, EReal.coe_neg]
  have hp : 0 < 1 + Real.exp (-x) := by positivity
  rw [h]
  show Ideal.div 1 (1 + ((Real.exp (-x) : ℝ) : EReal)) = _
  rw [← EReal.coe_one, ← EReal.coe_add, div_coe_pos _ hp]
  rfl

end Cert.Branch

end
-- ==== Proof.Block.lean ====
/-
  One block of the attention: the kernel's output at a row, a head and a lane is the attention's result of that query.
-/
module

public import proofs.«01_k».proof.Proof.Buffers
public import proofs.«01_k».proof.Proof.Spec

@[expose] public section

set_option maxRecDepth 100000

noncomputable section

namespace Cert.Branch

open Idealize.ShloMosaic Idealize.ShloMosaic.ValueIdx Idealize.ShloMosaic.TcCoe Idealize.SL.Sem
open Cert.KernelIdeal Cert.KernelIdeal.Gen Cert.Attn Cert.Rows
open scoped BigOperators
open Classical

/-- The block of keys the window branch loads. -/
theorem off1_eq (i : grid0.Coords) : k0_off1 i = ![(tile i).val * 256 - 512, 0] :=
  (by decide +kernel : ∀ a : Fin 16, k0_off1 (tileAt a) = ![a.val * 256 - 512, 0]) (tile i)

/-- The first query's position. -/
theorem v0_eq (i : grid0.Coords) : (kernelRun0_A.sl.v0 i) = BitVec.ofNat 32 ((tile i).val * 256) :=
  (by decide +kernel : ∀ a : Fin 16, (kernelRun0_A.sl.v0 (tileAt a)) = BitVec.ofNat 32 (a.val * 256)) (tile i)

/-- The queries' positions along the lanes. -/
theorem pos_apply (i : grid0.Coords) (t : Fin 256) : k0_pay37 (kernelRun0_A.sl.v0 i) (ix2 0 t) = BitVec.ofNat 32 ((tile i).val * 256 + t.val) := by
  have e : k0_pay37 (kernelRun0_A.sl.v0 i) (ix2 0 t) = (kernelRun0_A.sl.v0 i) + BitVec.ofNat 32 t.val := by
    unfold k0_pay37
    show _ + iota Kind.tc S1x256 32 [1] _ (ix2 (0 : Fin 1) t) = _
    rw [iota_single_apply]; rfl
  rw [e, v0_eq, BitVec.ofNat_add]

/-- A window's keys within the block loaded. -/
def inBlock (w : ℕ) (hw : w + 768 ≤ 4096) (n : Fin 768) : Fin 4096 := ⟨w + n.val, by omega⟩

/-- The window's keys are all in the block loaded. -/
theorem window_eq (a t : ℕ) (ha : a < 16) (ht : t < 256) (hw : a * 256 - 512 + 768 ≤ 4096) :
    window (a * 256 + t) = (near (a * 256 - 512) (a * 256 + t)).image (inBlock (a * 256 - 512) hw) := by
  ext k
  have hk := k.isLt
  simp only [window, near, Finset.mem_filter, Finset.mem_univ, true_and, Finset.mem_image]
  constructor
  · rintro ⟨h1, h2⟩
    exact ⟨⟨k.val - (a * 256 - 512), by omega⟩, by simp only; omega, Fin.ext (by show a * 256 - 512 + (k.val - (a * 256 - 512)) = k.val; omega)⟩
  · rintro ⟨n, hn, rfl⟩
    simp only [inBlock]
    omega

section Run

variable (c : Dev nD) (i : grid0.Coords) (arg3 : Memref sig .tc .vmem S256x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x1x4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S256x128 .bf16) (harg10 : arg10.IsWhole) (arg11 : Memref sig .tc .vmem S64x256 .f32) (harg11 : arg11.IsWhole) (arg12 : Memref sig .tc .vmem S256x512 .bf16) (harg12 : arg12.IsWhole) (arg13 : Memref sig .tc .vmem S1024x128 .bf16) (harg13 : arg13.IsWhole) (arg14 : Memref sig .tc .vmem S1024x256 .bf16) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x256 .f32) (harg17 : arg17.IsWhole) (arg18 : Memref sig .tc .vmem S1024x512 .bf16) (harg18 : arg18.IsWhole) (arg19 : Memref sig .tc .vmem S1024x128 .f32) (harg19 : arg19.IsWhole) (arg20 : Memref sig .tc .vmem S1024x128 .f32) (harg20 : arg20.IsWhole) (arg21 : Memref sig .tc .vmem S3x1024x128 .f32) (harg21 : arg21.IsWhole)
  (x0 : Vec Ideal S256x512 .bf16) (x1 : Vec Ideal S256x128 .bf16) (x2 : Vec Ideal S256x128 .bf16) (x3 : Vec Ideal S1x1x4096x256 .bf16) (x4 : Vec Ideal S4096x128 .bf16) (x5 : Vec Ideal S4096x128 .bf16) (x6 : Vec Ideal S4096x128 .bf16) (x7 : Vec Ideal S256x128 .bf16) (x8 : Vec Ideal S64x256 .f32)

variable (X0 : Fin 256 → Fin 512 → ℝ) (KC VC : Fin 256 → Fin 128 → ℝ) (K V KW VW : Fin 4096 → Fin 128 → ℝ) (G : Fin 256 → Fin 128 → ℝ) (OV : Fin 64 → Fin 256 → ℝ)
  (h0 : ∀ t n, x0 (ix2 t n) = ((X0 t n : ℝ) : EReal)) (h1 : ∀ n l, x1 (ix2 n l) = ((KC n l : ℝ) : EReal)) (h2 : ∀ n l, x2 (ix2 n l) = ((VC n l : ℝ) : EReal))
  (hK : ∀ k (l : Fin 128), x3 (ix4 (0 : Fin 1) (0 : Fin 1) k ⟨l.val, lane_lo l⟩) = ((K k l : ℝ) : EReal))
  (hO : ∀ k (l : Fin 128), x3 (ix4 (0 : Fin 1) (0 : Fin 1) k ⟨128 + l.val, lane_hi l⟩) = if l.val = (blk k).val then (1 : EReal) else 0)
  (hV : ∀ k (d : Fin 128), x4 (ix2 k d) = ((V k d : ℝ) : EReal))
  (h5 : ∀ k l, x5 (ix2 k l) = ((KW k l : ℝ) : EReal)) (h6 : ∀ k l, x6 (ix2 k l) = ((VW k l : ℝ) : EReal))
  (h7 : ∀ t n, x7 (ix2 t n) = ((G t n : ℝ) : EReal)) (h8 : ∀ j n, x8 (ix2 j n) = ((OV j n : ℝ) : EReal))

/-- The compressed keys' numbers along the lanes. -/
theorem v101_apply (t n : Fin 256) : (kernelRun0_A.sl.v101) (ix2 t n) = BitVec.ofNat 32 n.val := by
  unfold kernelRun0_A.sl.v101
  rw [iota_single_apply]

/-- The blocks' numbers. -/
theorem v208_apply (j : Fin 64) : (kernelRun0_A.sl.v208) (ix2 j 0) = BitVec.ofNat 32 j.val := by
  unfold kernelRun0_A.sl.v208
  rw [iota_single_apply]

include h0 in
/-- The stacked queries are reals. -/
theorem queries (r : Fin 1024) (l : Fin 128) : (kernelRun0_A.sl.v111 (F := Ideal) c arg3 harg3 arg13 x0) (ix2 r l) = ((X0 (qy r) (col (hd r) l) : ℝ) : EReal) :=
  (v111_apply c arg3 harg3 arg13 x0 r l).trans (h0 _ _)

include h1 in
/-- The compressed keys, read. -/
theorem read_kc (n : Fin 256) (l : Fin 128) : (arg4.view.readAt (Elt Ideal) (Rect.unit (s := S256x128) ![0, 0] S256x128.size Facts₀.inb_S256x128_S256x128_0_0).toLoadRect (harg4.unread x1)) (ix2 n l) = ((KC n l : ℝ) : EReal) :=
  (congrFun (View.readAt_full arg4.view (harg4.unread x1) _) _).trans ((congrFun (harg4.read_unread x1) _).trans (h1 n l))

include h2 in
/-- The compressed values, read. -/
theorem read_vc (n : Fin 256) (l : Fin 128) : (arg5.view.readAt (Elt Ideal) (Rect.unit (s := S256x128) ![0, 0] S256x128.size Facts₀.inb_S256x128_S256x128_0_0).toLoadRect (harg5.unread x2)) (ix2 n l) = ((VC n l : ℝ) : EReal) :=
  (congrFun (View.readAt_full arg5.view (harg5.unread x2) _) _).trans ((congrFun (harg5.read_unread x2) _).trans (h2 n l))

include h8 in
/-- The overlaps, read. -/
theorem read_ov (j : Fin 64) (n : Fin 256) : (arg11.view.readAt (Elt Ideal) (Rect.unit (s := S64x256) ![0, 0] S64x256.size Facts₀.inb_S64x256_S64x256_0_0).toLoadRect (harg11.unread x8)) (ix2 j n) = ((OV j n : ℝ) : EReal) :=
  (congrFun (View.readAt_full arg11.view (harg11.unread x8) _) _).trans ((congrFun (harg11.read_unread x8) _).trans (h8 j n))

/-- The block of keys fits. -/
theorem block_fits (i : grid0.Coords) : (tile i).val * 256 - 512 + 768 ≤ 4096 := by have := (tile i).isLt; omega

/-- A block of a window's keys, read. -/
theorem read_block (f : S4096x128.Idx → EReal) (i : grid0.Coords) (h : ∀ a, k0_off1 i a + S768x128.size a ≤ S4096x128.size a) (n : Fin 768) (l : Fin 128) :
    f ((Rect.unit (s := S4096x128) (k0_off1 i) S768x128.size h).toLoadRect.idx (ix2 n l)) = f (ix2 (inBlock ((tile i).val * 256 - 512) (block_fits i) n) l) := by
  have e := off1_eq i
  generalize k0_off1 i = off at h e
  subst e
  refine congrArg f (funext fun a => Fin.ext ?_)
  match a with
  | ⟨0, _⟩ => show (tile i).val * 256 - 512 + 1 * n.val = (tile i).val * 256 - 512 + n.val; omega
  | ⟨1, _⟩ => show 0 + 1 * l.val = l.val; omega

include h0 h1 h2 in
/-- The compressed branch. -/
theorem compressed_apply (r : Fin 1024) (d : Fin 128) : (kernelRun0_A.sl.v1301 (F := Ideal) c i arg3 harg3 arg4 harg4 arg5 harg5 arg13 arg19 x0 x1 x2) (ix2 r d)
    = ((attn (seen ((tile i).val * 256 + (qy r).val)) (raw (fun l => X0 (qy r) (col (hd r) l)) KC) (fun n => VC n d) : ℝ) : EReal) := by
  have hti := (tile i).isLt
  have e : (kernelRun0_A.sl.v1301 (F := Ideal) c i arg3 harg3 arg4 harg4 arg5 harg5 arg13 arg19 x0 x1 x2) = k0_pay32 (F := Ideal) (k0_pay30 (kernelRun0_A.sl.v3 i) (kernelRun0_A.sl.v101) 16#32 (kernelRun0_A.sl.v111 (F := Ideal) c arg3 harg3 arg13 x0) (arg4.view.readAt (Elt Ideal) (Rect.unit (s := S256x128) ![0, 0] S256x128.size Facts₀.inb_S256x128_S256x128_0_0).toLoadRect (harg4.unread x1)) (arg5.view.readAt (Elt Ideal) (Rect.unit (s := S256x128) ![0, 0] S256x128.size Facts₀.inb_S256x128_S256x128_0_0).toLoadRect (harg5.unread x2))) (k0_pay31 (kernelRun0_A.sl.v3 i) (kernelRun0_A.sl.v101) 16#32 (kernelRun0_A.sl.v111 (F := Ideal) c arg3 harg3 arg13 x0) (arg4.view.readAt (Elt Ideal) (Rect.unit (s := S256x128) ![0, 0] S256x128.size Facts₀.inb_S256x128_S256x128_0_0).toLoadRect (harg4.unread x1)) (arg5.view.readAt (Elt Ideal) (Rect.unit (s := S256x128) ![0, 0] S256x128.size Facts₀.inb_S256x128_S256x128_0_0).toLoadRect (harg5.unread x2))) := by
    unfold kernelRun0_A.sl.v1301 kernelRun0_A.sl.HS6_1
    exact (View.readCov_full _ _ _ _ _).trans rfl
  rw [e]
  exact pay32_apply (fun t : Fin 256 => (tile i).val * 256 + t.val) (fun t => by have := t.isLt; show (tile i).val * 256 + t.val < 4096; omega) (kernelRun0_A.sl.v3 i) (v3_apply i) (kernelRun0_A.sl.v101) v101_apply (kernelRun0_A.sl.v111 (F := Ideal) c arg3 harg3 arg13 x0) (fun (r : Fin 1024) (l : Fin 128) => X0 (qy r) (col (hd r) l))
    (queries c arg3 harg3 arg13 x0 X0 h0) _ KC (read_kc arg4 harg4 x1 KC h1) _ VC (read_vc arg5 harg5 x2 VC h2) r d

include h0 h5 h6 in
/-- The window branch. -/
theorem window_apply (r : Fin 1024) (d : Fin 128) : (kernelRun0_A.sl.v1314 (F := Ideal) c i arg3 harg3 arg8 harg8 arg9 harg9 arg13 arg20 x0 x5 x6) (ix2 r d)
    = ((attn (window ((tile i).val * 256 + (qy r).val)) (raw (fun l => X0 (qy r) (col (hd r) l)) KW) (fun k => VW k d) : ℝ) : EReal) := by
  have hti := (tile i).isLt
  have e : (kernelRun0_A.sl.v1314 (F := Ideal) c i arg3 harg3 arg8 harg8 arg9 harg9 arg13 arg20 x0 x5 x6) = k0_pay35 (F := Ideal) (k0_pay33 (kernelRun0_A.sl.v0 i) (kernelRun0_A.sl.v3 i) (kernelRun0_A.sl.v111 (F := Ideal) c arg3 harg3 arg13 x0) (arg8.view.readAt (Elt Ideal) (Rect.unit (s := S4096x128) (k0_off1 i) S768x128.size (Facts₀.k0_off1_inb i)).toLoadRect (harg8.unread x5))) (arg9.view.readAt (Elt Ideal) (Rect.unit (s := S4096x128) (k0_off1 i) S768x128.size (Facts₀.k0_off1_inb i)).toLoadRect (harg9.unread x6)) k0_pay34 := by
    unfold kernelRun0_A.sl.v1314 kernelRun0_A.sl.HS7_1
    exact (View.readCov_full _ _ _ _ _).trans rfl
  rw [e, v0_eq]
  refine (pay35_apply ((tile i).val * 256) (by omega) (fun t : Fin 256 => (tile i).val * 256 + t.val) (fun t => by have := t.isLt; show (tile i).val * 256 + t.val < 4096; omega) (kernelRun0_A.sl.v3 i) (v3_apply i) (kernelRun0_A.sl.v111 (F := Ideal) c arg3 harg3 arg13 x0) (fun (r : Fin 1024) (l : Fin 128) => X0 (qy r) (col (hd r) l))
    (queries c arg3 harg3 arg13 x0 X0 h0) _ (fun n => KW (inBlock _ (block_fits i) n))
    (fun n l => (read_block (arg8.view.read (Elt Ideal) (harg8.unread x5)) i _ n l).trans ((congrFun (harg8.read_unread x5) _).trans (h5 _ l))) _
    (fun n => VW (inBlock _ (block_fits i) n))
    (fun n l => (read_block (arg9.view.read (Elt Ideal) (harg9.unread x6)) i _ n l).trans ((congrFun (harg9.read_unread x6) _).trans (h6 _ l))) r d).trans ?_
  exact congrArg (fun z : ℝ => (z : EReal)) (attn_map (inBlock _ (block_fits i)) (fun a b h => Fin.ext (by have := congrArg Fin.val h; simp only [inBlock] at this; omega)) _ _
    (window_eq _ _ hti (qy r).isLt (block_fits i)) (raw (fun l => X0 (qy r) (col (hd r) l)) KW) (fun k => VW k d))

include h0 h1 h2 h8 in
/-- The selected blocks' biases. -/
theorem biases (r : Fin 1024) (l : Fin 128) : (kernelRun0_A.sl.v1167 (F := Ideal) c i arg3 harg3 arg4 harg4 arg5 harg5 arg11 harg11 arg13 x0 x1 x2 x8) (ix2 (qy r) l)
    = if h : l.val < 64 then (if chosen ((fun t : Fin 256 => imp (fun h l => X0 t (col h l)) KC OV ((tile i).val * 256 + t.val)) (qy r)) ((tile i).val * 256 + (qy r).val) ⟨l.val, h⟩ then (0 : EReal) else ⊥) else 0 := by
  have hti := (tile i).isLt
  have es : ∀ (j : Fin 64) (t : Fin 256), (kernelRun0_A.sl.r_5 (F := Ideal) c i arg3 harg3 arg4 harg4 arg5 harg5 arg11 harg11 arg13 x0 x1 x2 x8) (ix2 j t) = score ((fun t : Fin 256 => imp (fun h l => X0 t (col h l)) KC OV ((tile i).val * 256 + t.val)) t) ((tile i).val * 256 + t.val) j := fun j t => by
    have e204 : (kernelRun0_A.sl.v204 (F := Ideal) c i arg3 harg3 arg4 harg4 arg5 harg5 arg11 harg11 arg13 x0 x1 x2 x8) = k0_pay36 (F := Ideal) (k0_pay29 (kernelRun0_A.sl.v3 i) (kernelRun0_A.sl.v101) 16#32 (kernelRun0_A.sl.v111 (F := Ideal) c arg3 harg3 arg13 x0) (arg4.view.readAt (Elt Ideal) (Rect.unit (s := S256x128) ![0, 0] S256x128.size Facts₀.inb_S256x128_S256x128_0_0).toLoadRect (harg4.unread x1))) (k0_pay31 (kernelRun0_A.sl.v3 i) (kernelRun0_A.sl.v101) 16#32 (kernelRun0_A.sl.v111 (F := Ideal) c arg3 harg3 arg13 x0) (arg4.view.readAt (Elt Ideal) (Rect.unit (s := S256x128) ![0, 0] S256x128.size Facts₀.inb_S256x128_S256x128_0_0).toLoadRect (harg4.unread x1)) (arg5.view.readAt (Elt Ideal) (Rect.unit (s := S256x128) ![0, 0] S256x128.size Facts₀.inb_S256x128_S256x128_0_0).toLoadRect (harg5.unread x2))) (arg11.view.readAt (Elt Ideal) (Rect.unit (s := S64x256) ![0, 0] S64x256.size Facts₀.inb_S64x256_S64x256_0_0).toLoadRect (harg11.unread x8)) := rfl
    have e5 : (kernelRun0_A.sl.r_5 (F := Ideal) c i arg3 harg3 arg4 harg4 arg5 harg5 arg11 harg11 arg13 x0 x1 x2 x8) = k0_pay41 (F := Ideal) (kernelRun0_A.sl.v204 (F := Ideal) c i arg3 harg3 arg4 harg4 arg5 harg5 arg11 harg11 arg13 x0 x1 x2 x8) (k0_pay37 (kernelRun0_A.sl.v0 i)) (kernelRun0_A.sl.v208) (k0_pay38 (kernelRun0_A.sl.v0 i)) (k0_pay39 (kernelRun0_A.sl.v0 i)) (k0_pay40 (kernelRun0_A.sl.v0 i)) := rfl
    rw [e5]
    refine pay41_apply (fun t : Fin 256 => (tile i).val * 256 + t.val) (fun t => by have := t.isLt; show (tile i).val * 256 + t.val < 4096; omega) (kernelRun0_A.sl.v204 (F := Ideal) c i arg3 harg3 arg4 harg4 arg5 harg5 arg11 harg11 arg13 x0 x1 x2 x8) (fun t : Fin 256 => imp (fun h l => X0 t (col h l)) KC OV ((tile i).val * 256 + t.val)) (fun j t => ?_) (kernelRun0_A.sl.v0 i) (pos_apply i) (kernelRun0_A.sl.v208) v208_apply j t
    rw [e204]
    refine (pay36_apply (fun t : Fin 256 => (tile i).val * 256 + t.val) (fun t => by have := t.isLt; show (tile i).val * 256 + t.val < 4096; omega) (kernelRun0_A.sl.v3 i) (v3_apply i) (kernelRun0_A.sl.v101) v101_apply (kernelRun0_A.sl.v111 (F := Ideal) c arg3 harg3 arg13 x0) (fun (r : Fin 1024) (l : Fin 128) => X0 (qy r) (col (hd r) l))
      (queries c arg3 harg3 arg13 x0 X0 h0) _ KC (read_kc arg4 harg4 x1 KC h1) _ _ OV (read_ov arg11 harg11 x8 OV h8) j t).trans ?_
    simp only [imp, hd_row, qy_row]
  have e8 : (kernelRun0_A.sl.r_8 (F := Ideal) c i arg3 harg3 arg4 harg4 arg5 harg5 arg11 harg11 arg13 x0 x1 x2 x8) = k0_pay99 (F := Ideal) (kernelRun0_A.sl.v208) (kernelRun0_A.sl.r_5 (F := Ideal) c i arg3 harg3 arg4 harg4 arg5 harg5 arg11 harg11 arg13 x0 x1 x2 x8) (rankTo (kernelRun0_A.sl.v208) (kernelRun0_A.sl.r_5 (F := Ideal) c i arg3 harg3 arg4 harg4 arg5 harg5 arg11 harg11 arg13 x0 x1 x2 x8) 61 (by decide)) (beats (kernelRun0_A.sl.v208) (kernelRun0_A.sl.r_5 (F := Ideal) c i arg3 harg3 arg4 harg4 arg5 harg5 arg11 harg11 arg13 x0 x1 x2 x8) 61 (by decide)) (Scalar.ofBits .f32 0x3F800000#32) (Scalar.ofBits .f32 0x00000000#32) := rfl
  have e : (kernelRun0_A.sl.v1167 (F := Ideal) c i arg3 harg3 arg4 harg4 arg5 harg5 arg11 harg11 arg13 x0 x1 x2 x8) = (kernelRun0_A.sl.r_8 (F := Ideal) c i arg3 harg3 arg4 harg4 arg5 harg5 arg11 harg11 arg13 x0 x1 x2 x8) := shapeCast_self _ _
  rw [e, e8, pay99_apply (kernelRun0_A.sl.v208) v208_apply (kernelRun0_A.sl.r_5 (F := Ideal) c i arg3 harg3 arg4 harg4 arg5 harg5 arg11 harg11 arg13 x0 x1 x2 x8) (qy r) l]
  have ef : (fun k : Fin 64 => (kernelRun0_A.sl.r_5 (F := Ideal) c i arg3 harg3 arg4 harg4 arg5 harg5 arg11 harg11 arg13 x0 x1 x2 x8) (ix2 k (qy r))) = score ((fun t : Fin 256 => imp (fun h l => X0 t (col h l)) KC OV ((tile i).val * 256 + t.val)) (qy r)) ((tile i).val * 256 + (qy r).val) := funext fun k => es k (qy r)
  rw [ef]
  unfold chosen
  by_cases h : l.val < 64
  · rw [dif_pos h, dif_pos h]
    split_ifs <;> first | rfl | contradiction
  · rw [dif_neg h, dif_neg h]

include h0 h1 h2 hK hO hV h5 h6 h7 h8 in
/-- The block's output at a query, a head and a lane. -/
theorem block_apply (t : Fin 256) (h : Fin 4) (d : Fin 128) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 (ix2 t (col h d))
      = ((nsa (fun h l => X0 t (col h l)) KC VC K V KW VW OV (fun h br => G t (gateLane h br)) ((tile i).val * 256 + t.val) h d : ℝ) : EReal) := by
  have eq := qy_row h t
  have eh := hd_row h t
  have hg : ∀ br : Fin 3, (kernelRun0_A.sl.v12 (F := Ideal) c arg10 harg10 x7) (ix2 (qy (row h t)) (gateLane (hd (row h t)) br)) = ((logis (G t (gateLane h br)) : ℝ) : EReal) := fun br => by
    rw [eq, eh, v12_apply c arg10 harg10 x7, h7, logis_coe]
  have g0 : (kernelRun0_A.sl.v1299 (F := Ideal) c arg10 harg10 arg21 x7) (ix3 0 (row h t) d) = ((logis (G t (gateLane h 0)) : ℝ) : EReal) := (gates_read c arg10 harg10 arg21 x7 0 _ (row h t) d).trans (hg 0)
  have g1 : (kernelRun0_A.sl.v1303 (F := Ideal) c arg10 harg10 arg21 x7) (ix3 0 (row h t) d) = ((logis (G t (gateLane h 1)) : ℝ) : EReal) := (gates_read c arg10 harg10 arg21 x7 1 _ (row h t) d).trans (hg 1)
  have g2 : (kernelRun0_A.sl.v1312 (F := Ideal) c arg10 harg10 arg21 x7) (ix3 0 (row h t) d) = ((logis (G t (gateLane h 2)) : ℝ) : EReal) := (gates_read c arg10 harg10 arg21 x7 2 _ (row h t) d).trans (hg 2)
  have oc := compressed_apply c i arg3 harg3 arg4 harg4 arg5 harg5 arg13 arg19 x0 x1 x2 X0 KC VC h0 h1 h2 (row h t) d
  have ow := window_apply c i arg3 harg3 arg8 harg8 arg9 harg9 arg13 arg20 x0 x5 x6 X0 KW VW h0 h5 h6 (row h t) d
  have os := selected_apply c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8 (fun r => chosen ((fun t : Fin 256 => imp (fun h l => X0 t (col h l)) KC OV ((tile i).val * 256 + t.val)) (qy r)) ((tile i).val * 256 + (qy r).val)) (fun (r : Fin 1024) (l : Fin 128) => X0 (qy r) (col (hd r) l)) K V (fun r => (tile i).val * 256 + (qy r).val)
    (fun r l => (v1241_low c i arg3 harg3 arg4 harg4 arg5 harg5 arg11 harg11 arg13 arg14 x0 x1 x2 x8 r l).trans (h0 _ _))
    (fun r l => (v1241_high c i arg3 harg3 arg4 harg4 arg5 harg5 arg11 harg11 arg13 arg14 x0 x1 x2 x8 r l).trans
      (biases c i arg3 harg3 arg4 harg4 arg5 harg5 arg11 harg11 arg13 x0 x1 x2 x8 X0 KC VC OV h0 h1 h2 h8 r l)) hK hO hV (fun r => rfl) (row h t) d
  rw [out_apply]
  have e11 : (kernelRun0_A.sl.r_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8) = k0_pay127 (F := Ideal) (kernelRun0_A.sl.v1298 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x8) (kernelRun0_A.sl.v1299 (F := Ideal) c arg10 harg10 arg21 x7) (kernelRun0_A.sl.v1301 (F := Ideal) c i arg3 harg3 arg4 harg4 arg5 harg5 arg13 arg19 x0 x1 x2) (kernelRun0_A.sl.v1303 (F := Ideal) c arg10 harg10 arg21 x7) (kernelRun0_A.sl.v1312 (F := Ideal) c arg10 harg10 arg21 x7) (kernelRun0_A.sl.v1314 (F := Ideal) c i arg3 harg3 arg8 harg8 arg9 harg9 arg13 arg20 x0 x5 x6) := rfl
  rw [e11, pay127_apply, g0, g1, g2, os, oc, ow]
  simp only [eq, eh, nsa, EReal.coe_add, EReal.coe_mul]

end Run

end Cert.Branch

end
-- ==== Proof.Result.lean ====
/-
  The attention's result as one function of the four arguments: where each query, key, value and gate is found in them.
-/
module

public import proofs.«01_k».proof.Proof.Spec

@[expose] public section

noncomputable section

namespace Cert.Whole

open Cert.Branch

/-- The row of a batch's token. -/
def tok (b : Fin 4) (T : Fin 4096) : Fin 16384 := ⟨b.val * 4096 + T.val, by omega⟩

/-- The row of a group's compressed block. -/
def crow (b g : Fin 4) (n : Fin 256) : Fin 4096 := ⟨(b.val * 4 + g.val) * 256 + n.val, by omega⟩

/-- The column of a query's lane. -/
def qcol (g h : Fin 4) (l : Fin 128) : Fin 3072 := ⟨g.val * 512 + h.val * 128 + l.val, by omega⟩

/-- The column of a key's lane in the selection branch. -/
def kscol (g : Fin 4) (l : Fin 128) : Fin 3072 := ⟨2048 + (g.val * 128 + l.val), by omega⟩

/-- The column of a key's lane in the window branch. -/
def kwcol (g : Fin 4) (l : Fin 128) : Fin 3072 := ⟨2560 + (g.val * 128 + l.val), by omega⟩

/-- The column of a value's lane in the selection branch. -/
def vscol (g : Fin 4) (l : Fin 128) : Fin 8704 := ⟨1024 + (g.val * 128 + l.val), by omega⟩

/-- The column of a value's lane in the window branch. -/
def vwcol (g : Fin 4) (l : Fin 128) : Fin 8704 := ⟨1536 + (g.val * 128 + l.val), by omega⟩

/-- The column of a lane of a group's gates. -/
def glane (g : Fin 4) (x : Fin 128) : Fin 8704 := ⟨8192 + (g.val * 128 + x.val), by omega⟩

/-- The column of a head's gate of a branch. -/
def gcol (g h : Fin 4) (br : Fin 3) : Fin 8704 := ⟨8192 + (g.val * 128 + (3 * h.val + br.val)), by omega⟩

/-- The overlap weight of a compressed block and a selection block. -/
def overlap (j : Fin 64) (n : Fin 256) : ℝ :=
  if n.val * 16 < j.val * 64 + 64 ∧ j.val * 64 < n.val * 16 + 32 ∧ n.val < 255 then 1 else 0

/-- The attention's result at a token, a group, a head and a lane. -/
def result (ZA : Fin 16384 → Fin 3072 → ℝ) (ZB : Fin 16384 → Fin 8704 → ℝ) (KC VC : Fin 4096 → Fin 128 → ℝ)
    (b : Fin 4) (T : Fin 4096) (g h : Fin 4) (d : Fin 128) : ℝ :=
  nsa (fun h l => ZA (tok b T) (qcol g h l)) (fun n l => KC (crow b g n) l) (fun n l => VC (crow b g n) l)
    (fun k l => ZA (tok b k) (kscol g l)) (fun k l => ZB (tok b k) (vscol g l))
    (fun k l => ZA (tok b k) (kwcol g l)) (fun k l => ZB (tok b k) (vwcol g l))
    overlap (fun h br => ZB (tok b T) (gcol g h br)) T.val h d

end Cert.Whole
-- ==== Proof.Inputs.lean ====
/-
  What each window of the kernel reads at a grid point, in terms of the four arguments.
-/
module

public import proofs.«01_k».proof.Proof.Block
public import proofs.«01_k».proof.Proof.Result
public import proofs.«01_k».proof.Proof.Gen.KernelIdeal.Value
public import Idealize.ShloMosaic.Lib.Claim
public import Idealize.ShloMosaic.Lib.Pointwise
public import Idealize.ShloMosaic.Lib.WordCmp
public import Idealize.ShloMosaic.Lib.Pipeline.ValueKit

@[expose] public section

set_option maxRecDepth 100000

noncomputable section

namespace Cert.Whole

open Idealize.ShloMosaic
open Idealize.ShloMosaic.ValueIdx hiding ix1 ix2 ix3 ix4 ix5
open Idealize.ShloMosaic.WordCmp Idealize.ShloMosaic.TcCoe Idealize.SL.Sem
open Cert.KernelIdeal Cert.KernelIdeal.Gen Cert.Attn Cert.Rows Cert.Branch
open scoped BigOperators

/-- The grid's points in order: batch, group, tile; and the block each window is on at a point. -/
theorem idx : ∀ t : Fin grid0.N,
    (tile (grid0.coords t)).val = t.val % 16
    ∧ win0_0.index t 0 = t.val / 64 * 16 + t.val % 16 ∧ win0_0.index t 1 = t.val / 16 % 4
    ∧ win0_1.index t 0 = t.val / 16 ∧ win0_1.index t 1 = 0
    ∧ win0_2.index t 0 = t.val / 16 ∧ win0_2.index t 1 = 0
    ∧ win0_3.index t 0 = t.val / 64 ∧ win0_3.index t 1 = t.val / 16 % 4 ∧ win0_3.index t 2 = 0 ∧ win0_3.index t 3 = 0
    ∧ win0_4.index t 0 = t.val / 64 ∧ win0_4.index t 1 = 8 + t.val / 16 % 4
    ∧ win0_5.index t 0 = t.val / 64 ∧ win0_5.index t 1 = 20 + t.val / 16 % 4
    ∧ win0_6.index t 0 = t.val / 64 ∧ win0_6.index t 1 = 12 + t.val / 16 % 4
    ∧ win0_7.index t 0 = t.val / 64 * 16 + t.val % 16 ∧ win0_7.index t 1 = 64 + t.val / 16 % 4
    ∧ win0_8.index t 0 = 0 ∧ win0_8.index t 1 = 0
    ∧ win0_9.index t 0 = t.val / 64 * 16 + t.val % 16 ∧ win0_9.index t 1 = t.val / 16 % 4 := by
  decide +kernel

variable (m : (ℓ : Loc nD τ sig) → Buf (Elt Ideal) ℓ) (c : Dev nD)

/-- A set mark is one. -/
theorem uitofp_one (φ : FTy) : FloatOps.uitofp (F := Ideal) φ (1#1) = ((1 : ℝ) : EReal) := by
  show ((((1#1 : BitVec 1).toNat : ℕ) : ℝ) : EReal) = _
  norm_num

/-- A clear mark is zero. -/
theorem uitofp_zero (φ : FTy) : FloatOps.uitofp (F := Ideal) φ (0#1) = ((0 : ℝ) : EReal) := by
  show ((((0#1 : BitVec 1).toNat : ℕ) : ℝ) : EReal) = _
  norm_num

/-- The overlap array the host passes, at an entry. -/
theorem entry39 (j : Fin 64) (n : Fin 256) : V m c main_v39 (ix2 j n) = ((overlap j n : ℝ) : EReal) := by
  show StableHlo.after ([hostOps0, hostOps0_1, hostOps0_2].flatten) _ (Proc.devRef .tc main_v39) (ix2 j n) = _
  simp only [List.flatten_cons, List.flatten_nil, List.append_nil, StableHlo.after_append]
  after_results_simp
  pointwise
  have hj := j.isLt
  have hn := n.isLt
  rw [muli_ofNat, muli_ofNat, addi_ofNat, addi_ofNat, cmpi_slt_ofNat (by omega) (by omega), cmpi_sgt_ofNat (by omega) (by omega), cmpi_slt_ofNat (by omega) (by omega), andi_ofBool, andi_ofBool]
  unfold overlap
  by_cases h : n.val * 16 < j.val * 64 + 64 ∧ j.val * 64 < n.val * 16 + 32 ∧ n.val < 255
  · rw [if_pos h]
    have e : (decide (n.val * 16 < j.val * 64 + 64) && decide (j.val * 64 < n.val * 16 + 32) && decide (n.val < 255)) = true := by simp [h]
    rw [e]; exact uitofp_one _
  · rw [if_neg h]
    have e : (decide (n.val * 16 < j.val * 64 + 64) && decide (j.val * 64 < n.val * 16 + 32) && decide (n.val < 255)) = false := by
      by_contra h2; simp only [Bool.not_eq_false, Bool.and_eq_true, decide_eq_true_eq] at h2; exact h ⟨h2.1.1, h2.1.2, h2.2⟩
    rw [e]; exact uitofp_zero _

/-- Division by 64 with the sign and remainder of the operands never needs its correction on a position. -/
theorem no_correction : ∀ k : Fin 4096,
            (IntOp.andi
              (IntOp.cmpi CmpIPredicate.ne
                (if BitVec.ofNat 32 k.val = 0 then (0 : BitVec 32) else if (BitVec.ofNat 32 k.val).msb = true then -1 else 1)
                (if 64#32 = 0 then (0 : BitVec 32) else if (64#32).msb = true then -1 else 1))
              (IntOp.cmpi CmpIPredicate.ne (IntOp.remsi ArithUnit.host (BitVec.ofNat 32 k.val) 64#32) 0#32)) = 0#1 := by
  decide +kernel

/-- A position divided by 64. -/
theorem host_div : ∀ k : Fin 4096, IntOp.divsi ArithUnit.host (BitVec.ofNat 32 k.val) 64#32 = BitVec.ofNat 32 (k.val / 64) := by
  decide +kernel

/-- Two block numbers compared. -/
theorem eq_word : ∀ (a : Fin 64) (l : Fin 128), IntOp.cmpi CmpIPredicate.eq (BitVec.ofNat 32 a.val) (BitVec.ofNat 32 l.val) = if l.val = a.val then 1#1 else 0#1 := by
  decide +kernel

/-- The mark of a key and a lane, as the host computes it. -/
theorem mark_word (k : Fin 4096) (x : ℕ) (hx : x < 128) : FloatOps.uitofp (F := Ideal) FTy.bf16 (IntOp.cmpi CmpIPredicate.eq
          (Scalar.select
            (IntOp.andi
              (IntOp.cmpi CmpIPredicate.ne
                (if BitVec.ofNat 32 k.val = 0 then (0 : BitVec 32) else if (BitVec.ofNat 32 k.val).msb = true then -1 else 1)
                (if 64#32 = 0 then (0 : BitVec 32) else if (64#32).msb = true then -1 else 1))
              (IntOp.cmpi CmpIPredicate.ne (IntOp.remsi ArithUnit.host (BitVec.ofNat 32 k.val) 64#32) 0#32))
            (IntOp.subi (IntOp.divsi ArithUnit.host (BitVec.ofNat 32 k.val) 64#32) 1#32)
            (IntOp.divsi ArithUnit.host (BitVec.ofNat 32 k.val) 64#32))
          (BitVec.ofNat 32 x)) = (((if x = k.val / 64 then 1 else 0 : ℝ)) : EReal) := by
  have hk := k.isLt
  rw [no_correction k, host_div k]
  have e : ∀ u v : BitVec 32, Scalar.select 0#1 u v = v := fun u v => rfl
  rw [e, eq_word ⟨k.val / 64, by omega⟩ ⟨x, hx⟩]
  by_cases h2 : x = k.val / 64
  · rw [if_pos h2, if_pos h2]; exact uitofp_one _
  · rw [if_neg h2, if_neg h2]; exact uitofp_zero _

/-- The host's keys with their block marks, as one array. -/
theorem entry13_low (b g : Fin 4) (k : Fin 4096) (n : Fin 256) (r : Fin 16384) (hr : r.val = b.val * 4096 + k.val) (i : Fin 3072) (hi : i.val = 2048 + (g.val * 128 + n.val)) (hn : n.val < 128) :
    V m c main_v13 (ix4 b g k n) = m ((c : Thread nD τ).loc main_arg0) (ix2 r i) := by
  show StableHlo.after ([hostOps0, hostOps0_1, hostOps0_2].flatten) _ (Proc.devRef .tc main_v13) (ix4 b g k n) = _
  simp only [List.flatten_cons, List.flatten_nil, List.append_nil, StableHlo.after_append]
  after_results_simp
  simp only [StableHlo.TRef.ofBuf_toBuf, StableHlo.TRef.ofBuf, cast_eq, id_eq]
  pointwise
  refine (dif_pos hn).trans ?_
  exact congrArg _ (congrArg₂ ix2 (Fin.ext hr.symm) (Fin.ext hi.symm))

/-- The host's keys with their block marks, as one array: a mark. -/
theorem entry13_high (b g : Fin 4) (k : Fin 4096) (n : Fin 256) (hn : ¬ n.val < 128) :
    V m c main_v13 (ix4 b g k n) = (((if n.val - 128 = k.val / 64 then 1 else 0 : ℝ)) : EReal) := by
  show StableHlo.after ([hostOps0, hostOps0_1, hostOps0_2].flatten) _ (Proc.devRef .tc main_v13) (ix4 b g k n) = _
  simp only [List.flatten_cons, List.flatten_nil, List.append_nil, StableHlo.after_append]
  after_results_simp
  simp only [StableHlo.TRef.ofBuf_toBuf, StableHlo.TRef.ofBuf, cast_eq, id_eq]
  pointwise
  refine (dif_neg hn).trans ?_
  have hlt := n.isLt
  exact mark_word k (n.val - 128) (by omega)

end Cert.Whole
-- ==== Proof.Array.lean ====
/-
  The kernel's output array: every entry is the attention's result of its token, group, head and lane.
-/
module

public import proofs.«01_k».proof.Proof.Inputs

@[expose] public section

set_option maxRecDepth 100000

noncomputable section

namespace Cert.Whole

open Idealize.ShloMosaic
open Idealize.ShloMosaic.ValueIdx hiding ix1 ix2 ix3 ix4 ix5
open Idealize.ShloMosaic.TcCoe Idealize.SL.Sem
open Cert.KernelIdeal Cert.KernelIdeal.Gen Cert.Attn Cert.Rows Cert.Branch
open scoped BigOperators

/-- A point's batch. -/
def bat (t : Fin cfg0.N) : Fin 4 := ⟨t.val / 64, by have := lt_of_lt_of_eq t.isLt N_0; omega⟩

/-- A point's group. -/
def grp (t : Fin cfg0.N) : Fin 4 := ⟨t.val / 16 % 4, by omega⟩

/-- The position of a point's query. -/
def pos (t : Fin cfg0.N) (a : Fin 256) : Fin 4096 := ⟨t.val % 16 * 256 + a.val, by omega⟩

variable (m : (ℓ : Loc nD τ sig) → Buf (Elt Ideal) ℓ) (c : Dev nD)
variable (ZA : Fin 16384 → Fin 3072 → ℝ) (ZB : Fin 16384 → Fin 8704 → ℝ) (KC VC : Fin 4096 → Fin 128 → ℝ)
variable (hA : ∀ r n, m ((c : Thread nD τ).loc main_arg0) (ix2 r n) = ((ZA r n : ℝ) : EReal))
variable (hB : ∀ r n, m ((c : Thread nD τ).loc main_arg1) (ix2 r n) = ((ZB r n : ℝ) : EReal))
variable (hK : ∀ r n, m ((c : Thread nD τ).loc main_arg2) (ix2 r n) = ((KC r n : ℝ) : EReal))
variable (hV : ∀ r n, m ((c : Thread nD τ).loc main_arg3) (ix2 r n) = ((VC r n : ℝ) : EReal))

include hA in
/-- The queries' block. -/
theorem block0 (t : Fin cfg0.N) (a : Fin 256) (n : Fin 512) (k : Fin 3072) (hk : k.val = t.val / 16 % 4 * 512 + n.val) :
    iblk m c 0 t (ix2 a n) = ((ZA (tok (bat t) (pos t a)) k : ℝ) : EReal) := by
  rw [← hA]
  have e : (tok (bat t) (pos t a)).val = (t.val / 64 * 16 + t.val % 16) * 256 + a.val := by
    show t.val / 64 * 4096 + (t.val % 16 * 256 + a.val) = _; omega
  blk_ext [iblk, V, idx t]

include hK in
/-- The compressed keys' block. -/
theorem block1 (t : Fin cfg0.N) (n : Fin 256) (l : Fin 128) :
    iblk m c 1 t (ix2 n l) = ((KC (crow (bat t) (grp t) n) l : ℝ) : EReal) := by
  rw [← hK]
  have e : (crow (bat t) (grp t) n).val = t.val / 16 * 256 + n.val := by
    show (t.val / 64 * 4 + t.val / 16 % 4) * 256 + n.val = _; omega
  blk_ext [iblk, V, idx t]

include hV in
/-- The compressed values' block. -/
theorem block2 (t : Fin cfg0.N) (n : Fin 256) (l : Fin 128) :
    iblk m c 2 t (ix2 n l) = ((VC (crow (bat t) (grp t) n) l : ℝ) : EReal) := by
  rw [← hV]
  have e : (crow (bat t) (grp t) n).val = t.val / 16 * 256 + n.val := by
    show (t.val / 64 * 4 + t.val / 16 % 4) * 256 + n.val = _; omega
  blk_ext [iblk, V, idx t]

/-- The block of the keys with their marks is the batch's and the group's. -/
theorem block3 (t : Fin cfg0.N) (k : Fin 4096) (n : Fin 256) :
    iblk m c 3 t (ix4 0 0 k n) = V m c main_v13 (ix4 (bat t) (grp t) k n) := by
  have e : (bat t).val = t.val / 64 := rfl
  have e' : (grp t).val = t.val / 16 % 4 := rfl
  blk_ext [iblk, idx t]

include hB in
/-- The selection branch's values. -/
theorem block4 (t : Fin cfg0.N) (k : Fin 4096) (l : Fin 128) :
    iblk m c 4 t (ix2 k l) = ((ZB (tok (bat t) k) (vscol (grp t) l) : ℝ) : EReal) := by
  rw [← hB]
  have e : (tok (bat t) k).val = t.val / 64 * 4096 + k.val := rfl
  have e' : (vscol (grp t) l).val = (8 + t.val / 16 % 4) * 128 + l.val := by
    show 1024 + (t.val / 16 % 4 * 128 + l.val) = _; omega
  blk_ext [iblk, V, idx t]

include hA in
/-- The window branch's keys. -/
theorem block5 (t : Fin cfg0.N) (k : Fin 4096) (l : Fin 128) :
    iblk m c 5 t (ix2 k l) = ((ZA (tok (bat t) k) (kwcol (grp t) l) : ℝ) : EReal) := by
  rw [← hA]
  have e : (tok (bat t) k).val = t.val / 64 * 4096 + k.val := rfl
  have e' : (kwcol (grp t) l).val = (20 + t.val / 16 % 4) * 128 + l.val := by
    show 2560 + (t.val / 16 % 4 * 128 + l.val) = _; omega
  blk_ext [iblk, V, idx t]

include hB in
/-- The window branch's values. -/
theorem block6 (t : Fin cfg0.N) (k : Fin 4096) (l : Fin 128) :
    iblk m c 6 t (ix2 k l) = ((ZB (tok (bat t) k) (vwcol (grp t) l) : ℝ) : EReal) := by
  rw [← hB]
  have e : (tok (bat t) k).val = t.val / 64 * 4096 + k.val := rfl
  have e' : (vwcol (grp t) l).val = (12 + t.val / 16 % 4) * 128 + l.val := by
    show 1536 + (t.val / 16 % 4 * 128 + l.val) = _; omega
  blk_ext [iblk, V, idx t]

include hB in
/-- The gates. -/
theorem block7 (t : Fin cfg0.N) (a : Fin 256) (x : Fin 128) :
    iblk m c 7 t (ix2 a x) = ((ZB (tok (bat t) (pos t a)) (glane (grp t) x) : ℝ) : EReal) := by
  rw [← hB]
  have e : (tok (bat t) (pos t a)).val = (t.val / 64 * 16 + t.val % 16) * 256 + a.val := by
    show t.val / 64 * 4096 + (t.val % 16 * 256 + a.val) = _; omega
  have e' : (glane (grp t) x).val = (64 + t.val / 16 % 4) * 128 + x.val := by
    show 8192 + (t.val / 16 % 4 * 128 + x.val) = _; omega
  blk_ext [iblk, V, idx t]

/-- The overlap weights. -/
theorem block8 (t : Fin cfg0.N) (j : Fin 64) (n : Fin 256) :
    iblk m c 8 t (ix2 j n) = ((overlap j n : ℝ) : EReal) := by
  rw [← entry39 m c]
  blk_ext [iblk, idx t]

/-- The output array's value at an index: the attention's result of its token, group, head and lane. -/
def value (i : S16384x2048.Idx) : EReal :=
  ((result ZA ZB KC VC ⟨(i 0).val / 4096, by have : (i 0).val < 16384 := (i 0).isLt; omega⟩ ⟨(i 0).val % 4096, by omega⟩
    ⟨(i 1).val / 512, by have : (i 1).val < 2048 := (i 1).isLt; omega⟩ ⟨(i 1).val / 128 % 4, by omega⟩ ⟨(i 1).val % 128, by omega⟩ : ℝ) : EReal)

/-- The value at an index, from the token, the group, the head and the lane that the index encodes. -/
theorem value_at (i : S16384x2048.Idx) (b : Fin 4) (T : Fin 4096) (g h : Fin 4) (d : Fin 128)
    (h0 : (i 0).val = b.val * 4096 + T.val) (h1 : (i 1).val = g.val * 512 + h.val * 128 + d.val) :
    value ZA ZB KC VC i = ((result ZA ZB KC VC b T g h d : ℝ) : EReal) := by
  unfold value
  have e1 : (⟨(i 0).val / 4096, by have : (i 0).val < 16384 := (i 0).isLt; omega⟩ : Fin 4) = b := Fin.ext (by show (i 0).val / 4096 = _; omega)
  have e2 : (⟨(i 0).val % 4096, by omega⟩ : Fin 4096) = T := Fin.ext (by show (i 0).val % 4096 = _; omega)
  have e3 : (⟨(i 1).val / 512, by have : (i 1).val < 2048 := (i 1).isLt; omega⟩ : Fin 4) = g := Fin.ext (by show (i 1).val / 512 = _; omega)
  have e4 : (⟨(i 1).val / 128 % 4, by omega⟩ : Fin 4) = h := Fin.ext (by show (i 1).val / 128 % 4 = _; omega)
  have e5 : (⟨(i 1).val % 128, by omega⟩ : Fin 128) = d := Fin.ext (by show (i 1).val % 128 = _; omega)
  rw [e1, e2, e3, e4, e5]

include hA hB hK hV in
/-- What a point leaves in its block. -/
theorem point (t : Fin cfg0.N) (a : Fin 256) (h : Fin 4) (d : Fin 128) :
    outsAt0 m c t (ix2 a (col h d)) = ((result ZA ZB KC VC (bat t) (pos t a) (grp t) h d : ℝ) : EReal) := by
  unfold outsAt0
  refine (block_apply c (grid0.coords t) _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (fun a n => ZA (tok (bat t) (pos t a)) ⟨(grp t).val * 512 + n.val, by omega⟩)
    (fun n l => KC (crow (bat t) (grp t) n) l) (fun n l => VC (crow (bat t) (grp t) n) l)
    (fun k l => ZA (tok (bat t) k) (kscol (grp t) l)) (fun k l => ZB (tok (bat t) k) (vscol (grp t) l))
    (fun k l => ZA (tok (bat t) k) (kwcol (grp t) l)) (fun k l => ZB (tok (bat t) k) (vwcol (grp t) l))
    (fun a x => ZB (tok (bat t) (pos t a)) (glane (grp t) x)) overlap
    (fun a n => block0 m c ZA hA t a n _ rfl) (fun n l => block1 m c KC hK t n l) (fun n l => block2 m c VC hV t n l)
    ?_ ?_
    (fun k l => block4 m c ZB hB t k l) (fun k l => block5 m c ZA hA t k l) (fun k l => block6 m c ZB hB t k l)
    (fun a x => block7 m c ZB hB t a x) (fun j n => block8 m c t j n) a h d).trans ?_
  · intro k l
    exact ((block3 m c t k _).trans (entry13_low m c (bat t) (grp t) k _ (tok (bat t) k) rfl (kscol (grp t) l) rfl l.isLt)).trans (hA _ _)
  · intro k l
    refine ((block3 m c t k _).trans (entry13_high m c (bat t) (grp t) k _ (by simp))).trans ?_
    have e : 128 + l.val - 128 = l.val := by omega
    show (((if 128 + l.val - 128 = k.val / 64 then 1 else 0 : ℝ)) : EReal) = if l.val = k.val / 64 then 1 else 0
    rw [e]
    split_ifs <;> simp
  · have hT : (tile (grid0.coords t)).val * 256 + a.val = (pos t a).val := by
      show _ = t.val % 16 * 256 + a.val
      rw [(idx t).1]
    rw [hT]
    unfold result
    have hq : (fun (h : Fin 4) (l : Fin 128) => ZA (tok (bat t) (pos t a)) ⟨(grp t).val * 512 + (col h l).val, by omega⟩)
        = fun h l => ZA (tok (bat t) (pos t a)) (qcol (grp t) h l) := by
      funext h l
      exact congrArg _ (Fin.ext (by show (grp t).val * 512 + (h.val * 128 + l.val) = (grp t).val * 512 + h.val * 128 + l.val; omega))
    rw [hq]
    rfl

include hA hB hK hV in
/-- After the run the output array holds that value everywhere. -/
theorem final : (dats m 0 c).arrAt 9 cfg0.N = value ZA ZB KC VC := by
  refine (dats m 0 c).arrAt_eq_of_covers 9 _ (by decide +kernel) fun t hf y => ?_
  blk_simp
  rw [after0_9]
  have h0 : (y 0).val < 256 := (y 0).isLt
  have h1 : (y 1).val < 512 := (y 1).isLt
  have ey : y = ix2 (⟨(y 0).val, h0⟩ : Fin 256) (col ⟨(y 1).val / 128, by omega⟩ ⟨(y 1).val % 128, by omega⟩) := by
    funext a
    match a with
    | ⟨0, _⟩ => rfl
    | ⟨1, _⟩ => exact Fin.ext (by show (y 1).val = (y 1).val / 128 * 128 + (y 1).val % 128; omega)
  have e := point m c ZA ZB KC VC hA hB hK hV t ⟨(y 0).val, h0⟩ ⟨(y 1).val / 128, by omega⟩ ⟨(y 1).val % 128, by omega⟩
  refine (congrArg (outsAt0 m c t) ey).trans (e.trans (value_at ZA ZB KC VC _ _ _ _ _ _ ?_ ?_).symm)
  · have hi : win0_9.index t 0 = t.val / 64 * 16 + t.val % 16 := (idx t).2.2.2.2.2.2.2.2.2.2.2.2.2.2.2.2.2.2.2.2.2.1
    blk_simp
    rw [hi]
    show _ = t.val / 64 * 4096 + (t.val % 16 * 256 + (y 0).val)
    omega
  · have hi : win0_9.index t 1 = t.val / 16 % 4 := (idx t).2.2.2.2.2.2.2.2.2.2.2.2.2.2.2.2.2.2.2.2.2.2
    blk_simp
    rw [hi]
    show _ = t.val / 16 % 4 * 512 + (y 1).val / 128 * 128 + (y 1).val % 128
    omega

end Cert.Whole
-- ==== Proof.RefIn.lean ====
/-
  The reference's inputs, read at an index as the real numbers of the four arguments, and a row of its masked softmax.
-/
module

public import proofs.«01_k».proof.Proof.Result
public import proofs.«01_k».proof.Proof.Gen.ReferenceIdeal.Read
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- A query's lanes. -/
def qry (ZA : Fin 16384 → Fin 3072 → ℝ) (b : Fin 4) (T : Fin 4096) (g h : Fin 4) (l : Fin 128) : ℝ := ZA (tok b T) (qcol g h l)

/-- A compressed block among the 256 that the arrays hold. -/
def up (n : Fin 255) : Fin 256 := ⟨n.val, by omega⟩

include hA in
/-- The queries. -/
theorem q_read (i : S4x4096x4x4x128.Idx) :
    val_main_v4 x0 i = ((ZA (tok (i 0) (i 1)) (qcol (i 2) (i 3) (i 4)) : ℝ) : EReal) := by
  rw [val_main_v4_apply, val_main_v3_apply, val_main_v2_apply, ← hA]
  have h0 : (i 0).val < 4 := (i 0).isLt
  have h1 : (i 1).val < 4096 := (i 1).isLt
  have h2 : (i 2).val < 4 := (i 2).isLt
  have h3 : (i 3).val < 4 := (i 3).isLt
  have h4 : (i 4).val < 128 := (i 4).isLt
  refine congrArg x0 (funext fun a => ?_)
  match a with
  | ⟨0, _⟩ => exact Fin.ext (by show (((((i 0).val * 4096 + (i 1).val) * 4 + (i 2).val) * 4 + (i 3).val) * 128 + (i 4).val) / 2048 = (i 0).val * 4096 + (i 1).val; omega)
  | ⟨1, _⟩ => exact Fin.ext (by show (((((i 0).val * 4096 + (i 1).val) * 4 + (i 2).val) * 4 + (i 3).val) * 128 + (i 4).val) % 2048 = (i 2).val * 512 + (i 3).val * 128 + (i 4).val; omega)

include hA in
/-- The selection branch's keys. -/
theorem ks_read (i : S4x4096x4x128.Idx) : val_main_v7 x0 i = ((ZA (tok (i 0) (i 1)) (kscol (i 2) (i 3)) : ℝ) : EReal) := by
  rw [val_main_v7_apply, val_main_v6_apply, val_main_v5_apply, ← hA]
  have h0 : (i 0).val < 4 := (i 0).isLt
  have h1 : (i 1).val < 4096 := (i 1).isLt
  have h2 : (i 2).val < 4 := (i 2).isLt
  have h3 : (i 3).val < 128 := (i 3).isLt
  refine congrArg x0 (funext fun a => ?_)
  match a with
  | ⟨0, _⟩ => exact Fin.ext (by show ((((i 0).val * 4096 + (i 1).val) * 4 + (i 2).val) * 128 + (i 3).val) / 512 = (i 0).val * 4096 + (i 1).val; omega)
  | ⟨1, _⟩ => exact Fin.ext (by show 2048 + ((((i 0).val * 4096 + (i 1).val) * 4 + (i 2).val) * 128 + (i 3).val) % 512 = 2048 + ((i 2).val * 128 + (i 3).val); omega)

include hA in
/-- The window branch's keys. -/
theorem kw_read (i : S4x4096x4x128.Idx) : val_main_v10 x0 i = ((ZA (tok (i 0) (i 1)) (kwcol (i 2) (i 3)) : ℝ) : EReal) := by
  rw [val_main_v10_apply, val_main_v9_apply, val_main_v8_apply, ← hA]
  have h0 : (i 0).val < 4 := (i 0).isLt
  have h1 : (i 1).val < 4096 := (i 1).isLt
  have h2 : (i 2).val < 4 := (i 2).isLt
  have h3 : (i 3).val < 128 := (i 3).isLt
  refine congrArg x0 (funext fun a => ?_)
  match a with
  | ⟨0, _⟩ => exact Fin.ext (by show ((((i 0).val * 4096 + (i 1).val) * 4 + (i 2).val) * 128 + (i 3).val) / 512 = (i 0).val * 4096 + (i 1).val; omega)
  | ⟨1, _⟩ => exact Fin.ext (by show 2560 + ((((i 0).val * 4096 + (i 1).val) * 4 + (i 2).val) * 128 + (i 3).val) % 512 = 2560 + ((i 2).val * 128 + (i 3).val); omega)

include hB in
/-- The selection branch's values. -/
theorem vs_read (i : S4x4096x4x128.Idx) : val_main_v13 x1 i = ((ZB (tok (i 0) (i 1)) (vscol (i 2) (i 3)) : ℝ) : EReal) := by
  rw [val_main_v13_apply, val_main_v12_apply, val_main_v11_apply, ← hB]
  have h0 : (i 0).val < 4 := (i 0).isLt
  have h1 : (i 1).val < 4096 := (i 1).isLt
  have h2 : (i 2).val < 4 := (i 2).isLt
  have h3 : (i 3).val < 128 := (i 3).isLt
  refine congrArg x1 (funext fun a => ?_)
  match a with
  | ⟨0, _⟩ => exact Fin.ext (by show ((((i 0).val * 4096 + (i 1).val) * 4 + (i 2).val) * 128 + (i 3).val) / 512 = (i 0).val * 4096 + (i 1).val; omega)
  | ⟨1, _⟩ => exact Fin.ext (by show 1024 + ((((i 0).val * 4096 + (i 1).val) * 4 + (i 2).val) * 128 + (i 3).val) % 512 = 1024 + ((i 2).val * 128 + (i 3).val); omega)

include hB in
/-- The window branch's values. -/
theorem vw_read (i : S4x4096x4x128.Idx) : val_main_v16 x1 i = ((ZB (tok (i 0) (i 1)) (vwcol (i 2) (i 3)) : ℝ) : EReal) := by
  rw [val_main_v16_apply, val_main_v15_apply, val_main_v14_apply, ← hB]
  have h0 : (i 0).val < 4 := (i 0).isLt
  have h1 : (i 1).val < 4096 := (i 1).isLt
  have h2 : (i 2).val < 4 := (i 2).isLt
  have h3 : (i 3).val < 128 := (i 3).isLt
  refine congrArg x1 (funext fun a => ?_)
  match a with
  | ⟨0, _⟩ => exact Fin.ext (by show ((((i 0).val * 4096 + (i 1).val) * 4 + (i 2).val) * 128 + (i 3).val) / 512 = (i 0).val * 4096 + (i 1).val; omega)
  | ⟨1, _⟩ => exact Fin.ext (by show 1536 + ((((i 0).val * 4096 + (i 1).val) * 4 + (i 2).val) * 128 + (i 3).val) % 512 = 1536 + ((i 2).val * 128 + (i 3).val); omega)

include hK in
/-- The compressed keys. -/
theorem kc_read (i : S4x4x255x128.Idx) : val_main_v30 x2 i = ((KC (crow (i 0) (i 1) (up (i 2))) (i 3) : ℝ) : EReal) := by
  rw [val_main_v30_apply, val_main_v29_apply, val_main_v28_apply]
  refine Eq.trans ?_ (hK _ _)
  have h0 : (i 0).val < 4 := (i 0).isLt
  have h1 : (i 1).val < 4 := (i 1).isLt
  have h2 : (i 2).val < 255 := (i 2).isLt
  have h3 : (i 3).val < 128 := (i 3).isLt
  refine congrArg x2 (funext fun a => ?_)
  match a with
  | ⟨0, _⟩ => exact Fin.ext (by show ((((i 0).val * 4 + (i 1).val) * 256 + (i 2).val) * 128 + (i 3).val) / 128 = ((i 0).val * 4 + (i 1).val) * 256 + (i 2).val; omega)
  | ⟨1, _⟩ => exact Fin.ext (by show ((((i 0).val * 4 + (i 1).val) * 256 + (i 2).val) * 128 + (i 3).val) % 128 = (i 3).val; omega)

include hV in
/-- The compressed values. -/
theorem vc_read (i : S4x4x255x128.Idx) : val_main_v33 x3 i = ((VC (crow (i 0) (i 1) (up (i 2))) (i 3) : ℝ) : EReal) := by
  rw [val_main_v33_apply, val_main_v32_apply, val_main_v31_apply]
  refine Eq.trans ?_ (hV _ _)
  have h0 : (i 0).val < 4 := (i 0).isLt
  have h1 : (i 1).val < 4 := (i 1).isLt
  have h2 : (i 2).val < 255 := (i 2).isLt
  have h3 : (i 3).val < 128 := (i 3).isLt
  refine congrArg x3 (funext fun a => ?_)
  match a with
  | ⟨0, _⟩ => exact Fin.ext (by show ((((i 0).val * 4 + (i 1).val) * 256 + (i 2).val) * 128 + (i 3).val) / 128 = ((i 0).val * 4 + (i 1).val) * 256 + (i 2).val; omega)
  | ⟨1, _⟩ => exact Fin.ext (by show ((((i 0).val * 4 + (i 1).val) * 256 + (i 2).val) * 128 + (i 3).val) % 128 = (i 3).val; omega)

include hB in
/-- What the gates are the logistic function of. -/
theorem gate_arg_read (i : S4x4096x4x4x3.Idx) : val_main_v21 x1 i = ((ZB (tok (i 0) (i 1)) (gcol (i 2) (i 3) (i 4)) : ℝ) : EReal) := by
  rw [val_main_v21_apply, val_main_v20_apply, val_main_v19_apply, val_main_v18_apply, val_main_v17_apply, ← hB]
  have h0 : (i 0).val < 4 := (i 0).isLt
  have h1 : (i 1).val < 4096 := (i 1).isLt
  have h2 : (i 2).val < 4 := (i 2).isLt
  have h3 : (i 3).val < 4 := (i 3).isLt
  have h4 : (i 4).val < 3 := (i 4).isLt
  refine congrArg x1 (funext fun a => ?_)
  have e0 : (((((i 0).val * 4096 + (i 1).val) * 4 + (i 2).val) * 4 + (i 3).val) * 3 + (i 4).val) / 196608 = (i 0).val := by omega
  have e1 : (((((i 0).val * 4096 + (i 1).val) * 4 + (i 2).val) * 4 + (i 3).val) * 3 + (i 4).val) / 48 % 4096 = (i 1).val := by omega
  have e2 : (((((i 0).val * 4096 + (i 1).val) * 4 + (i 2).val) * 4 + (i 3).val) * 3 + (i 4).val) / 12 % 4 = (i 2).val := by omega
  have e3 : (((((i 0).val * 4096 + (i 1).val) * 4 + (i 2).val) * 4 + (i 3).val) * 3 + (i 4).val) % 12 = (i 3).val * 3 + (i 4).val := by omega
  match a with
  | ⟨0, _⟩ =>
    refine Fin.ext ?_
    show ((((((((i 0).val * 4096 + (i 1).val) * 4 + (i 2).val) * 4 + (i 3).val) * 3 + (i 4).val) / 196608 * 4096 + (((((i 0).val * 4096 + (i 1).val) * 4 + (i 2).val) * 4 + (i 3).val) * 3 + (i 4).val) / 48 % 4096) * 4 + (((((i 0).val * 4096 + (i 1).val) * 4 + (i 2).val) * 4 + (i 3).val) * 3 + (i 4).val) / 12 % 4) * 128 + (((((i 0).val * 4096 + (i 1).val) * 4 + (i 2).val) * 4 + (i 3).val) * 3 + (i 4).val) % 12) / 512 = (i 0).val * 4096 + (i 1).val
    rw [e0, e1, e2, e3]
    omega
  | ⟨1, _⟩ =>
    refine Fin.ext ?_
    show 8192 + ((((((((i 0).val * 4096 + (i 1).val) * 4 + (i 2).val) * 4 + (i 3).val) * 3 + (i 4).val) / 196608 * 4096 + (((((i 0).val * 4096 + (i 1).val) * 4 + (i 2).val) * 4 + (i 3).val) * 3 + (i 4).val) / 48 % 4096) * 4 + (((((i 0).val * 4096 + (i 1).val) * 4 + (i 2).val) * 4 + (i 3).val) * 3 + (i 4).val) / 12 % 4) * 128 + (((((i 0).val * 4096 + (i 1).val) * 4 + (i 2).val) * 4 + (i 3).val) * 3 + (i 4).val) % 12) % 512 = 8192 + ((i 2).val * 128 + (3 * (i 3).val + (i 4).val))
    rw [e0, e1, e2, e3]
    omega

include hB in
/-- The gates. -/
theorem gate_read (i : S4x4096x4x4x3.Idx) : val_main_v27 x1 i = ((logis (ZB (tok (i 0) (i 1)) (gcol (i 2) (i 3) (i 4))) : ℝ) : EReal) := by
  rw [val_main_v27_apply, val_main_v26_apply, val_main_v25_apply, val_main_v24_apply, val_main_v23_apply, val_main_v22_apply,
    gate_arg_read x1 ZB hB, val_main_cst_1_apply, val_main_cst_2_apply]
  refine Eq.trans ?_ (logis_coe _)
  generalize ((ZB (tok (i 0) (i 1)) (gcol (i 2) (i 3) (i 4)) : ℝ) : EReal) = y
  show Ideal.div (Ideal.ofBits .f32 0x3F800000#32) (Ideal.ofBits .f32 0x3F800000#32 + Ideal.exp (-y)) = _
  rw [Ideal.ofBits_one_f32, zero_sub]

/-- The scale. -/
theorem scale_read (i : S_.Idx) : val_main_v1 (F := Ideal) i = (((Real.sqrt 128)⁻¹ : ℝ) : EReal) := by
  rw [val_main_v1_apply, val_main_v0_apply, val_main_cst_apply, val_main_cst_0_apply]
  show Ideal.div (Ideal.ofBits .f32 0x3F800000#32) (Ideal.sqrt (Ideal.ofBits .f32 0x43000000#32)) = _
  have h : Ideal.ofBits .f32 0x43000000#32 = ((128 : ℝ) : EReal) := by
    simp [Ideal.ofBits, Ideal.ieee]
    rw [← EReal.coe_mul]
    norm_num
  rw [h, Ideal.ofBits_one_f32, Ideal.sqrt_coe, if_neg (by norm_num), ← EReal.coe_one, div_coe_pos _ (by positivity), one_div]

/-- Minus infinity, as the reference writes it. -/
theorem bot_word : Ideal.ofBits .f32 0xFF800000#32 = (⊥ : EReal) := by
  simp [Ideal.ofBits, Ideal.ieee]

/-- The greatest of a row, as the reference reduces an array along its last axis from minus infinity. -/
theorem greatest {n0 n1 n2 n3 n4 : ℕ} {t : Shape} (h : (⟨5, ![n0, n1, n2, n3, n4]⟩ : Shape).ReducesTo [4] t)
    (x : FVec Ideal (⟨5, ![n0, n1, n2, n3, n4]⟩ : Shape) .f32) (z : FVec Ideal S_ .f32) (hz : ∀ i, z i = (⊥ : EReal)) (hu : 0 < S_.numel) (j : t.Idx) :
    Host.reduce FloatOps.maximumf x z h hu j = Finset.univ.sup fun k : Fin n4 =>
      x (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩
        ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k) := by
  rw [Host.reduce_eq_fold, h.fold_fiber_r5_a4, hz]
  rfl

/-- A score inside a set, −∞ outside it. -/
def low {n : ℕ} (A : Finset (Fin n)) (k : Fin n) (y : ℝ) : EReal := if k ∈ A then ((y * (Real.sqrt 128)⁻¹ : ℝ) : EReal) else ⊥

/-- A masked score. -/
theorem low_select {n : ℕ} (A : Finset (Fin n)) (k : Fin n) (y : ℝ) (P : Prop) [Decidable P] (h : k ∈ A ↔ P) (c : BitVec 1) (hc : c = BitVec.ofBool (decide P))
    (a b : EReal) (ha : a = ((y * (Real.sqrt 128)⁻¹ : ℝ) : EReal)) (hb : b = ⊥) : Scalar.select c a b = low A k y := by
  rw [hc, ha, hb]
  exact (Cert.Branch.select_ofBool _ _ _).trans (if_congr h.symm rfl rfl)

/-- A row of the reference's masked softmax: the normalised weights. -/
theorem soft {n : ℕ} (A : Finset (Fin n)) (x : Fin n → ℝ) (s : Fin n → EReal)
    (hs : ∀ k, s k = if k ∈ A then ((x k * (Real.sqrt 128)⁻¹ : ℝ) : EReal) else ⊥) {m z w : EReal} (hm : IsMax A m) (hz : z = 0) (hw : w = 0)
    (c : BitVec 1) (k : Fin n) (hc : c = BitVec.ofBool (decide (k ∈ A))) (e : EReal) (he : e = Ideal.div (Ideal.exp (s k - m)) (z + ∑ j, Ideal.exp (s j - m))) :
    Scalar.select c e w = ((prob A x k : ℝ) : EReal) := by
  rw [← softmax_masked A x s hs hm k, hc, hw, he, hz, zero_add]
  exact Cert.Branch.select_ofBool _ _ _

end Cert.Ref

end
-- ==== Proof.RefComp.lean ====
/-
  The compressed branch of the reference, and the importances of the blocks.
-/
module

public import proofs.«01_k».proof.Proof.RefIn
public import proofs.«01_k».proof.Proof.Inputs
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- The compressed blocks that end at or before a position. -/
def before (T : ℕ) : Finset (Fin 255) := Finset.univ.filter fun n => n.val * 16 + 31 ≤ T

theorem mem_before (n : Fin 255) (T : ℕ) : n ∈ before T ↔ n.val * 16 + 31 ≤ T := by simp [before]

/-- The last position of a compressed block, as a word. -/
theorem end_word : ∀ n : Fin 255,
    IntOp.subi (IntOp.addi (IntOp.muli (BitVec.ofNat 32 n.val) 16#32) 32#32) 1#32 = BitVec.ofNat 32 (n.val * 16 + 31) := by decide +kernel

/-- The compressed branch's mask. -/
theorem mask_read (i : S4096x255.Idx) : val_main_v77 (F := Ideal) i = BitVec.ofBool (decide ((i 1).val * 16 + 31 ≤ (i 0).val)) := by
  have h0 : (i 0).val < 4096 := (i 0).isLt
  have h1 : (i 1).val < 255 := (i 1).isLt
  rw [val_main_v77_apply, val_main_v75_apply, val_main_v73_apply, val_main_v40_apply, val_main_v38_apply, val_main_v36_apply,
    val_main_v34_apply, val_main_v35_apply, val_main_c_apply, val_main_v37_apply, val_main_c_3_apply, val_main_v39_apply, val_main_c_4_apply,
    val_main_v76_apply, val_main_v74_apply, val_main_v68_apply]
  refine (congrArg (fun w => IntOp.cmpi .sle w _) (end_word ⟨(i 1).val, h1⟩)).trans ?_
  exact cmpi_sle_ofNat (by show (i 1).val * 16 + 31 < 2 ^ 31; omega) (by show (i 0).val < 2 ^ 31; omega)

/-- The raw scores of a query against the compressed keys. -/
def xc (b : Fin 4) (T : Fin 4096) (g h : Fin 4) (n : Fin 255) : ℝ := raw (qry ZA b T g h) (fun n l => KC (crow b g n) l) (up n)

include hA hK in
/-- The compressed branch's scaled scores. -/
theorem score_read (i : S4x4x4x4096x255.Idx) :
    val_main_v72 x0 x2 i = ((xc ZA KC (i 0) (i 3) (i 1) (i 2) (i 4) * (Real.sqrt 128)⁻¹ : ℝ) : EReal) := by
  rw [val_main_v72_apply, val_main_v71_apply, scale_read, val_main_v70_apply, val_main_v69_apply]
  simp only [kc_read x2 KC hK, q_read x0 ZA hA]
  refine (congrArg (fun y => y * _) (sum_coe_mul (fun k : Fin 128 => KC (crow (i 0) (i 1) (up (i 4))) k) (fun k => qry ZA (i 0) (i 3) (i 1) (i 2) k))).trans ?_
  rw [← EReal.coe_mul]
  refine congrArg (fun y : ℝ => ((y * (Real.sqrt 128)⁻¹ : ℝ) : EReal)) (Finset.sum_congr rfl fun k _ => mul_comm _ _)

include hA hK in
/-- Its masked scores. -/
theorem masked_read (i : S4x4x4x4096x255.Idx) :
    val_main_v78 x0 x2 i = low (before (i 3).val) (i 4) (xc ZA KC (i 0) (i 3) (i 1) (i 2) (i 4)) := by
  rw [val_main_v78_apply, val_main_call0_v1_apply, mask_read, val_main_call0_v2_apply, val_main_call0_v0_apply, val_main_cst_8_apply]
  exact low_select _ _ _ _ (mem_before (i 4) (i 3).val) _ rfl _ _ (score_read x0 x2 ZA KC hA hK i) bot_word

include hA hK in
/-- The greatest masked score of a row. -/
theorem max_read (j : S4x4x4x4096.Idx) : IsMax (before (j 3).val) (val_main_v81 x0 x2 j) := by
  rw [val_main_v81_apply, val_main_v80_apply, val_main_cst_10_apply]
  have e : val_main_v79 x0 x2 j = Finset.univ.sup fun n : Fin 255 => low (before (j 3).val) n (xc ZA KC (j 0) (j 3) (j 1) (j 2) n) := by
    have hz : ∀ i, val_main_cst_9 (F := Ideal) i = (⊥ : EReal) := fun i => bot_word
    unfold val_main_v79
    revert hz
    generalize val_main_cst_9 (F := Ideal) = z
    intro hz
    exact (greatest (n0 := 4) (n1 := 4) (n2 := 4) (n3 := 4096) (n4 := 255) reducesTo_S4x4x4x4096x255_S4x4x4x4096_d4 (val_main_v78 x0 x2) z hz h_S_ j).trans
      (Finset.sup_congr rfl fun k _ => masked_read x0 x2 ZA KC hA hK _)
  rw [e]
  show IsMax _ (max (Ideal.ofBits .f32 0xFF800000#32) _)
  rw [bot_word, max_eq_right bot_le]
  exact isMax_sup (before (j 3).val) fun n => xc ZA KC (j 0) (j 3) (j 1) (j 2) n * (Real.sqrt 128)⁻¹

include hA hK in
/-- The compressed branch's weights. -/
theorem prob_read (i : S4x4x4x4096x255.Idx) :
    val_main_v90 x0 x2 i = ((prob (before (i 3).val) (xc ZA KC (i 0) (i 3) (i 1) (i 2)) (i 4) : ℝ) : EReal) := by
  have hi : idx_main_v86 (idx_main_v87 (idx_main_v88 i)) (i 4) = i := funext fun a => by
    match a with
    | ⟨0, _⟩ => rfl
    | ⟨1, _⟩ => rfl
    | ⟨2, _⟩ => rfl
    | ⟨3, _⟩ => rfl
    | ⟨4, _⟩ => rfl
  have hj : ∀ k, idx_main_v82 (idx_main_v83 (idx_main_v86 (idx_main_v87 (idx_main_v88 i)) k)) = idx_main_v82 (idx_main_v83 i) := fun k => funext fun a => by
    match a with
    | ⟨0, _⟩ => rfl
    | ⟨1, _⟩ => rfl
    | ⟨2, _⟩ => rfl
    | ⟨3, _⟩ => rfl
  rw [val_main_v90_apply]
  refine soft (before (i 3).val) (xc ZA KC (i 0) (i 3) (i 1) (i 2))
    (fun k => val_main_v78 x0 x2 (idx_main_v86 (idx_main_v87 (idx_main_v88 i)) k))
    (fun k => masked_read x0 x2 ZA KC hA hK _) (max_read x0 x2 ZA KC hA hK (idx_main_v82 (idx_main_v83 i)))
    Ideal.ofBits_zero_f32 ?_ _ (i 4) ?_ _ ?_
  · rw [val_main_call1_v2_apply, val_main_call1_v0_apply, val_main_cst_12_apply]
    exact Ideal.ofBits_zero_f32
  · rw [val_main_call1_v1_apply, mask_read]
    exact congrArg BitVec.ofBool (decide_eq_decide.2 (mem_before (i 4) (i 3).val).symm)
  · simp only [val_main_v89_apply, val_main_v88_apply, val_main_v87_apply, val_main_v86_apply, val_main_v85_apply, val_main_v84_apply, val_main_v83_apply,
      val_main_v82_apply, hj, hi]
    rfl

/-- The compressed blocks that the 256-column arrays see are those. -/
theorem seen_eq (T : Fin 4096) : seen T.val = (before T.val).image up := by
  ext n
  simp only [seen, before, Finset.mem_filter, Finset.mem_univ, true_and, Finset.mem_image]
  constructor
  · intro h
    exact ⟨⟨n.val, by omega⟩, h, rfl⟩
  · rintro ⟨a, h, rfl⟩
    exact h

theorem up_injective : Function.Injective up := fun a b h => Fin.ext (congrArg (fun x : Fin 256 => x.val) h)

include hA hK hV in
/-- The compressed branch's result. -/
theorem comp_read (i : S4x4096x4x4x128.Idx) :
    val_main_v92 x0 x2 x3 i = ((attn (seen (i 1).val) (raw (qry ZA (i 0) (i 1) (i 2) (i 3)) (fun n l => KC (crow (i 0) (i 2) n) l))
      (fun n => VC (crow (i 0) (i 2) n) (i 4)) : ℝ) : EReal) := by
  rw [val_main_v92_apply, val_main_v91_apply]
  simp only [vc_read x3 VC hV, prob_read x0 x2 ZA KC hA hK]
  refine (sum_coe_mul (fun n : Fin 255 => VC (crow (i 0) (i 2) (up n)) (i 4)) (fun n => prob (before (i 1).val) (xc ZA KC (i 0) (i 1) (i 2) (i 3)) n)).trans ?_
  refine congrArg _ ?_
  refine (Finset.sum_congr rfl fun n _ => mul_comm _ _).trans ?_
  rw [sum_prob_mul]
  exact attn_map up up_injective _ _ (seen_eq (i 1)) (raw (qry ZA (i 0) (i 1) (i 2) (i 3)) (fun n l => KC (crow (i 0) (i 2) n) l)) (fun n => VC (crow (i 0) (i 2) n) (i 4))

/-- The weights in 256 columns. -/
theorem prob_up (T : Fin 4096) (x : Fin 256 → ℝ) (n : Fin 255) : prob (before T.val) (fun n => x (up n)) n = prob (seen T.val) x (up n) := by
  unfold prob
  rw [seen_eq, Finset.sum_image fun a _ b _ h => up_injective h]
  refine if_congr ?_ rfl rfl
  simp only [Finset.mem_image]
  exact ⟨fun h => ⟨n, h, rfl⟩, fun ⟨a, h, e⟩ => up_injective e ▸ h⟩

/-- An overlap's two comparisons, as words. -/
theorem overlap_word (n : Fin 255) (j : Fin 64) :
    IntOp.andi (IntOp.cmpi .slt (IntOp.muli (BitVec.ofNat 32 n.val) 16#32) (IntOp.addi (IntOp.muli (BitVec.ofNat 32 j.val) 64#32) 64#32))
      (IntOp.cmpi .sgt (IntOp.addi (IntOp.muli (BitVec.ofNat 32 n.val) 16#32) 32#32) (IntOp.muli (BitVec.ofNat 32 j.val) 64#32))
    = BitVec.ofBool (decide (n.val * 16 < j.val * 64 + 64 ∧ j.val * 64 < n.val * 16 + 32)) := by
  have e1 : ∀ n : Fin 255, IntOp.muli (BitVec.ofNat 32 n.val) 16#32 = BitVec.ofNat 32 (n.val * 16) := by decide +kernel
  have e2 : ∀ n : Fin 255, IntOp.addi (BitVec.ofNat 32 (n.val * 16)) 32#32 = BitVec.ofNat 32 (n.val * 16 + 32) := by decide +kernel
  have e3 : ∀ j : Fin 64, IntOp.muli (BitVec.ofNat 32 j.val) 64#32 = BitVec.ofNat 32 (j.val * 64) := by decide +kernel
  have e4 : ∀ j : Fin 64, IntOp.addi (BitVec.ofNat 32 (j.val * 64)) 64#32 = BitVec.ofNat 32 (j.val * 64 + 64) := by decide +kernel
  rw [e1, e2, e3, e4, cmpi_slt_ofNat (by omega) (by omega), cmpi_sgt_ofNat (by omega) (by omega), andi_ofBool, ← Bool.decide_and]

/-- The overlaps. -/
theorem overlap_read (i : S255x64.Idx) : val_main_v59 (F := Ideal) i = ((overlap (i 1) (up (i 0)) : ℝ) : EReal) := by
  have h0 : (i 0).val < 255 := (i 0).isLt
  have h1 : (i 1).val < 64 := (i 1).isLt
  rw [val_main_v59_apply, val_main_v58_apply, val_main_v50_apply, val_main_v57_apply, val_main_v48_apply, val_main_v49_apply, val_main_v44_apply,
    val_main_v47_apply, val_main_v45_apply, val_main_v46_apply, val_main_v55_apply, val_main_v56_apply, val_main_v53_apply, val_main_v54_apply,
    val_main_v51_apply, val_main_v52_apply, val_main_c_6_apply, val_main_c_7_apply]
  simp only [val_main_v36_apply, val_main_v43_apply, val_main_v34_apply, val_main_v35_apply, val_main_c_apply, val_main_v41_apply, val_main_v42_apply, val_main_c_5_apply]
  refine (congrArg (fun w => FloatOps.uitofp (F := Ideal) .f32 w) (overlap_word ⟨(i 0).val, h0⟩ ⟨(i 1).val, h1⟩)).trans ?_
  unfold overlap
  show FloatOps.uitofp (F := Ideal) .f32 (BitVec.ofBool (decide ((i 0).val * 16 < (i 1).val * 64 + 64 ∧ (i 1).val * 64 < (i 0).val * 16 + 32)))
    = ((if (i 0).val * 16 < (i 1).val * 64 + 64 ∧ (i 1).val * 64 < (i 0).val * 16 + 32 ∧ (i 0).val < 255 then 1 else 0 : ℝ) : EReal)
  by_cases h : (i 0).val * 16 < (i 1).val * 64 + 64 ∧ (i 1).val * 64 < (i 0).val * 16 + 32
  · rw [if_pos ⟨h.1, h.2, h0⟩, decide_eq_true h]; exact uitofp_one _
  · rw [if_neg fun h' => h ⟨h'.1, h'.2.1⟩, decide_eq_false h]; exact uitofp_zero _

include hA hK in
/-- The importances. -/
theorem imp_read (i : S4x4x4096x64.Idx) :
    val_main_v94 x0 x2 i = ((Cert.Branch.imp (qry ZA (i 0) (i 2) (i 1)) (fun n l => KC (crow (i 0) (i 1) n) l) overlap (i 2).val (i 3) : ℝ) : EReal) := by
  rw [val_main_v94_apply]
  have hs : ∀ j : S4x4x4096x255.Idx, val_main_v93 x0 x2 j = ((∑ h, prob (before (j 2).val) (xc ZA KC (j 0) (j 2) (j 1) h) (j 3) : ℝ) : EReal) := fun j => by
    rw [val_main_v93_apply, val_main_cst_13_apply]
    simp only [prob_read x0 x2 ZA KC hA hK]
    refine (congrArg (fun z => z + _) Ideal.ofBits_zero_f32).trans ((zero_add _).trans ?_)
    exact sum_coe fun h : Fin 4 => prob (before (j 2).val) (xc ZA KC (j 0) (j 2) (j 1) h) (j 3)
  simp only [hs, overlap_read]
  refine (sum_coe_mul (fun n : Fin 255 => ∑ h, prob (before (i 2).val) (xc ZA KC (i 0) (i 2) (i 1) h) n) (fun n => overlap (i 3) (up n))).trans ?_
  refine congrArg _ ?_
  unfold Cert.Branch.imp
  rw [Fin.sum_univ_castSucc (n := 255)]
  have hz : overlap (i 3) (Fin.last 255) = 0 := if_neg fun h => absurd h.2.2 (by simp)
  rw [hz, zero_mul, add_zero]
  refine Finset.sum_congr rfl fun n _ => ?_
  rw [mul_comm]
  refine congrArg₂ (· * ·) rfl (Finset.sum_congr rfl fun h _ => ?_)
  exact prob_up (i 2) (raw (qry ZA (i 0) (i 2) (i 1) h) (fun n l => KC (crow (i 0) (i 1) n) l)) n

end Cert.Ref

end
-- ==== Proof.RefPick.lean ====
/-
  The blocks the reference selects.
-/
module

public import proofs.«01_k».proof.Proof.RefComp
public import proofs.«01_k».proof.Proof.Inputs
public import proofs.«01_k».proof.Proof.TopSel
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- A position's block, as the reference computes it. -/
theorem cur_read (i : S4096.Idx) : val_main_v95 (F := Ideal) i = BitVec.ofNat 32 ((i 0).val / 64) := by
  have h0 : (i 0).val < 4096 := (i 0).isLt
  rw [val_main_v95_apply, val_main_call2_v11_apply, val_main_call2_v6_apply, val_main_call2_v10_apply, val_main_call2_v8_apply, val_main_call2_v13_apply,
    val_main_call2_v2_apply, val_main_call2_v1_apply, val_main_call2_v7_apply, val_main_call2_v5_apply, val_main_call2_v9_apply, val_main_call2_v12_apply]
  unfold val_main_call2_v3 val_main_call2_v4 signi
  rw [val_main_v68_apply, val_main_call2_v0_apply, val_main_c_14_apply]
  have e := no_correction ⟨(i 0).val, h0⟩
  refine (congrArg (fun c => Scalar.select c _ _) e).trans ?_
  exact host_div ⟨(i 0).val, h0⟩

theorem forced_word : ∀ c j : Fin 64,
    IntOp.ori (IntOp.ori (IntOp.cmpi .eq (BitVec.ofNat 32 j.val) 0#32) (IntOp.cmpi .eq (BitVec.ofNat 32 j.val) (BitVec.ofNat 32 c.val)))
      (IntOp.cmpi .eq (BitVec.ofNat 32 j.val) (IntOp.subi (BitVec.ofNat 32 c.val) 1#32))
    = BitVec.ofBool (decide (j.val = 0 ∨ j.val = c.val ∨ j.val + 1 = c.val)) := by decide +kernel

/-- The blocks always selected. -/
theorem forced_read (i : S4096x64.Idx) : val_main_v111 (F := Ideal) i
    = BitVec.ofBool (decide ((i 1).val = 0 ∨ (i 1).val = (i 0).val / 64 ∨ (i 1).val + 1 = (i 0).val / 64)) := by
  have h0 : (i 0).val < 4096 := (i 0).isLt
  have h1 : (i 1).val < 64 := (i 1).isLt
  rw [val_main_v111_apply, val_main_v105_apply, val_main_v110_apply, val_main_v104_apply, val_main_v103_apply, val_main_v100_apply, val_main_v101_apply,
    val_main_v102_apply, val_main_v108_apply, val_main_v109_apply, val_main_v107_apply, val_main_v106_apply, val_main_c_16_apply, val_main_v99_apply, val_main_c_15_apply]
  simp only [val_main_v96_apply, val_main_v98_apply, val_main_v97_apply, cur_read]
  exact forced_word ⟨(i 0).val / 64, by omega⟩ ⟨(i 1).val, h1⟩

/-- The blocks that begin at or before a position. -/
theorem begun_read (i : S4096x64.Idx) : val_main_v116 (F := Ideal) i = BitVec.ofBool (decide ((i 1).val * 64 ≤ (i 0).val)) := by
  have h0 : (i 0).val < 4096 := (i 0).isLt
  have h1 : (i 1).val < 64 := (i 1).isLt
  have e3 : ∀ j : Fin 64, IntOp.muli (BitVec.ofNat 32 j.val) 64#32 = BitVec.ofNat 32 (j.val * 64) := by decide +kernel
  rw [val_main_v116_apply, val_main_v114_apply, val_main_v115_apply, val_main_v112_apply, val_main_v113_apply, val_main_v43_apply, val_main_v41_apply,
    val_main_v42_apply, val_main_c_5_apply, val_main_v68_apply]
  refine (congrArg (fun w => IntOp.cmpi .sle w _) (e3 ⟨(i 1).val, h1⟩)).trans ?_
  exact cmpi_sle_ofNat (by show (i 1).val * 64 < 2 ^ 31; omega) (by show (i 0).val < 2 ^ 31; omega)

/-- The importances of a query's blocks. -/
def si (b : Fin 4) (g : Fin 4) (T : Fin 4096) : Fin 64 → ℝ := Cert.Branch.imp (qry ZA b T g) (fun n l => KC (crow b g n) l) overlap T.val

include hA hK in
/-- The scores that the blocks are selected by. -/
theorem sel_read (i : S4x4x4096x64.Idx) : val_main_v118 x0 x2 i = Cert.Branch.score (si ZA KC (i 0) (i 1) (i 2)) (i 2).val (i 3) := by
  rw [val_main_v118_apply, val_main_call4_v1_apply, forced_read, val_main_call4_v2_apply, val_main_call4_v0_apply, val_main_cst_18_apply,
    val_main_v117_apply, val_main_call3_v1_apply, begun_read, val_main_call3_v2_apply, val_main_call3_v0_apply, val_main_cst_17_apply, imp_read x0 x2 ZA KC hA hK]
  refine (Cert.Branch.select_ofBool _ _ _).trans (if_congr Iff.rfl rfl ?_)
  exact (Cert.Branch.select_ofBool _ _ _).trans (if_congr Iff.rfl rfl bot_word)

open Classical in
/-- The position that comes `k`-th when positions are sorted by decreasing value, equal ones in order. -/
def place (f : Fin 64 → EReal) (k : Fin 64) : Fin 64 := sortedFrom (fun x y => decide (f y < f x)) k

/-- A selected block's number among sixteen. -/
def slot (s : Fin 16) : Fin 64 := ⟨s.val, by omega⟩

/-- An index of the first sixteen columns, among all columns. -/
def wide (i : S4x4x4096x16.Idx) : S4x4x4096x64.Idx :=
  fun a => ⟨0 + (i a).val, Nat.lt_of_lt_of_le (Nat.add_lt_add_left (i a).isLt _) (sliceFits_S4x4x4096x64_S4x4x4096x16.2 a)⟩

/-- The positions that a selection of the greatest returns. -/
theorem top_any {α : Type} {s t : Shape} (d : ℕ) (hd : d < s.rank) (gt : α → α → BitVec 1) (x : s.Idx → α) (h : s.Slices (fun _ => 0) t) (i : t.Idx) (w : s.Idx)
    (hw : w = fun a => ⟨0 + (i (a.cast h.1.symm)).val, Nat.lt_of_lt_of_le (Nat.add_lt_add_left (i _).isLt _) (h.2 a)⟩) :
    (Host.topK t d gt x h).2 i = iotaInDim s 32 ⟨d, hd⟩ (w.along ⟨d, hd⟩
      (sortedFrom (fun k k' => gt (x (w.along ⟨d, hd⟩ k)) (x (w.along ⟨d, hd⟩ k')) == 1#1) (w ⟨d, hd⟩))) := by
  subst hw
  unfold Host.topK Host.sort2 extractStridedSlice
  simp only [dif_pos hd]

/-- The comparison of a selection. -/
theorem gt_bit (u v : EReal) : (FloatOps.cmpfTotal (F := Ideal) (φ := .f32) .gt u v == 1#1) = @decide (v < u) (Classical.propDecidable _) := by
  show (BitVec.ofBool (decide (v < u)) == 1#1) = _
  by_cases h : v < u
  · rw [decide_eq_true h]; exact (@decide_eq_true _ (Classical.propDecidable _) h).symm
  · rw [decide_eq_false h]; exact (@decide_eq_false _ (Classical.propDecidable _) h).symm

/-- The positions of a row's sixteen greatest entries. -/
theorem top_read (x : FVec Ideal S4x4x4096x64 .f32) (i : S4x4x4096x16.Idx) :
    (Host.topK S4x4x4096x16 3 (FloatOps.cmpfTotal .gt) x sliceFits_S4x4x4096x64_S4x4x4096x16).2 i
      = BitVec.ofNat 32 (place (fun j => x (ix4 (i 0) (i 1) (i 2) j)) (slot (i 3))).val := by
  have hx : ∀ k : Fin 64, (wide i).along 3 k
      = ix4 (i 0) (i 1) (i 2) k := fun k => funext fun a => by
    match a with
    | ⟨0, _⟩ => exact Fin.ext (Nat.zero_add _)
    | ⟨1, _⟩ => exact Fin.ext (Nat.zero_add _)
    | ⟨2, _⟩ => exact Fin.ext (Nat.zero_add _)
    | ⟨3, _⟩ => rfl
  have e := top_any 3 (by decide : 3 < S4x4x4096x64.rank) (FloatOps.cmpfTotal (F := Ideal) (φ := .f32) .gt) x sliceFits_S4x4x4096x64_S4x4x4096x16 i (wide i) rfl
  refine e.trans ?_
  have hi : ∀ k : Fin 64, iotaInDim S4x4x4096x64 32 3 ((wide i).along 3 k) = BitVec.ofNat 32 k.val := fun k => by
    rw [hx k]; rfl
  refine (hi _).trans ?_
  have hs : wide i 3 = slot (i 3) :=
    Fin.ext (Nat.zero_add _)
  have hc : (fun k k' : Fin 64 => FloatOps.cmpfTotal (F := Ideal) (φ := .f32) .gt (x ((wide i).along 3 k)) (x ((wide i).along 3 k')) == 1#1)
      = fun a b => @decide _ (Classical.propDecidable (x (ix4 (i 0) (i 1) (i 2) b) < x (ix4 (i 0) (i 1) (i 2) a))) := by
    funext a b
    rw [hx a, hx b]
    exact gt_bit _ _
  refine congrArg (fun p : Fin 64 => BitVec.ofNat 32 p.val) ?_
  unfold place
  refine (congrArg₂ (fun c k => sortedFrom c k) hc hs).trans ?_
  refine congrArg (fun c => sortedFrom c _) ?_
  funext a b
  congr

/-- The blocks of a query, in the order of selection. -/
def blocks (b : Fin 4) (g : Fin 4) (T : Fin 4096) (s : Fin 16) : Fin 64 := place (Cert.Branch.score (si ZA KC b g T) T.val) (slot s)

include hA hK in
/-- The selected blocks. -/
theorem indices_read (i : S4x4x4096x16.Idx) : val_main_indices x0 x2 i = BitVec.ofNat 32 (blocks ZA KC (i 0) (i 1) (i 2) (i 3)).val := by
  unfold val_main_indices
  refine (top_read (val_main_v118 x0 x2) i).trans ?_
  refine congrArg (fun f => BitVec.ofNat 32 (place f (slot (i 3))).val) (funext fun j => ?_)
  exact sel_read x0 x2 ZA KC hA hK (ix4 (i 0) (i 1) (i 2) j)

theorem place_injective (f : Fin 64 → EReal) : Function.Injective (place f) := fun a b h => sortedFrom_injective _ h

/-- A block is chosen exactly when it is among the selected sixteen. -/
theorem chosen_iff (b : Fin 4) (g : Fin 4) (T : Fin 4096) (j : Fin 64) :
    Cert.Branch.chosen (si ZA KC b g T) T.val j ↔ ∃ s, blocks ZA KC b g T s = j := by
  refine Iff.trans ?_ ((TopSel.selected_iff (Cert.Branch.score (si ZA KC b g T) T.val) 16 j).trans ?_)
  · unfold Cert.Branch.chosen
    refine Eq.to_iff ?_
    congr
  · constructor
    · rintro ⟨k, hk, e⟩; exact ⟨⟨k.val, hk⟩, e⟩
    · rintro ⟨s, e⟩; exact ⟨slot s, s.isLt, e⟩

theorem blocks_injective (b : Fin 4) (g : Fin 4) (T : Fin 4096) : Function.Injective (blocks ZA KC b g T) := fun s s' h =>
  Fin.ext (congrArg (fun k : Fin 64 => k.val) (place_injective _ h : slot s = slot s'))

end Cert.Ref

end
-- ==== Proof.RefGather.lean ====
/-
  Reads of the gathers by block numbers.
-/
module

public import proofs.«01_k».proof.Proof.RefIn
public import proofs.«01_k».proof.Proof.Inputs
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

theorem column_index (b g : Fin 4) (T : Fin 4096) (s : Fin 16) (i : S4x4x4096x16x1.Idx) (h0 : (i 0).val = b.val) (h1 : (i 1).val = g.val)
    (h2 : (i 2).val = T.val) (h3 : (i 3).val = s.val) (h4 : (i 4).val = 0) : i = ix5 b g T s 0 := funext fun a => by
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- Three arrays of one column joined, at a column. -/
theorem join_read (p q r : IVec S4x4x4096x16x1 32) (h : Shape.Concatenates [S4x4x4096x16x1, S4x4x4096x16x1, S4x4x4096x16x1] S4x4x4096x16x3 4)
    (b g : Fin 4) (T : Fin 4096) (s : Fin 16) (c : Fin 3) :
    concatenate S4x4x4096x16x3 4 [⟨S4x4x4096x16x1, p⟩, ⟨S4x4x4096x16x1, q⟩, ⟨S4x4x4096x16x1, r⟩] h (ix5 b g T s c)
      = (if c.val = 0 then p else if c.val = 1 then q else r) (ix5 b g T s 0) := by
  concat_tiles i hi
  · have hc : c.val = 0 := hi
    rw [if_pos hc]
    exact congrArg p (column_index b g T s i hi0 hi1 hi2 hi3 hi4)
  · have hc : c.val = 1 := hi
    rw [if_neg (by omega), if_pos hc]
    exact congrArg q (column_index b g T s i hi0 hi1 hi2 hi3 hi4)
  · have hc : c.val = 2 := hi
    rw [if_neg (by omega), if_neg (by omega)]
    exact congrArg r (column_index b g T s i hi0 hi1 hi2 hi3 hi4)

/-- Their last column. -/
theorem join_last (p q r : IVec S4x4x4096x16x1 32) (h : Shape.Concatenates [S4x4x4096x16x1, S4x4x4096x16x1, S4x4x4096x16x1] S4x4x4096x16x3 4)
    (b g : Fin 4) (T : Fin 4096) (s : Fin 16) :
    concatenate S4x4x4096x16x3 4 [⟨S4x4x4096x16x1, p⟩, ⟨S4x4x4096x16x1, q⟩, ⟨S4x4x4096x16x1, r⟩] h (ix5 b g T s 2) = r (ix5 b g T s 0) := by
  refine (join_read p q r h b g T s 2).trans ?_
  exact congrFun ((if_neg (by decide)).trans (if_neg (by decide))) _

/-- A gather of whole blocks reads the block that the start indices name. -/
theorem gather_read (x : FVec Ideal S4x4x64x64x128 .f32) (y : IVec S4x4x4096x16x3 32) (i : S4x4x4096x16x64x128.Idx) (p : Fin 64)
    (hb : y (ix5 (i 0) (i 1) (i 2) (i 3) 0) = BitVec.ofNat 32 (i 0).val) (hg : y (ix5 (i 0) (i 1) (i 2) (i 3) 1) = BitVec.ofNat 32 (i 1).val)
    (hp : y (ix5 (i 0) (i 1) (i 2) (i 3) 2) = BitVec.ofNat 32 p.val) :
    Host.gather gather_S4x4x64x64x128_S4x4x4096x16x3_S4x4x4096x16x64x128_45_012_n_n_012_4_11164128 x y i = x (ix5 (i 0) (i 1) p (i 4) (i 5)) := by
  refine congrArg x (funext fun a => Fin.ext ?_)
  have w4 : ∀ n : Fin 4, min (BitVec.ofNat 32 n.val).toInt.toNat 3 + 0 + 0 = n.val := by decide
  have w64 : ∀ n : Fin 64, min (BitVec.ofNat 32 n.val).toInt.toNat 63 + 0 + 0 = n.val := by decide
  have hs : ∀ c : Fin 3, gather_S4x4x64x64x128_S4x4x4096x16x3_S4x4x4096x16x64x128_45_012_n_n_012_4_11164128.siIdx i c = ix5 (i 0) (i 1) (i 2) (i 3) c :=
    fun c => funext fun a => by
      match a with
      | ⟨0, _⟩ => rfl
      | ⟨1, _⟩ => rfl
      | ⟨2, _⟩ => rfl
      | ⟨3, _⟩ => rfl
      | ⟨4, _⟩ => rfl
  match a with
  | ⟨0, _⟩ => exact (congrArg (fun u : BitVec 32 => min u.toInt.toNat 3 + 0 + 0) ((congrArg y (hs 0)).trans hb)).trans (w4 (i 0))
  | ⟨1, _⟩ => exact (congrArg (fun u : BitVec 32 => min u.toInt.toNat 3 + 0 + 0) ((congrArg y (hs 1)).trans hg)).trans (w4 (i 1))
  | ⟨2, _⟩ => exact (congrArg (fun u : BitVec 32 => min u.toInt.toNat 63 + 0 + 0) ((congrArg y (hs 2)).trans hp)).trans (w64 p)
  | ⟨3, _⟩ => show 0 + 0 + (i 4).val = (i 4).val; omega
  | ⟨4, _⟩ => show 0 + 0 + (i 5).val = (i 5).val; omega

end Cert.Ref

end
-- ==== Proof.RefKeys.lean ====
/-
  The selected keys and values of the reference, their scores and their mask.
-/
module

public import proofs.«01_k».proof.Proof.RefPick
public import proofs.«01_k».proof.Proof.RefGather
public import Idealize.ShloMosaic.Lib.ValueIdxRank6
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- A number below four is not negative, so it is not shifted. -/
theorem wrap_four : ∀ n : Fin 4, Scalar.select (IntOp.cmpi .slt (BitVec.ofNat 32 n.val) 0#32) (IntOp.addi (BitVec.ofNat 32 n.val) 4#32) (BitVec.ofNat 32 n.val)
    = BitVec.ofNat 32 n.val := by decide +kernel

/-- A block's number is not negative, so it is not shifted. -/
theorem wrap_block : ∀ n : Fin 64, Scalar.select (IntOp.cmpi .slt (BitVec.ofNat 32 n.val) 0#32) (IntOp.addi (BitVec.ofNat 32 n.val) 64#32) (BitVec.ofNat 32 n.val)
    = BitVec.ofNat 32 n.val := by decide +kernel

/-- A position from its block and its place in the block. -/
def spot (p l : Fin 64) : Fin 4096 := ⟨p.val * 64 + l.val, by omega⟩

theorem split_b (b : Fin 4) (p l : Fin 64) (g : Fin 4) (d : Fin 128) : ((((b.val * 64 + p.val) * 64 + l.val) * 4 + g.val) * 128 + d.val) / 2097152 = b.val := by omega
theorem split_t (b : Fin 4) (p l : Fin 64) (g : Fin 4) (d : Fin 128) : ((((b.val * 64 + p.val) * 64 + l.val) * 4 + g.val) * 128 + d.val) / 512 % 4096 = p.val * 64 + l.val := by omega
theorem split_g (b : Fin 4) (p l : Fin 64) (g : Fin 4) (d : Fin 128) : ((((b.val * 64 + p.val) * 64 + l.val) * 4 + g.val) * 128 + d.val) / 128 % 4 = g.val := by omega
theorem split_d (b : Fin 4) (p l : Fin 64) (g : Fin 4) (d : Fin 128) : ((((b.val * 64 + p.val) * 64 + l.val) * 4 + g.val) * 128 + d.val) % 128 = d.val := by omega

include hA in
/-- The keys by blocks. -/
theorem keys_block (b g : Fin 4) (p l : Fin 64) (d : Fin 128) : val_main_v61 x0 (ix5 b g p l d) = ((ZA (tok b (spot p l)) (kscol g d) : ℝ) : EReal) := by
  rw [val_main_v61_apply, val_main_v60_apply]
  refine (ks_read x0 ZA hA _).trans (congrArg (fun y : ℝ => (y : EReal)) (congrArg₂ ZA (congrArg₂ tok ?_ ?_) (congrArg₂ kscol ?_ ?_)))
  · exact Fin.ext (split_b b p l g d)
  · exact Fin.ext (split_t b p l g d)
  · exact Fin.ext (split_g b p l g d)
  · exact Fin.ext (split_d b p l g d)

include hA hK in
/-- The gathered keys. -/
theorem keys_read (i : S4x4x4096x16x64x128.Idx) :
    val_main_v140 x0 x2 i = ((ZA (tok (i 0) (spot (blocks ZA KC (i 0) (i 1) (i 2) (i 3)) (i 4))) (kscol (i 1) (i 5)) : ℝ) : EReal) := by
  unfold val_main_v140
  refine (gather_read _ _ i (blocks ZA KC (i 0) (i 1) (i 2) (i 3)) ?_ ?_ ?_).trans ?_
  · refine (join_read _ _ _ _ (i 0) (i 1) (i 2) (i 3) 0).trans ?_
    show val_main_v136 (F := Ideal) (ix5 (i 0) (i 1) (i 2) (i 3) 0) = _
    rw [val_main_v136_apply, val_main_v134_apply, val_main_v123_apply, val_main_v120_apply, val_main_v122_apply, val_main_v119_apply, val_main_v121_apply,
      val_main_c_19_apply, val_main_c_20_apply, val_main_v65_apply, val_main_v64_apply]
    exact wrap_four (i 0)
  · refine (join_read _ _ _ _ (i 0) (i 1) (i 2) (i 3) 1).trans ?_
    show val_main_v137 (F := Ideal) (ix5 (i 0) (i 1) (i 2) (i 3) 0) = _
    rw [val_main_v137_apply, val_main_v135_apply, val_main_v128_apply, val_main_v125_apply, val_main_v127_apply, val_main_v124_apply, val_main_v126_apply,
      val_main_c_21_apply, val_main_c_22_apply, val_main_v67_apply, val_main_v66_apply]
    exact wrap_four (i 1)
  · refine (join_last _ _ (val_main_v138 x0 x2) _ (i 0) (i 1) (i 2) (i 3)).trans ?_
    rw [val_main_v138_apply, val_main_v133_apply, val_main_v130_apply, val_main_v132_apply, val_main_v129_apply, val_main_v131_apply,
      val_main_c_23_apply, val_main_c_24_apply, indices_read x0 x2 ZA KC hA hK]
    exact wrap_block (blocks ZA KC (i 0) (i 1) (i 2) (i 3))
  · exact keys_block x0 ZA hA (i 0) (i 1) (blocks ZA KC (i 0) (i 1) (i 2) (i 3)) (i 4) (i 5)

include hB in
/-- The values by blocks. -/
theorem values_block (b g : Fin 4) (p l : Fin 64) (d : Fin 128) : val_main_v63 x1 (ix5 b g p l d) = ((ZB (tok b (spot p l)) (vscol g d) : ℝ) : EReal) := by
  rw [val_main_v63_apply, val_main_v62_apply]
  refine (vs_read x1 ZB hB _).trans (congrArg (fun y : ℝ => (y : EReal)) (congrArg₂ ZB (congrArg₂ tok ?_ ?_) (congrArg₂ vscol ?_ ?_)))
  · exact Fin.ext (split_b b p l g d)
  · exact Fin.ext (split_t b p l g d)
  · exact Fin.ext (split_g b p l g d)
  · exact Fin.ext (split_d b p l g d)

include hA hB hK in
/-- The gathered values. -/
theorem values_read (i : S4x4x4096x16x64x128.Idx) :
    val_main_v162 x0 x1 x2 i = ((ZB (tok (i 0) (spot (blocks ZA KC (i 0) (i 1) (i 2) (i 3)) (i 4))) (vscol (i 1) (i 5)) : ℝ) : EReal) := by
  unfold val_main_v162
  refine (gather_read _ _ i (blocks ZA KC (i 0) (i 1) (i 2) (i 3)) ?_ ?_ ?_).trans ?_
  · refine (join_read _ _ _ _ (i 0) (i 1) (i 2) (i 3) 0).trans ?_
    show val_main_v158 (F := Ideal) (ix5 (i 0) (i 1) (i 2) (i 3) 0) = _
    rw [val_main_v158_apply, val_main_v156_apply, val_main_v145_apply, val_main_v142_apply, val_main_v144_apply, val_main_v141_apply, val_main_v143_apply,
      val_main_c_25_apply, val_main_c_26_apply, val_main_v65_apply, val_main_v64_apply]
    exact wrap_four (i 0)
  · refine (join_read _ _ _ _ (i 0) (i 1) (i 2) (i 3) 1).trans ?_
    show val_main_v159 (F := Ideal) (ix5 (i 0) (i 1) (i 2) (i 3) 0) = _
    rw [val_main_v159_apply, val_main_v157_apply, val_main_v150_apply, val_main_v147_apply, val_main_v149_apply, val_main_v146_apply, val_main_v148_apply,
      val_main_c_27_apply, val_main_c_28_apply, val_main_v67_apply, val_main_v66_apply]
    exact wrap_four (i 1)
  · refine (join_last _ _ (val_main_v160 x0 x2) _ (i 0) (i 1) (i 2) (i 3)).trans ?_
    rw [val_main_v160_apply, val_main_v155_apply, val_main_v152_apply, val_main_v154_apply, val_main_v151_apply, val_main_v153_apply,
      val_main_c_29_apply, val_main_c_30_apply, indices_read x0 x2 ZA KC hA hK]
    exact wrap_block (blocks ZA KC (i 0) (i 1) (i 2) (i 3))
  · exact values_block x1 ZB hB (i 0) (i 1) (blocks ZA KC (i 0) (i 1) (i 2) (i 3)) (i 4) (i 5)

/-- The raw scores of a query against the selecting branch's keys. -/
def xs (b : Fin 4) (T : Fin 4096) (g h : Fin 4) (k : Fin 4096) : ℝ := raw (qry ZA b T g h) (fun k l => ZA (tok b k) (kscol g l)) k

include hA hK in
/-- The selecting branch's scaled scores. -/
theorem sscore_read (i : S4x4x4x4096x16x64.Idx) :
    val_main_v166 x0 x2 i = ((xs ZA (i 0) (i 3) (i 1) (i 2) (spot (blocks ZA KC (i 0) (i 1) (i 3) (i 4)) (i 5)) * (Real.sqrt 128)⁻¹ : ℝ) : EReal) := by
  rw [val_main_v166_apply, val_main_v165_apply, scale_read, val_main_v164_apply, val_main_v163_apply]
  simp only [keys_read x0 x2 ZA KC hA hK, q_read x0 ZA hA]
  refine (congrArg (fun y => y * _) (sum_coe_mul (fun k : Fin 128 => ZA (tok (i 0) (spot (blocks ZA KC (i 0) (i 1) (i 3) (i 4)) (i 5))) (kscol (i 1) k))
    (fun k => qry ZA (i 0) (i 3) (i 1) (i 2) k))).trans ?_
  rw [← EReal.coe_mul]
  exact congrArg (fun y : ℝ => ((y * (Real.sqrt 128)⁻¹ : ℝ) : EReal)) (Finset.sum_congr rfl fun k _ => mul_comm _ _)

/-- A position's word from its block and its place in the block. -/
theorem spot_word (p l : Fin 64) : IntOp.addi (IntOp.muli (BitVec.ofNat 32 p.val) 64#32) (BitVec.ofNat 32 l.val) = BitVec.ofNat 32 (spot p l).val := by
  have e : IntOp.muli (BitVec.ofNat 32 p.val) 64#32 = BitVec.ofNat 32 (p.val * 64) := muli_ofNat p.val 64
  rw [e, addi_ofNat]
  rfl

include hA hK in
/-- The selecting branch's mask. -/
theorem smask_read (i : S4x4x1x4096x16x64.Idx) :
    val_main_v178 x0 x2 i = BitVec.ofBool (decide ((spot (blocks ZA KC (i 0) (i 1) (i 3) (i 4)) (i 5)).val ≤ (i 3).val)) := by
  rw [val_main_v178_apply, val_main_v177_apply, val_main_v174_apply, val_main_v172_apply, val_main_v169_apply, val_main_v167_apply,
    indices_read x0 x2 ZA KC hA hK, val_main_v168_apply, val_main_c_31_apply, val_main_v173_apply, val_main_v171_apply, val_main_v170_apply, val_main_v176_apply,
    val_main_v175_apply, val_main_v68_apply]
  refine (congrArg (fun w => IntOp.cmpi .sle w _) (spot_word (blocks ZA KC (i 0) (i 1) (i 3) (i 4)) (i 5))).trans ?_
  have h3 : (i 3).val < 4096 := (i 3).isLt
  have h := (spot (blocks ZA KC (i 0) (i 1) (i 3) (i 4)) (i 5)).isLt
  exact cmpi_sle_ofNat (lt_trans h (by norm_num)) (by show (i 3).val < 2 ^ 31; omega)

end Cert.Ref

end
-- ==== Proof.RefKeySet.lean ====
/-
  The positions the reference's selecting branch sees, and its masked scores.
-/
module

public import proofs.«01_k».proof.Proof.RefKeys
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- A selected block's number, from a place among 1024. -/
def hi (m : Fin 1024) : Fin 16 := ⟨m.val / 64, by omega⟩

/-- A place in a block, from a place among 1024. -/
def lo (m : Fin 1024) : Fin 64 := ⟨m.val % 64, by omega⟩

/-- A place among 1024. -/
def cell (s : Fin 16) (l : Fin 64) : Fin 1024 := ⟨s.val * 64 + l.val, by omega⟩

theorem hi_cell (s : Fin 16) (l : Fin 64) : hi (cell s l) = s := Fin.ext (by show (s.val * 64 + l.val) / 64 = s.val; omega)
theorem lo_cell (s : Fin 16) (l : Fin 64) : lo (cell s l) = l := Fin.ext (by show (s.val * 64 + l.val) % 64 = l.val; omega)

/-- The positions of the selected blocks, in the order of selection. -/
def key (b : Fin 4) (g : Fin 4) (T : Fin 4096) (m : Fin 1024) : Fin 4096 := spot (blocks ZA KC b g T (hi m)) (lo m)

theorem key_cell (b : Fin 4) (g : Fin 4) (T : Fin 4096) (s : Fin 16) (l : Fin 64) : key ZA KC b g T (cell s l) = spot (blocks ZA KC b g T s) l := by
  unfold key
  rw [hi_cell, lo_cell]

theorem key_injective (b : Fin 4) (g : Fin 4) (T : Fin 4096) : Function.Injective (key ZA KC b g T) := fun m m' h => by
  have hv : (blocks ZA KC b g T (hi m)).val * 64 + (lo m).val = (blocks ZA KC b g T (hi m')).val * 64 + (lo m').val := congrArg (fun k : Fin 4096 => k.val) h
  have h1 := (lo m).isLt
  have h2 := (lo m').isLt
  have hb : hi m = hi m' := blocks_injective ZA KC b g T (Fin.ext (by omega))
  have hl : (lo m).val = (lo m').val := by rw [hb] at hv; omega
  have hh : m.val / 64 = m'.val / 64 := congrArg (fun k : Fin 16 => k.val) hb
  have hl' : m.val % 64 = m'.val % 64 := hl
  exact Fin.ext (by omega)

/-- The places whose positions do not come after the query. -/
def near (b : Fin 4) (g : Fin 4) (T : Fin 4096) : Finset (Fin 1024) := Finset.univ.filter fun m => (key ZA KC b g T m).val ≤ T.val

theorem mem_near (b : Fin 4) (g : Fin 4) (T : Fin 4096) (m : Fin 1024) : m ∈ near ZA KC b g T ↔ (key ZA KC b g T m).val ≤ T.val := by simp [near]

/-- They are the positions of the chosen blocks up to the query. -/
theorem near_image (b : Fin 4) (g : Fin 4) (T : Fin 4096) :
    Cert.Branch.pick (Cert.Branch.chosen (si ZA KC b g T) T.val) T.val = (near ZA KC b g T).image (key ZA KC b g T) := by
  ext k
  have hm : k ∈ Cert.Branch.pick (Cert.Branch.chosen (si ZA KC b g T) T.val) T.val ↔ Cert.Branch.chosen (si ZA KC b g T) T.val (Cert.Branch.blk k) ∧ k.val ≤ T.val := by
    simp [Cert.Branch.pick]
  rw [hm, chosen_iff, Finset.mem_image]
  constructor
  · rintro ⟨⟨s, e⟩, hk⟩
    have hc : key ZA KC b g T (cell s ⟨k.val % 64, by omega⟩) = k := by
      rw [key_cell, e]
      exact Fin.ext (by show k.val / 64 * 64 + k.val % 64 = k.val; omega)
    exact ⟨cell s ⟨k.val % 64, by omega⟩, (mem_near ZA KC b g T _).2 (by rw [hc]; exact hk), hc⟩
  · rintro ⟨m, hmem, rfl⟩
    refine ⟨⟨hi m, ?_⟩, (mem_near ZA KC b g T m).1 hmem⟩
    refine Fin.ext ?_
    show _ = ((blocks ZA KC b g T (hi m)).val * 64 + (lo m).val) / 64
    have := (lo m).isLt
    omega

/-- The scores, their blocks' places joined. -/
theorem flat_read (y : FVec Ideal S4x4x4x4096x16x64 .f32) (i : S4x4x4x4096x1024.Idx) :
    shapeCast S4x4x4x4096x1024 y shapeCasts_S4x4x4x4096x16x64_S4x4x4x4096x1024 i = y (ix6 (i 0) (i 1) (i 2) (i 3) (hi (i 4)) (lo (i 4))) :=
  shapeCast_apply y shapeCasts_S4x4x4x4096x16x64_S4x4x4x4096x1024 i _ (by
    rewrite [Shape.rowMajor_val_six, Shape.rowMajor_val_five]
    show (((((i 0).val * 4 + (i 1).val) * 4 + (i 2).val) * 4096 + (i 3).val) * 16 + (i 4).val / 64) * 64 + (i 4).val % 64
      = ((((i 0).val * 4 + (i 1).val) * 4 + (i 2).val) * 4096 + (i 3).val) * 1024 + (i 4).val
    omega)

/-- The mask, its blocks' places joined. -/
theorem flat_mask (y : IVec S4x4x1x4096x16x64 1) (i : S4x4x1x4096x1024.Idx) :
    shapeCast S4x4x1x4096x1024 y shapeCasts_S4x4x1x4096x16x64_S4x4x1x4096x1024 i = y (ix6 (i 0) (i 1) (i 2) (i 3) (hi (i 4)) (lo (i 4))) :=
  shapeCast_apply y shapeCasts_S4x4x1x4096x16x64_S4x4x1x4096x1024 i _ (by
    rewrite [Shape.rowMajor_val_six, Shape.rowMajor_val_five]
    show (((((i 0).val * 4 + (i 1).val) * 1 + (i 2).val) * 4096 + (i 3).val) * 16 + (i 4).val / 64) * 64 + (i 4).val % 64
      = ((((i 0).val * 4 + (i 1).val) * 1 + (i 2).val) * 4096 + (i 3).val) * 1024 + (i 4).val
    omega)

/-- The weights, split by blocks. -/
theorem split_read (y : FVec Ideal S4x4x4x4096x1024 .f32) (i : S4x4x4x4096x16x64.Idx) :
    shapeCast S4x4x4x4096x16x64 y shapeCasts_S4x4x4x4096x1024_S4x4x4x4096x16x64 i = y (ix5 (i 0) (i 1) (i 2) (i 3) (cell (i 4) (i 5))) :=
  shapeCast_apply y shapeCasts_S4x4x4x4096x1024_S4x4x4x4096x16x64 i _ (by
    rewrite [Shape.rowMajor_val_six, Shape.rowMajor_val_five]
    show ((((i 0).val * 4 + (i 1).val) * 4 + (i 2).val) * 4096 + (i 3).val) * 1024 + ((i 4).val * 64 + (i 5).val)
      = (((((i 0).val * 4 + (i 1).val) * 4 + (i 2).val) * 4096 + (i 3).val) * 16 + (i 4).val) * 64 + (i 5).val
    omega)

/-- The raw scores at the selected places. -/
def xk (b : Fin 4) (T : Fin 4096) (g h : Fin 4) (m : Fin 1024) : ℝ := xs ZA b T g h (key ZA KC b g T m)

include hA hK in
/-- The mask at a place. -/
theorem spos_read (i : S4x4x1x4096x1024.Idx) :
    val_main_v180 x0 x2 i = BitVec.ofBool (decide ((key ZA KC (i 0) (i 1) (i 3) (i 4)).val ≤ (i 3).val)) := by
  unfold val_main_v180
  exact (flat_mask (val_main_v178 x0 x2) i).trans (smask_read x0 x2 ZA KC hA hK _)

include hA hK in
/-- The masked scores. -/
theorem smasked_read (i : S4x4x4x4096x1024.Idx) :
    val_main_v181 x0 x2 i = low (near ZA KC (i 0) (i 1) (i 3)) (i 4) (xk ZA KC (i 0) (i 3) (i 1) (i 2) (i 4)) := by
  rw [val_main_v181_apply, val_main_call5_v1_apply, spos_read x0 x2 ZA KC hA hK, val_main_call5_v2_apply, val_main_call5_v0_apply, val_main_cst_32_apply]
  refine low_select _ _ _ _ (mem_near ZA KC (i 0) (i 1) (i 3) (i 4)) _ rfl _ _ ?_ bot_word
  unfold val_main_v179
  exact (flat_read (val_main_v166 x0 x2) i).trans (sscore_read x0 x2 ZA KC hA hK _)

end Cert.Ref

end
-- ==== Proof.RefProb.lean ====
/-
  The weights of the reference's selecting branch.
-/
module

public import proofs.«01_k».proof.Proof.RefKeySet
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

include hA hK in
/-- The greatest masked score of a row. -/
theorem smax_read (j : S4x4x4x4096.Idx) : IsMax (near ZA KC (j 0) (j 1) (j 3)) (val_main_v184 x0 x2 j) := by
  rw [val_main_v184_apply, val_main_v183_apply, val_main_cst_34_apply]
  have e : val_main_v182 x0 x2 j = Finset.univ.sup fun n : Fin 1024 => low (near ZA KC (j 0) (j 1) (j 3)) n (xk ZA KC (j 0) (j 3) (j 1) (j 2) n) := by
    have hz : ∀ i, val_main_cst_33 (F := Ideal) i = (⊥ : EReal) := fun i => bot_word
    unfold val_main_v182
    revert hz
    generalize val_main_cst_33 (F := Ideal) = z
    intro hz
    exact (greatest (n0 := 4) (n1 := 4) (n2 := 4) (n3 := 4096) (n4 := 1024) reducesTo_S4x4x4x4096x1024_S4x4x4x4096_d4 (val_main_v181 x0 x2) z hz h_S_ j).trans
      (Finset.sup_congr rfl fun k _ => smasked_read x0 x2 ZA KC hA hK _)
  rw [e]
  show IsMax _ (max (Ideal.ofBits .f32 0xFF800000#32) _)
  rw [bot_word, max_eq_right bot_le]
  exact isMax_sup (near ZA KC (j 0) (j 1) (j 3)) fun n => xk ZA KC (j 0) (j 3) (j 1) (j 2) n * (Real.sqrt 128)⁻¹

/-- The exponential of a masked score less the greatest. -/
theorem sexp_read (i : S4x4x4x4096x1024.Idx) :
    val_main_v188 x0 x2 i = Ideal.exp (val_main_v181 x0 x2 i - val_main_v184 x0 x2 (idx_main_v185 (idx_main_v186 i))) := by
  refine (val_main_v188_apply x0 x2 i).trans ?_
  refine congrArg Ideal.exp ((val_main_v187_apply x0 x2 i).trans ?_)
  refine congrArg (fun e : EReal => val_main_v181 x0 x2 i - e) ?_
  exact (val_main_v186_apply x0 x2 i).trans (val_main_v185_apply x0 x2 _)

include hA hK in
/-- The selecting branch's weights. -/
theorem sprob_read (i : S4x4x4x4096x1024.Idx) :
    val_main_v193 x0 x2 i = ((prob (near ZA KC (i 0) (i 1) (i 3)) (xk ZA KC (i 0) (i 3) (i 1) (i 2)) (i 4) : ℝ) : EReal) := by
  have hi : idx_main_v189 (idx_main_v190 (idx_main_v191 i)) (i 4) = i := funext fun a => by
    match a with
    | ⟨0, _⟩ => rfl
    | ⟨1, _⟩ => rfl
    | ⟨2, _⟩ => rfl
    | ⟨3, _⟩ => rfl
    | ⟨4, _⟩ => rfl
  have hj : ∀ k, idx_main_v185 (idx_main_v186 (idx_main_v189 (idx_main_v190 (idx_main_v191 i)) k)) = idx_main_v185 (idx_main_v186 i) := fun k => funext fun a => by
    match a with
    | ⟨0, _⟩ => rfl
    | ⟨1, _⟩ => rfl
    | ⟨2, _⟩ => rfl
    | ⟨3, _⟩ => rfl
  rw [val_main_v193_apply]
  refine soft (near ZA KC (i 0) (i 1) (i 3)) (xk ZA KC (i 0) (i 3) (i 1) (i 2))
    (fun k => val_main_v181 x0 x2 (idx_main_v189 (idx_main_v190 (idx_main_v191 i)) k))
    (fun k => smasked_read x0 x2 ZA KC hA hK _) (smax_read x0 x2 ZA KC hA hK (idx_main_v185 (idx_main_v186 i)))
    Ideal.ofBits_zero_f32 ?_ _ (i 4) ?_ _ ?_
  · rw [val_main_call6_v2_apply, val_main_call6_v0_apply, val_main_cst_36_apply]
    exact Ideal.ofBits_zero_f32
  · rw [val_main_call6_v1_apply, spos_read x0 x2 ZA KC hA hK]
    exact congrArg BitVec.ofBool (decide_eq_decide.2 (mem_near ZA KC (i 0) (i 1) (i 3) (i 4)).symm)
  · refine (val_main_v192_apply x0 x2 i).trans (congrArg₂ Ideal.div ?_ ?_)
    · show _ = Ideal.exp (val_main_v181 x0 x2 (idx_main_v189 (idx_main_v190 (idx_main_v191 i)) (i 4)) - _)
      rw [hi]
      exact sexp_read x0 x2 i
    · refine (val_main_v191_apply x0 x2 i).trans ((val_main_v190_apply x0 x2 _).trans ((val_main_v189_apply x0 x2 _).trans ?_))
      refine congrArg₂ (fun u v : EReal => u + v) rfl (Finset.sum_congr rfl fun k _ => ?_)
      exact (sexp_read x0 x2 _).trans (congrArg (fun j => Ideal.exp (val_main_v181 x0 x2 (idx_main_v189 (idx_main_v190 (idx_main_v191 i)) k) - val_main_v184 x0 x2 j)) (hj k))

end Cert.Ref

end
-- ==== Proof.RefSel.lean ====
/-
  The selecting branch of the reference.
-/
module

public import proofs.«01_k».proof.Proof.RefProb
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- The two summed coordinates of the selecting branch's result. -/
abbrev pairs := dot_S4x4x4x4096x16x64_S4x4x4096x16x64x128_S4x4096x4x4x128_54_43_2_5_031_021

def pairS (q : pairs.contr.Idx) : Fin 16 := ⟨(q ⟨1, by decide⟩).val, (q ⟨1, by decide⟩).isLt⟩
def pairL (q : pairs.contr.Idx) : Fin 64 := ⟨(q ⟨0, by decide⟩).val, (q ⟨0, by decide⟩).isLt⟩

theorem pair_left (i : S4x4096x4x4x128.Idx) (q : pairs.contr.Idx) : pairs.lhsIdx i q = (ix6 (i 0) (i 2) (i 3) (i 1) (pairS q) (pairL q) : S4x4x4x4096x16x64.Idx) :=
  funext fun a => by
    match a with
    | ⟨0, _⟩ => rfl
    | ⟨1, _⟩ => rfl
    | ⟨2, _⟩ => rfl
    | ⟨3, _⟩ => rfl
    | ⟨4, _⟩ => rfl
    | ⟨5, _⟩ => rfl

theorem pair_right (i : S4x4096x4x4x128.Idx) (q : pairs.contr.Idx) : pairs.rhsIdx i q = (ix6 (i 0) (i 2) (i 1) (pairS q) (pairL q) (i 4) : S4x4x4096x16x64x128.Idx) :=
  funext fun a => by
    match a with
    | ⟨0, _⟩ => rfl
    | ⟨1, _⟩ => rfl
    | ⟨2, _⟩ => rfl
    | ⟨3, _⟩ => rfl
    | ⟨4, _⟩ => rfl
    | ⟨5, _⟩ => rfl

theorem pair_bijective : Function.Bijective fun q : pairs.contr.Idx => cell (pairS q) (pairL q) := by
  constructor
  · intro q q' h
    have hs : pairS q = pairS q' := by rw [← hi_cell (pairS q) (pairL q), ← hi_cell (pairS q') (pairL q')]; exact congrArg hi h
    have hl : pairL q = pairL q' := by rw [← lo_cell (pairS q) (pairL q), ← lo_cell (pairS q') (pairL q')]; exact congrArg lo h
    funext a
    match a with
    | ⟨0, _⟩ => exact Fin.ext (congrArg (fun k : Fin 64 => k.val) hl)
    | ⟨1, _⟩ => exact Fin.ext (congrArg (fun k : Fin 16 => k.val) hs)
  · intro m
    refine ⟨fun a => match a with | ⟨0, _⟩ => ⟨m.val % 64, Nat.mod_lt _ (by norm_num)⟩ | ⟨1, _⟩ => ⟨m.val / 64, (hi m).isLt⟩, ?_⟩
    exact Fin.ext (by show m.val / 64 * 64 + m.val % 64 = m.val; omega)

include hA hB hK in
/-- The selecting branch's result. -/
theorem select_read (i : S4x4096x4x4x128.Idx) :
    val_main_v195 x0 x1 x2 i = ((attn (Cert.Branch.pick (Cert.Branch.chosen (si ZA KC (i 0) (i 2) (i 1)) (i 1).val) (i 1).val)
      (raw (qry ZA (i 0) (i 1) (i 2) (i 3)) (fun k l => ZA (tok (i 0) k) (kscol (i 2) l))) (fun k => ZB (tok (i 0) k) (vscol (i 2) (i 4))) : ℝ) : EReal) := by
  have hw : ∀ q : pairs.contr.Idx, val_main_v194 x0 x2 (pairs.lhsIdx i q) * val_main_v162 x0 x1 x2 (pairs.rhsIdx i q)
      = ((prob (near ZA KC (i 0) (i 2) (i 1)) (xk ZA KC (i 0) (i 1) (i 2) (i 3)) (cell (pairS q) (pairL q))
          * ZB (tok (i 0) (key ZA KC (i 0) (i 2) (i 1) (cell (pairS q) (pairL q)))) (vscol (i 2) (i 4)) : ℝ) : EReal) := fun q => by
    refine Eq.trans ?_ (EReal.coe_mul _ _).symm
    refine congrArg₂ (fun u v : EReal => u * v) ?_ ?_
    · refine (congrArg (val_main_v194 x0 x2) (pair_left i q)).trans ?_
      unfold val_main_v194
      exact (split_read (val_main_v193 x0 x2) _).trans (sprob_read x0 x2 ZA KC hA hK _)
    · exact (congrArg (val_main_v162 x0 x1 x2) (pair_right i q)).trans ((values_read x0 x1 x2 ZA ZB KC hA hB hK _).trans
        (congrArg (fun k => ((ZB (tok (i 0) k) (vscol (i 2) (i 4)) : ℝ) : EReal)) (key_cell ZA KC (i 0) (i 2) (i 1) (pairS q) (pairL q)).symm))
  have hd : val_main_v195 x0 x1 x2 i = ∑ q : pairs.contr.Idx, val_main_v194 x0 x2 (pairs.lhsIdx i q) * val_main_v162 x0 x1 x2 (pairs.rhsIdx i q) := by
    unfold val_main_v195
    generalize val_main_v194 x0 x2 = y0
    generalize val_main_v162 x0 x1 x2 = y1
    simp only [Host.dotGeneral]
    rw [Ideal.dotGeneral_apply]
  rw [hd, Finset.sum_congr rfl fun q _ => hw q]
  refine (pair_bijective.sum_comp fun m => ((prob (near ZA KC (i 0) (i 2) (i 1)) (xk ZA KC (i 0) (i 1) (i 2) (i 3)) m
          * ZB (tok (i 0) (key ZA KC (i 0) (i 2) (i 1) m)) (vscol (i 2) (i 4)) : ℝ) : EReal)).trans ?_
  refine (sum_coe _).trans (congrArg _ ?_)
  refine (sum_prob_mul _ _ _).trans ?_
  exact attn_map (key ZA KC (i 0) (i 2) (i 1)) (key_injective ZA KC (i 0) (i 2) (i 1)) _ _ (near_image ZA KC (i 0) (i 2) (i 1))
    (raw (qry ZA (i 0) (i 1) (i 2) (i 3)) (fun k l => ZA (tok (i 0) k) (kscol (i 2) l))) (fun k => ZB (tok (i 0) k) (vscol (i 2) (i 4)))

end Cert.Ref

end
-- ==== Proof.RefWin.lean ====
/-
  The window branch of the reference.
-/
module

public import proofs.«01_k».proof.Proof.RefIn
public import proofs.«01_k».proof.Proof.Inputs
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

/-- The window as two comparisons of a difference of positions, as words. -/
theorem diff_word {T k : ℕ} (hT : T < 4096) (hk : k < 4096) :
    IntOp.andi (IntOp.cmpi .sge (IntOp.subi (BitVec.ofNat 32 T) (BitVec.ofNat 32 k)) 0#32) (IntOp.cmpi .slt (IntOp.subi (BitVec.ofNat 32 T) (BitVec.ofNat 32 k)) 512#32)
      = BitVec.ofBool (decide (k ≤ T ∧ T < k + 512)) := by
  have hs : (BitVec.ofNat 32 T - BitVec.ofNat 32 k).toInt = (T : ℤ) - k := by
    have ht : ∀ n : ℕ, n < 4096 → (BitVec.ofNat 32 n).toInt = n := fun n hn => by
      rw [BitVec.toInt_eq_toNat_of_lt (by rw [BitVec.toNat_ofNat]; omega), BitVec.toNat_ofNat, Nat.mod_eq_of_lt (by omega)]
    rw [BitVec.toInt_sub, ht T hT, ht k hk, Int.bmod_def]
    omega
  have e1 : IntOp.cmpi .sge (IntOp.subi (BitVec.ofNat 32 T) (BitVec.ofNat 32 k)) 0#32 = BitVec.ofBool (decide (k ≤ T)) := by
    refine congrArg BitVec.ofBool ?_
    show (0#32).sle (BitVec.ofNat 32 T - BitVec.ofNat 32 k) = _
    unfold BitVec.sle
    rw [hs]
    refine decide_eq_decide.2 ?_
    have : (0#32).toInt = 0 := rfl
    rw [this]
    omega
  have e2 : IntOp.cmpi .slt (IntOp.subi (BitVec.ofNat 32 T) (BitVec.ofNat 32 k)) 512#32 = BitVec.ofBool (decide (T < k + 512)) := by
    refine congrArg BitVec.ofBool ?_
    show (BitVec.ofNat 32 T - BitVec.ofNat 32 k).slt (512#32) = _
    unfold BitVec.slt
    rw [hs]
    refine decide_eq_decide.2 ?_
    have : (512#32).toInt = 512 := rfl
    rw [this]
    omega
  rw [e1, e2, andi_ofBool, ← Bool.decide_and]

theorem mem_window (k : Fin 4096) (T : ℕ) : k ∈ Cert.Branch.window T ↔ k.val ≤ T ∧ T < k.val + 512 := by simp [Cert.Branch.window]

/-- The window's mask. -/
theorem wmask_read (i : S4096x4096.Idx) : val_main_v205 (F := Ideal) i = BitVec.ofBool (decide ((i 1).val ≤ (i 0).val ∧ (i 0).val < (i 1).val + 512)) := by
  rw [val_main_v205_apply, val_main_v202_apply, val_main_v204_apply, val_main_v201_apply, val_main_c_37_apply, val_main_v203_apply, val_main_c_38_apply,
    val_main_v200_apply, val_main_v198_apply, val_main_v196_apply, val_main_v199_apply, val_main_v197_apply]
  simp only [val_main_v68_apply]
  exact diff_word (i 0).isLt (i 1).isLt

/-- The raw scores of a query against the window's keys. -/
def xw (b : Fin 4) (T : Fin 4096) (g h : Fin 4) (k : Fin 4096) : ℝ := raw (qry ZA b T g h) (fun k l => ZA (tok b k) (kwcol g l)) k

include hA in
/-- The window branch's scaled scores. -/
theorem wscore_read (i : S4x4x4x4096x4096.Idx) :
    val_main_v209 x0 i = ((xw ZA (i 0) (i 3) (i 1) (i 2) (i 4) * (Real.sqrt 128)⁻¹ : ℝ) : EReal) := by
  rw [val_main_v209_apply, val_main_v208_apply, scale_read, val_main_v207_apply, val_main_v206_apply]
  simp only [kw_read x0 ZA hA, q_read x0 ZA hA]
  refine (congrArg (fun y => y * _) (sum_coe_mul (fun k : Fin 128 => ZA (tok (i 0) (i 4)) (kwcol (i 1) k)) (fun k => qry ZA (i 0) (i 3) (i 1) (i 2) k))).trans ?_
  rw [← EReal.coe_mul]
  exact congrArg (fun y : ℝ => ((y * (Real.sqrt 128)⁻¹ : ℝ) : EReal)) (Finset.sum_congr rfl fun k _ => mul_comm _ _)

include hA in
/-- Its masked scores. -/
theorem wmasked_read (i : S4x4x4x4096x4096.Idx) :
    val_main_v210 x0 i = low (Cert.Branch.window (i 3).val) (i 4) (xw ZA (i 0) (i 3) (i 1) (i 2) (i 4)) := by
  rw [val_main_v210_apply, val_main_call7_v1_apply, wmask_read, val_main_call7_v2_apply, val_main_call7_v0_apply, val_main_cst_39_apply]
  exact low_select _ _ _ _ (mem_window (i 4) (i 3).val) _ rfl _ _ (wscore_read x0 ZA hA i) bot_word

include hA in
/-- The greatest masked score of a row. -/
theorem wmax_read (j : S4x4x4x4096.Idx) : IsMax (Cert.Branch.window (j 3).val) (val_main_v213 x0 j) := by
  rw [val_main_v213_apply, val_main_v212_apply, val_main_cst_41_apply]
  have e : val_main_v211 x0 j = Finset.univ.sup fun n : Fin 4096 => low (Cert.Branch.window (j 3).val) n (xw ZA (j 0) (j 3) (j 1) (j 2) n) := by
    have hz : ∀ i, val_main_cst_40 (F := Ideal) i = (⊥ : EReal) := fun i => bot_word
    unfold val_main_v211
    revert hz
    generalize val_main_cst_40 (F := Ideal) = z
    intro hz
    exact (greatest (n0 := 4) (n1 := 4) (n2 := 4) (n3 := 4096) (n4 := 4096) reducesTo_S4x4x4x4096x4096_S4x4x4x4096_d4 (val_main_v210 x0) z hz h_S_ j).trans
      (Finset.sup_congr rfl fun k _ => wmasked_read x0 ZA hA _)
  rw [e]
  show IsMax _ (max (Ideal.ofBits .f32 0xFF800000#32) _)
  rw [bot_word, max_eq_right bot_le]
  exact isMax_sup (Cert.Branch.window (j 3).val) fun n => xw ZA (j 0) (j 3) (j 1) (j 2) n * (Real.sqrt 128)⁻¹

include hA in
/-- The window branch's weights. -/
theorem wprob_read (i : S4x4x4x4096x4096.Idx) :
    val_main_v222 x0 i = ((prob (Cert.Branch.window (i 3).val) (xw ZA (i 0) (i 3) (i 1) (i 2)) (i 4) : ℝ) : EReal) := by
  have hi : idx_main_v218 (idx_main_v219 (idx_main_v220 i)) (i 4) = i := funext fun a => by
    match a with
    | ⟨0, _⟩ => rfl
    | ⟨1, _⟩ => rfl
    | ⟨2, _⟩ => rfl
    | ⟨3, _⟩ => rfl
    | ⟨4, _⟩ => rfl
  have hj : ∀ k, idx_main_v214 (idx_main_v215 (idx_main_v218 (idx_main_v219 (idx_main_v220 i)) k)) = idx_main_v214 (idx_main_v215 i) := fun k => funext fun a => by
    match a with
    | ⟨0, _⟩ => rfl
    | ⟨1, _⟩ => rfl
    | ⟨2, _⟩ => rfl
    | ⟨3, _⟩ => rfl
  rw [val_main_v222_apply]
  refine soft (Cert.Branch.window (i 3).val) (xw ZA (i 0) (i 3) (i 1) (i 2))
    (fun k => val_main_v210 x0 (idx_main_v218 (idx_main_v219 (idx_main_v220 i)) k))
    (fun k => wmasked_read x0 ZA hA _) (wmax_read x0 ZA hA (idx_main_v214 (idx_main_v215 i)))
    Ideal.ofBits_zero_f32 ?_ _ (i 4) ?_ _ ?_
  · rw [val_main_call8_v2_apply, val_main_call8_v0_apply, val_main_cst_43_apply]
    exact Ideal.ofBits_zero_f32
  · rw [val_main_call8_v1_apply, wmask_read]
    exact congrArg BitVec.ofBool (decide_eq_decide.2 (mem_window (i 4) (i 3).val).symm)
  · simp only [val_main_v221_apply, val_main_v220_apply, val_main_v219_apply, val_main_v218_apply, val_main_v217_apply, val_main_v216_apply, val_main_v215_apply,
      val_main_v214_apply, hj, hi]
    rfl

include hA hB in
/-- The window branch's result. -/
theorem window_read (i : S4x4096x4x4x128.Idx) :
    val_main_v224 x0 x1 i = ((attn (Cert.Branch.window (i 1).val) (raw (qry ZA (i 0) (i 1) (i 2) (i 3)) (fun k l => ZA (tok (i 0) k) (kwcol (i 2) l)))
      (fun k => ZB (tok (i 0) k) (vwcol (i 2) (i 4))) : ℝ) : EReal) := by
  rw [val_main_v224_apply, val_main_v223_apply]
  simp only [vw_read x1 ZB hB, wprob_read x0 ZA hA]
  refine (sum_coe_mul (fun k : Fin 4096 => ZB (tok (i 0) k) (vwcol (i 2) (i 4))) (fun k => prob (Cert.Branch.window (i 1).val) (xw ZA (i 0) (i 1) (i 2) (i 3)) k)).trans ?_
  refine congrArg _ ?_
  refine (Finset.sum_congr rfl fun n _ => mul_comm _ _).trans ?_
  exact sum_prob_mul _ _ _

end Cert.Ref

end
-- ==== Proof.RefOut.lean ====
/-
  The three branches of the reference, gated and added: its result at every entry.
-/
module

public import proofs.«01_k».proof.Proof.RefComp
public import proofs.«01_k».proof.Proof.RefSel
public import proofs.«01_k».proof.Proof.RefWin
public import proofs.«01_k».proof.Proof.Array
public import Idealize.ShloMosaic.Lib.Pointwise
public import Idealize.ShloMosaic.Lib.WordCmp

@[expose] public section

set_option maxRecDepth 100000

noncomputable section

namespace Cert.Ref

open Idealize.ShloMosaic Idealize.ShloMosaic.WordCmp
open Cert.ReferenceIdeal Cert.ReferenceIdeal.Gen Cert.ReferenceIdeal.Read Cert.Attn Cert.Whole
open Cert.Branch (raw seen logis logis_coe)
open scoped BigOperators

variable (x0 : (⟨S16384x3072, .bf16⟩ : BufTy).Contents (Elt Ideal)) (x1 : (⟨S16384x8704, .bf16⟩ : BufTy).Contents (Elt Ideal))
  (x2 x3 : (⟨S4096x128, .bf16⟩ : BufTy).Contents (Elt Ideal))
variable (ZA : Fin 16384 → Fin 3072 → ℝ) (ZB : Fin 16384 → Fin 8704 → ℝ) (KC VC : Fin 4096 → Fin 128 → ℝ)
variable (hA : ∀ r n, x0 (ix2 r n) = ((ZA r n : ℝ) : EReal)) (hB : ∀ r n, x1 (ix2 r n) = ((ZB r n : ℝ) : EReal))
  (hK : ∀ r n, x2 (ix2 r n) = ((KC r n : ℝ) : EReal)) (hV : ∀ r n, x3 (ix2 r n) = ((VC r n : ℝ) : EReal))

include hB in
/-- The first gate. -/
theorem gate0_read (i : S4x4096x4x4x128.Idx) : val_main_v226 x1 i = ((logis (ZB (tok (i 0) (i 1)) (gcol (i 2) (i 3) 0)) : ℝ) : EReal) :=
  (val_main_v226_apply x1 i).trans ((val_main_v225_apply x1 _).trans (gate_read x1 ZB hB _))

include hB in
/-- The second gate. -/
theorem gate1_read (i : S4x4096x4x4x128.Idx) : val_main_v229 x1 i = ((logis (ZB (tok (i 0) (i 1)) (gcol (i 2) (i 3) 1)) : ℝ) : EReal) :=
  (val_main_v229_apply x1 i).trans ((val_main_v228_apply x1 _).trans (gate_read x1 ZB hB _))

include hB in
/-- The third gate. -/
theorem gate2_read (i : S4x4096x4x4x128.Idx) : val_main_v233 x1 i = ((logis (ZB (tok (i 0) (i 1)) (gcol (i 2) (i 3) 2)) : ℝ) : EReal) :=
  (val_main_v233_apply x1 i).trans ((val_main_v232_apply x1 _).trans (gate_read x1 ZB hB _))

/-- Three products of reals, added. -/
theorem three (a b c d e f : ℝ) : (a : EReal) * (b : EReal) + (c : EReal) * (d : EReal) + (e : EReal) * (f : EReal) = ((a * b + c * d + e * f : ℝ) : EReal) := by
  rw [EReal.coe_add, EReal.coe_add, EReal.coe_mul, EReal.coe_mul, EReal.coe_mul]

include hA hB hK hV in
/-- The gated sum of the three branches. -/
theorem out_read (i : S4x4096x4x4x128.Idx) :
    val_main_v235 x0 x1 x2 x3 i = ((result ZA ZB KC VC (i 0) (i 1) (i 2) (i 3) (i 4) : ℝ) : EReal) := by
  refine (val_main_v235_apply x0 x1 x2 x3 i).trans ?_
  refine Eq.trans ?_ (three _ _ _ _ _ _)
  refine congrArg₂ (fun u v : EReal => u + v) ((val_main_v231_apply x0 x1 x2 x3 i).trans (congrArg₂ (fun u v : EReal => u + v) ?_ ?_)) ?_
  · exact (val_main_v227_apply x0 x1 x2 x3 i).trans (congrArg₂ (fun u v : EReal => u * v) (gate0_read x1 ZB hB i) (comp_read x0 x2 x3 ZA KC VC hA hK hV i))
  · exact (val_main_v230_apply x0 x1 x2 i).trans (congrArg₂ (fun u v : EReal => u * v) (gate1_read x1 ZB hB i) (select_read x0 x1 x2 ZA ZB KC hA hB hK i))
  · exact (val_main_v234_apply x0 x1 i).trans (congrArg₂ (fun u v : EReal => u * v) (gate2_read x1 ZB hB i) (window_read x0 x1 ZA ZB hA hB i))

include hA hB hK hV in
/-- The reference's result is the value the kernel leaves. -/
theorem ref_value : val_main_v237 x0 x1 x2 x3 = value ZA ZB KC VC := funext fun i => by
  have h0 : (i 0).val < 16384 := (i 0).isLt
  have h1 : (i 1).val < 2048 := (i 1).isLt
  refine (val_main_v237_apply x0 x1 x2 x3 i).trans ?_
  refine Eq.trans (b := val_main_v236 x0 x1 x2 x3 i) rfl ?_
  refine (val_main_v236_apply x0 x1 x2 x3 i).trans ((out_read x0 x1 x2 x3 ZA ZB KC VC hA hB hK hV _).trans ?_)
  refine (value_at ZA ZB KC VC i _ _ _ _ _ ?_ ?_).symm
  · show (i 0).val = ((i 0).val * 2048 + (i 1).val) / 8388608 * 4096 + ((i 0).val * 2048 + (i 1).val) / 2048 % 4096
    omega
  · show (i 1).val = ((i 0).val * 2048 + (i 1).val) / 512 % 4 * 512 + ((i 0).val * 2048 + (i 1).val) / 128 % 4 * 128 + ((i 0).val * 2048 + (i 1).val) % 128
    omega

end Cert.Ref

end
-- ==== Proof.Finite.lean ====
/-
  The precondition, read back: every number the arrays hold is a real.
-/
module

public import proofs.«01_k».proof.Defs
public import proofs.«01_k».proof.Proof.RefIn
public import Idealize.ShloMosaic.Lib.ReduceAll
public import Idealize.ShloMosaic.Lib.Pointwise

@[expose] public section

noncomputable section

namespace Cert.Finite

open Idealize.ShloMosaic Cert.Pre_finite

/-- Infinity, as the precondition writes it. -/
theorem top_word : Ideal.ofBits .f32 0x7F800000#32 = (⊤ : EReal) := by
  simp [Ideal.ofBits, Ideal.ieee]

/-- A number between the infinities is a real. -/
theorem real_of (e : EReal) (h : IntOp.andi (Ideal.cmp .ogt e (Ideal.ofBits .f32 0xFF800000#32)) (Ideal.cmp .olt e (Ideal.ofBits .f32 0x7F800000#32)) = 1#1) :
    e = ((e.toReal : ℝ) : EReal) := by
  rw [Cert.Ref.bot_word, top_word, IntOp.andi_eq_one] at h
  induction e with
  | bot => exact absurd h.1 (by simp [Ideal.cmp])
  | top => exact absurd h.2 (by simp [Ideal.cmp])
  | coe a => rfl

instance : Subsingleton S_.Idx := ⟨fun a b => funext fun k => k.elim0⟩

/-- An array whose entries all lie between the infinities. -/
theorem all_real {s : Shape} (x : FVec Ideal s .bf16) (hb : S_.BroadcastsInDim s (![] : Fin 0 → Fin s.rank)) {axes : List (Fin s.rank)} (hr : s.ReducesTo axes S_)
    (hu : 0 < S_.numel) (hx : FTy.bits .bf16 < FTy.bits .f32) (j : S_.Idx)
    (h : Host.reduce IntOp.andi (andi (cmpf .ogt (extf .f32 x hx) (broadcastInDim s ![] hb (constant (F := Ideal) S_ .f32 0xFF800000#32)))
      (cmpf .olt (extf .f32 x hx) (broadcastInDim s ![] hb (constant (F := Ideal) S_ .f32 0x7F800000#32)))) (constantI S_ 1 1#1) hr hu j = 1#1) (i : s.Idx) :
    x i = (((x i).toReal : ℝ) : EReal) :=
  real_of (x i) (Host.reduce_andi_all _ _ hr hu j h i)

variable [Facts]

/-- The precondition makes all four arrays real. -/
theorem reals (a0 : FVec Ideal S16384x3072 .bf16) (a1 : FVec Ideal S16384x8704 .bf16) (a2 a3 : FVec Ideal S4096x128 .bf16)
    (h : fn (F := Ideal) a0 a1 a2 a3 = fun _ => 1#1) :
    (∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) := by
  have hj := congrFun h (fun k => k.elim0)
  unfold fn fn_part1 at hj
  obtain ⟨h012, h3⟩ := IntOp.andi_eq_one.1 hj
  obtain ⟨h01, h2⟩ := IntOp.andi_eq_one.1 h012
  obtain ⟨h0, h1⟩ := IntOp.andi_eq_one.1 h01
  clear hj h012 h01 h
  refine ⟨?_, ?_, ?_, ?_⟩
  · exact all_real a0 Facts.bcast_S_S16384x3072 Facts.reducesTo_S16384x3072_S_d0_1 Facts.h_S_ Facts.bitsLt_bf16_f32 _ h0
  · exact all_real a1 Facts.bcast_S_S16384x8704 Facts.reducesTo_S16384x8704_S_d0_1 Facts.h_S_ Facts.bitsLt_bf16_f32 _ h1
  · exact all_real a2 Facts.bcast_S_S4096x128 Facts.reducesTo_S4096x128_S_d0_1 Facts.h_S_ Facts.bitsLt_bf16_f32 _ h2
  · exact all_real a3 Facts.bcast_S_S4096x128 Facts.reducesTo_S4096x128_S_d0_1 Facts.h_S_ Facts.bitsLt_bf16_f32 _ h3

end Cert.Finite

end
-- ==== Proof.Raw.lean ====
/-
  The plain input projection: a product with the weights and an added bias, in the kernel's blocks and in the reference.
-/
module

public import proofs.«01_k».proof.Proof.Rows
public import proofs.«01_k».proof.Defs
public import proofs.«01_k».proof.Proof.Gen.RawIdeal.Value
public import proofs.«01_k».proof.Proof.Gen.RawRefIdeal.Run
public import proofs.«01_k».proof.Proof.Gen.RawRefIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

set_option maxRecDepth 100000

noncomputable section

namespace Cert.RawProof

open Idealize.ShloMosaic
open Idealize.ShloMosaic.TcCoe Idealize.SL.Sem
open Cert.RawIdeal Cert.RawIdeal.Gen Cert.Rows
open scoped BigOperators

/-- The projection at an entry: a row against a column, and the column's bias. -/
def value (x : S16384x2048.Idx → EReal) (w : S2048x8704.Idx → EReal) (b : S8704.Idx → EReal) (i : S16384x8704.Idx) : EReal :=
  (∑ k : Fin 2048, x (ix2 (i 0) k) * w (ix2 k (i 1))) + b (ix1 (i 1))

/-- A block's result at an entry. -/
theorem pay_apply (x : FVec Ideal S1024x2048 .bf16) (w : FVec Ideal S2048x512 .bf16) (b : FVec Ideal S1x512 .f32) (r : Fin 1024) (c : Fin 512) :
    k0_pay1 x w b (ix2 r c) = (∑ k : Fin 2048, x (ix2 r k) * w (ix2 k c)) + b (ix2 0 c) := by
  unfold k0_pay1
  pointwise

variable (m : (ℓ : Loc nD τ sig) → Buf (Elt Ideal) ℓ) (c : Dev nD)

/-- The block each window is on at a point. -/
theorem idx : ∀ t : Fin grid0.N,
    win0_0.index t 0 = t.val / 17 ∧ win0_0.index t 1 = 0
    ∧ win0_1.index t 0 = 0 ∧ win0_1.index t 1 = t.val % 17
    ∧ win0_2.index t 0 = 0 ∧ win0_2.index t 1 = t.val % 17
    ∧ win0_4.index t 0 = t.val / 17 ∧ win0_4.index t 1 = t.val % 17 := by
  decide +kernel

/-- The rows' block. -/
theorem block0 (t : Fin cfg0.N) (r : Fin 1024) (k : Fin 2048) (R : Fin 16384) (hR : R.val = t.val / 17 * 1024 + r.val) :
    iblk m c 0 t (ix2 r k) = m ((c : Thread nD τ).loc main_arg0) (ix2 R k) := by
  blk_ext [iblk, V, idx t]

/-- The weights' block. -/
theorem block1 (t : Fin cfg0.N) (k : Fin 2048) (n : Fin 512) (C : Fin 8704) (hC : C.val = t.val % 17 * 512 + n.val) :
    iblk m c 1 t (ix2 k n) = m ((c : Thread nD τ).loc main_arg1) (ix2 k C) := by
  blk_ext [iblk, V, idx t]

/-- The bias as a row. -/
theorem entry1 (C : Fin 8704) : V m c main_v1 (ix2 0 C) = m ((c : Thread nD τ).loc main_arg2) (ix1 C) := by
  show StableHlo.after hostOps0 _ (Proc.devRef .tc main_v1) (ix2 0 C) = _
  after_results_simp
  pointwise

/-- The bias's block. -/
theorem block2 (t : Fin cfg0.N) (n : Fin 512) (C : Fin 8704) (hC : C.val = t.val % 17 * 512 + n.val) :
    iblk m c 2 t (ix2 0 n) = m ((c : Thread nD τ).loc main_arg2) (ix1 C) := by
  rw [← entry1 m c]
  blk_ext [iblk, idx t]

/-- An entry of a point's block of the result. -/
theorem point (t : Fin cfg0.N) (r : Fin 1024) (n : Fin 512) (R : Fin 16384) (hR : R.val = t.val / 17 * 1024 + r.val)
    (C : Fin 8704) (hC : C.val = t.val % 17 * 512 + n.val) :
    out0_4 (iblk m c 0 t) (iblk m c 1 t) (iblk m c 2 t) (iblk m c 3 t) (ix2 r n)
      = value (m ((c : Thread nD τ).loc main_arg0)) (m ((c : Thread nD τ).loc main_arg1)) (m ((c : Thread nD τ).loc main_arg2)) (ix2 R C) := by
  frame_out
  rw [pay_apply, block2 m c t n C hC]
  simp only [block0 m c t r _ R hR, block1 m c t _ n C hC]
  rfl

/-- The kernel's whole result. -/
theorem final : (dats m 0 c).arrAt 4 cfg0.N
    = value (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have h0 : (y 0).val < 1024 := (y 0).isLt
  have h1 : (y 1).val < 512 := (y 1).isLt
  have ht : t.val < 272 := t.isLt
  have ey : y = ix2 (⟨(y 0).val, h0⟩ : Fin 1024) (⟨(y 1).val, h1⟩ : Fin 512) := by
    funext a
    match a with
    | ⟨0, _⟩ => rfl
    | ⟨1, _⟩ => rfl
  have e := point m c t ⟨(y 0).val, h0⟩ ⟨(y 1).val, h1⟩ ⟨t.val / 17 * 1024 + (y 0).val, by omega⟩ rfl ⟨t.val % 17 * 512 + (y 1).val, by omega⟩ rfl
  refine (congrArg (out0_4 (iblk m c 0 t) (iblk m c 1 t) (iblk m c 2 t) (iblk m c 3 t)) ey).trans (e.trans (congrArg _ ?_))
  funext a
  match a with
  | ⟨0, _⟩ =>
    refine Fin.ext ?_
    have hi : win0_4.index t 0 = t.val / 17 := (idx t).2.2.2.2.2.2.1
    blk_simp
    rw [hi]
    rfl
  | ⟨1, _⟩ =>
    refine Fin.ext ?_
    have hi : win0_4.index t 1 = t.val % 17 := (idx t).2.2.2.2.2.2.2
    blk_simp
    rw [hi]
    rfl

/-- The reference's whole result. -/
theorem reference_value (x : S16384x2048.Idx → EReal) (w : S2048x8704.Idx → EReal) (b : S8704.Idx → EReal) :
    Cert.RawRefIdeal.Read.val_main_v5 (F := Ideal) x w b = value x w b := by
  funext i
  refine congrArg₂ (· + ·) ((Cert.RawRefIdeal.Read.val_main_v1_apply x w i).trans (Finset.sum_congr rfl fun k _ => ?_)) ?_
  · refine congrArg₂ (· * ·) (congrArg x ?_) (congrArg w ?_)
    · funext a
      match a with
      | ⟨0, _⟩ => rfl
      | ⟨1, _⟩ => rfl
    · funext a
      match a with
      | ⟨0, _⟩ => rfl
      | ⟨1, _⟩ => rfl
  · refine (Cert.RawRefIdeal.Read.val_main_v3_apply (F := Ideal) b i).trans ((Cert.RawRefIdeal.Read.val_main_v2_apply (F := Ideal) b _).trans (congrArg b ?_))
    funext a
    match a with
    | ⟨0, _⟩ => rfl

/-- The reference runs, leaves its arguments as they were and declares no semaphore. -/
theorem reference_frame : Cert.quiescent_RawRefIdeal := fun m ρ _ =>
  (θ_run Cert.RawRefIdeal.defs _ _).mono (fun r h => ⟨fun c => (h c).2,
      Idealize.ShloMosaic.sem_eq_zero_of_no_sems (by decide) r.2⟩)
    (Cert.RawRefIdeal.Value.run (F := Ideal) m ρ)

/-- The call and its reference, started on the same arguments, leave the same array and keep their arguments. -/
theorem equal : Cert.algebraic_RawIdeal_RawRefIdeal := fun m g m' g' _ hin =>
  ⟨fun c => value (m ((c : Thread nD τ).loc main_arg0)) (m ((c : Thread nD τ).loc main_arg1)) (m ((c : Thread nD τ).loc main_arg2)),
    (θ_run Cert.RawIdeal.defs _ _).mono (fun r h c => ⟨(h c).1.trans (final m c), (h c).2⟩)
      (Cert.RawIdeal.Value.run_blocks m g),
    (θ_run Cert.RawRefIdeal.defs _ _).mono (fun r h c => by
        obtain ⟨i0, i1, i2⟩ := hin c
        refine ⟨(h c).1.trans ((Cert.RawRefIdeal.Read.val_main_v5_eq _ _ _).trans
          ((reference_value _ _ _).trans ?_)), (h c).2⟩
        rw [i0, i1, i2])
      (Cert.RawRefIdeal.Value.run m' g')⟩

end Cert.RawProof

end
-- ==== Proof.Norm.lean ====
/-
  The normalised input projection: a product with the weights and an added bias, each head of 128 divided by the root of its
  mean square and scaled by a gain, in the kernel's blocks and in the reference.
-/
module

public import proofs.«01_k».proof.Proof.Rows
public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

set_option maxRecDepth 100000

noncomputable section

namespace Cert.NormProof

open Idealize.ShloMosaic
open Idealize.ShloMosaic.TcCoe Idealize.SL.Sem
open Cert.NormIdeal Cert.NormIdeal.Gen Cert.Rows
open scoped BigOperators

/-- A head's entry divided by the root of the head's mean square. -/
def rms (y : Fin 128 → EReal) (l : Fin 128) : EReal :=
  y l * Ideal.rsqrt (Ideal.div (∑ k, y k * y k) (Ideal.ofBits .f32 0x43000000#32) + Ideal.ofBits .f32 0x358637BD#32)

/-- The product and the bias at an entry of a block. -/
theorem product_apply (x : FVec Ideal S1024x2048 .bf16) (w : FVec Ideal S2048x512 .bf16) (b : FVec Ideal S1x512 .f32) (r : Fin 1024) (c : Fin 512) :
    k0_pay2 (F := Ideal) x w b (ix2 r c) = (∑ k : Fin 2048, x (ix2 r k) * w (ix2 k c)) + b (ix2 0 c) := by
  unfold k0_pay2
  pointwise

/-- A lane of one of a block's four heads. -/
def lane (s : Fin 4) (l : Fin 128) : Fin 512 := ⟨s.val * 128 + l.val, by omega⟩

/-- The first head. -/
theorem head0 (x : FVec Ideal S1024x2048 .bf16) (w : FVec Ideal S2048x512 .bf16) (b : FVec Ideal S1x512 .f32) (r : Fin 1024) (l : Fin 128) :
    k0_pay3 (F := Ideal) x w b (ix2 r l) = rms (fun k => k0_pay2 (F := Ideal) x w b (ix2 r (lane 0 k))) l := by
  unfold k0_pay3
  generalize k0_pay2 (F := Ideal) x w b = y
  pointwise
  simp [rms, lane]

/-- The second head. -/
theorem head1 (x : FVec Ideal S1024x2048 .bf16) (w : FVec Ideal S2048x512 .bf16) (b : FVec Ideal S1x512 .f32) (r : Fin 1024) (l : Fin 128) :
    k0_pay4 (F := Ideal) x w b (ix2 r l) = rms (fun k => k0_pay2 (F := Ideal) x w b (ix2 r (lane 1 k))) l := by
  unfold k0_pay4
  generalize k0_pay2 (F := Ideal) x w b = y
  pointwise
  rfl

/-- The third head. -/
theorem head2 (x : FVec Ideal S1024x2048 .bf16) (w : FVec Ideal S2048x512 .bf16) (b : FVec Ideal S1x512 .f32) (r : Fin 1024) (l : Fin 128) :
    k0_pay5 (F := Ideal) x w b (ix2 r l) = rms (fun k => k0_pay2 (F := Ideal) x w b (ix2 r (lane 2 k))) l := by
  unfold k0_pay5
  generalize k0_pay2 (F := Ideal) x w b = y
  pointwise
  rfl

/-- The fourth head before it is scaled. -/
theorem head3 (x : FVec Ideal S1024x2048 .bf16) (w : FVec Ideal S2048x512 .bf16) (b : FVec Ideal S1x512 .f32) (r : Fin 1024) (l : Fin 128) :
    k0_pay6 (F := Ideal) x w b (ix2 r l) = k0_pay2 (F := Ideal) x w b (ix2 r (lane 3 l)) := by
  unfold k0_pay6
  generalize k0_pay2 (F := Ideal) x w b = y
  pointwise
  rfl

/-- A block's result at a lane of a head. -/
theorem pay_apply (x : FVec Ideal S1024x2048 .bf16) (w : FVec Ideal S2048x512 .bf16) (b g : FVec Ideal S1x512 .f32) (r : Fin 1024) (s : Fin 4) (l : Fin 128) :
    k0_pay1 (F := Ideal) (k0_pay3 x w b) (k0_pay4 x w b) (k0_pay5 x w b) (k0_pay6 x w b) g (ix2 r (lane s l))
      = rms (fun k => k0_pay2 (F := Ideal) x w b (ix2 r (lane s k))) l * g (ix2 0 (lane s l)) := by
  have hl := l.isLt
  unfold k0_pay1
  pointwise
  refine congrArg (· * g (ix2 0 (lane s l))) ?_
  match s with
  | 0 =>
    rw [dif_pos (show (lane 0 l).val < 128 by show 0 * 128 + l.val < 128; omega), ← head0]
    exact congrArg (fun i => k0_pay3 (F := Ideal) x w b (ix2 r i)) (Fin.ext (show 0 * 128 + l.val = l.val by omega))
  | 1 =>
    rw [dif_neg (show ¬(lane 1 l).val < 128 by show ¬1 * 128 + l.val < 128; omega),
      dif_pos (show (lane 1 l).val - 128 < 128 by show 1 * 128 + l.val - 128 < 128; omega), ← head1]
    exact congrArg (fun i => k0_pay4 (F := Ideal) x w b (ix2 r i)) (Fin.ext (show 1 * 128 + l.val - 128 = l.val by omega))
  | 2 =>
    rw [dif_neg (show ¬(lane 2 l).val < 128 by show ¬2 * 128 + l.val < 128; omega),
      dif_neg (show ¬(lane 2 l).val - 128 < 128 by show ¬2 * 128 + l.val - 128 < 128; omega),
      dif_pos (show (lane 2 l).val - 128 - 128 < 128 by show 2 * 128 + l.val - 128 - 128 < 128; omega), ← head2]
    exact congrArg (fun i => k0_pay5 (F := Ideal) x w b (ix2 r i)) (Fin.ext (show 2 * 128 + l.val - 128 - 128 = l.val by omega))
  | 3 =>
    rw [dif_neg (show ¬(lane 3 l).val < 128 by show ¬3 * 128 + l.val < 128; omega),
      dif_neg (show ¬(lane 3 l).val - 128 < 128 by show ¬3 * 128 + l.val - 128 < 128; omega),
      dif_neg (show ¬(lane 3 l).val - 128 - 128 < 128 by show ¬3 * 128 + l.val - 128 - 128 < 128; omega)]
    have e : (⟨(lane 3 l).val - 128 - 128 - 128, by show 3 * 128 + l.val - 128 - 128 - 128 < 128; omega⟩ : Fin 128) = l :=
      Fin.ext (show 3 * 128 + l.val - 128 - 128 - 128 = l.val by omega)
    rw [e]
    simp only [head3]
    rfl

/-- A column of the projection: a lane of one of the 24 heads. -/
def column (h : Fin 24) (l : Fin 128) : Fin 3072 := ⟨h.val * 128 + l.val, by omega⟩

/-- The product and the bias at an entry. -/
def product (x : S16384x2048.Idx → EReal) (w : S2048x3072.Idx → EReal) (b : S3072.Idx → EReal) (r : Fin 16384) (n : Fin 3072) : EReal :=
  (∑ k : Fin 2048, x (ix2 r k) * w (ix2 k n)) + b (ix1 n)

/-- The result at a row, a head and a lane. -/
def value (x : S16384x2048.Idx → EReal) (w : S2048x3072.Idx → EReal) (b g : S3072.Idx → EReal) (r : Fin 16384) (h : Fin 24) (l : Fin 128) : EReal :=
  rms (fun k => product x w b r (column h k)) l * g (ix1 (column h l))

/-- The whole result. -/
def whole (x : S16384x2048.Idx → EReal) (w : S2048x3072.Idx → EReal) (b g : S3072.Idx → EReal) (i : S16384x3072.Idx) : EReal :=
  value x w b g (i 0) ⟨(i 1).val / 128, by have h1 : (i 1).val < 3072 := (i 1).isLt; omega⟩ ⟨(i 1).val % 128, by omega⟩

/-- The whole result where the entry's row, head and lane are known. -/
theorem whole_at (x : S16384x2048.Idx → EReal) (w : S2048x3072.Idx → EReal) (b g : S3072.Idx → EReal) (i : S16384x3072.Idx)
    (r : Fin 16384) (h : Fin 24) (l : Fin 128) (h0 : (i 0).val = r.val) (h1 : (i 1).val = h.val * 128 + l.val) :
    whole x w b g i = value x w b g r h l := by
  have hl := l.isLt
  have e0 : i 0 = r := Fin.ext h0
  have e1 : (⟨(i 1).val / 128, by have h1 : (i 1).val < 3072 := (i 1).isLt; omega⟩ : Fin 24) = h := Fin.ext (show (i 1).val / 128 = h.val by omega)
  have e2 : (⟨(i 1).val % 128, by omega⟩ : Fin 128) = l := Fin.ext (show (i 1).val % 128 = l.val by omega)
  show value x w b g (i 0) ⟨(i 1).val / 128, _⟩ ⟨(i 1).val % 128, _⟩ = _
  rw [e0, e1, e2]

variable (m : (ℓ : Loc nD τ sig) → Buf (Elt Ideal) ℓ) (c : Dev nD)

/-- The block each window is on at a point. -/
theorem idx : ∀ t : Fin grid0.N,
    win0_0.index t 0 = t.val / 6 ∧ win0_0.index t 1 = 0
    ∧ win0_1.index t 0 = 0 ∧ win0_1.index t 1 = t.val % 6
    ∧ win0_2.index t 0 = 0 ∧ win0_2.index t 1 = t.val % 6
    ∧ win0_3.index t 0 = 0 ∧ win0_3.index t 1 = t.val % 6
    ∧ win0_4.index t 0 = t.val / 6 ∧ win0_4.index t 1 = t.val % 6 := by
  decide +kernel

/-- The rows' block. -/
theorem block0 (t : Fin cfg0.N) (r : Fin 1024) (k : Fin 2048) (R : Fin 16384) (hR : R.val = t.val / 6 * 1024 + r.val) :
    iblk m c 0 t (ix2 r k) = m ((c : Thread nD τ).loc main_arg0) (ix2 R k) := by
  blk_ext [iblk, V, idx t]

/-- The weights' block. -/
theorem block1 (t : Fin cfg0.N) (k : Fin 2048) (n : Fin 512) (C : Fin 3072) (hC : C.val = t.val % 6 * 512 + n.val) :
    iblk m c 1 t (ix2 k n) = m ((c : Thread nD τ).loc main_arg1) (ix2 k C) := by
  blk_ext [iblk, V, idx t]

/-- The bias as a row. -/
theorem entry1 (C : Fin 3072) : V m c main_v1 (ix2 0 C) = m ((c : Thread nD τ).loc main_arg2) (ix1 C) := by
  show StableHlo.after hostOps0 _ (Proc.devRef .tc main_v1) (ix2 0 C) = _
  after_results_simp
  pointwise

/-- The bias's block. -/
theorem block2 (t : Fin cfg0.N) (n : Fin 512) (C : Fin 3072) (hC : C.val = t.val % 6 * 512 + n.val) :
    iblk m c 2 t (ix2 0 n) = m ((c : Thread nD τ).loc main_arg2) (ix1 C) := by
  rw [← entry1 m c]
  blk_ext [iblk, idx t]

/-- The gain as a row. -/
theorem entry2 (C : Fin 3072) : V m c main_v2 (ix2 0 C) = m ((c : Thread nD τ).loc main_arg3) (ix1 C) := by
  show StableHlo.after hostOps0 _ (Proc.devRef .tc main_v2) (ix2 0 C) = _
  after_results_simp
  pointwise

/-- The gain's block. -/
theorem block3 (t : Fin cfg0.N) (n : Fin 512) (C : Fin 3072) (hC : C.val = t.val % 6 * 512 + n.val) :
    iblk m c 3 t (ix2 0 n) = m ((c : Thread nD τ).loc main_arg3) (ix1 C) := by
  rw [← entry2 m c]
  blk_ext [iblk, idx t]

/-- An entry of a point's block of the result. -/
theorem point (t : Fin cfg0.N) (r : Fin 1024) (s : Fin 4) (l : Fin 128) (R : Fin 16384) (hR : R.val = t.val / 6 * 1024 + r.val)
    (h : Fin 24) (hh : h.val = t.val % 6 * 4 + s.val) :
    out0_4 (iblk m c 0 t) (iblk m c 1 t) (iblk m c 2 t) (iblk m c 3 t) (ix2 r (lane s l))
      = value (m ((c : Thread nD τ).loc main_arg0)) (m ((c : Thread nD τ).loc main_arg1)) (m ((c : Thread nD τ).loc main_arg2)) (m ((c : Thread nD τ).loc main_arg3)) R h l := by
  have hC : ∀ k : Fin 128, (column h k).val = t.val % 6 * 512 + (lane s k).val := fun k => by
    show h.val * 128 + k.val = t.val % 6 * 512 + (s.val * 128 + k.val)
    omega
  frame_out
  rw [pay_apply, block3 m c t _ _ (hC l)]
  refine congrArg (· * _) (congrArg (fun y => rms y l) (funext fun k => ?_))
  rw [product_apply, block2 m c t _ _ (hC k)]
  simp only [block0 m c t r _ R hR, block1 m c t _ _ _ (hC k)]
  rfl

/-- The kernel's whole result. -/
theorem final : (dats m 0 c).arrAt 4 cfg0.N
    = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h0 : (y 0).val < 1024 := (y 0).isLt
  have h1 : (y 1).val < 512 := (y 1).isLt
  have ht : t.val < 96 := t.isLt
  have ey : y = ix2 (⟨(y 0).val, h0⟩ : Fin 1024) (lane ⟨(y 1).val / 128, by omega⟩ ⟨(y 1).val % 128, by omega⟩) := by
    funext a
    match a with
    | ⟨0, _⟩ => rfl
    | ⟨1, _⟩ => exact Fin.ext (by show (y 1).val = (y 1).val / 128 * 128 + (y 1).val % 128; omega)
  have e := point m c t ⟨(y 0).val, h0⟩ ⟨(y 1).val / 128, by omega⟩ ⟨(y 1).val % 128, by omega⟩ ⟨t.val / 6 * 1024 + (y 0).val, by omega⟩ rfl
    ⟨t.val % 6 * 4 + (y 1).val / 128, by omega⟩ rfl
  refine (congrArg (out0_4 (iblk m c 0 t) (iblk m c 1 t) (iblk m c 2 t) (iblk m c 3 t)) ey).trans (e.trans (whole_at _ _ _ _ _ _ _ _ ?_ ?_).symm)
  · have hi : win0_4.index t 0 = t.val / 6 := (idx t).2.2.2.2.2.2.2.2.1
    blk_simp
    rw [hi]
  · have hi : win0_4.index t 1 = t.val % 6 := (idx t).2.2.2.2.2.2.2.2.2
    blk_simp
    rw [hi]
    show t.val % 6 * 512 + (y 1).val = (t.val % 6 * 4 + (y 1).val / 128) * 128 + (y 1).val % 128
    omega

section Reference

open Cert.NormRefIdeal.Read

variable (x : S16384x2048.Idx → EReal) (w : S2048x3072.Idx → EReal) (b g : S3072.Idx → EReal)

/-- The reference's product and bias, at a row, a head and a lane. -/
theorem product_read (r : Fin 16384) (h : Fin 24) (l : Fin 128) :
    val_main_v5 (F := Ideal) x w b (ix3 r h l) = product x w b r (column h l) := by
  have hr := r.isLt
  have hh := h.isLt
  have hl := l.isLt
  have hi : idx_main_v5 (ix3 r h l) = ix2 r (column h l) := by
    funext a
    match a with
    | ⟨0, _⟩ => exact Fin.ext (show ((r.val * 24 + h.val) * 128 + l.val) / 3072 = r.val by omega)
    | ⟨1, _⟩ => exact Fin.ext (show ((r.val * 24 + h.val) * 128 + l.val) % 3072 = h.val * 128 + l.val by omega)
  refine (val_main_v5_apply (F := Ideal) x w b _).trans ((congrArg (val_main_v4 (F := Ideal) x w b) hi).trans
    (congrArg₂ (· + ·) ((val_main_v1_apply x w _).trans (Finset.sum_congr rfl fun k _ => ?_)) ?_))
  · refine congrArg₂ (· * ·) (congrArg x ?_) (congrArg w ?_)
    · funext a
      match a with
      | ⟨0, _⟩ => rfl
      | ⟨1, _⟩ => rfl
    · funext a
      match a with
      | ⟨0, _⟩ => rfl
      | ⟨1, _⟩ => rfl
  · refine (val_main_v3_apply (F := Ideal) b _).trans ((val_main_v2_apply (F := Ideal) b _).trans (congrArg b ?_))
    funext a
    match a with
    | ⟨0, _⟩ => rfl

/-- The reference's sum of squares. -/
theorem square_read (r : Fin 16384) (h : Fin 24) :
    val_main_v8 (F := Ideal) x w b (ix2 r h) = ∑ k : Fin 128, product x w b r (column h k) * product x w b r (column h k) := by
  refine (val_main_v8_apply x w b _).trans ?_
  have h0 : ∀ i, val_main_cst (F := Ideal) i = (0 : EReal) := fun _ => Ideal.ofBits_zero .f32
  rw [h0, zero_add]
  refine Finset.sum_congr rfl fun k _ => ?_
  have hi : idx_main_v8 (ix2 r h) k = ix3 r h k := by
    funext a
    match a with
    | ⟨0, _⟩ => rfl
    | ⟨1, _⟩ => rfl
    | ⟨2, _⟩ => rfl
  rw [hi]
  exact congrArg₂ (· * ·) (product_read x w b r h k) (product_read x w b r h k)

/-- The reference's root of the mean square, inverted. -/
theorem root_read (r : Fin 16384) (h : Fin 24) :
    val_main_v14 (F := Ideal) x w b (ix3 r h 0)
      = Ideal.rsqrt (Ideal.div (∑ k : Fin 128, product x w b r (column h k) * product x w b r (column h k)) (Ideal.ofBits .f32 0x43000000#32)
          + Ideal.ofBits .f32 0x358637BD#32) := by
  refine congrArg Ideal.rsqrt (congrArg₂ (· + ·) (congrArg₂ Ideal.div ?_ ?_) ?_)
  · refine (val_main_v9_apply (F := Ideal) x w b _).trans (Eq.trans (congrArg (val_main_v8 (F := Ideal) x w b) ?_) (square_read x w b r h))
    funext a
    match a with
    | ⟨0, _⟩ => rfl
    | ⟨1, _⟩ => rfl
  · exact val_main_v10_apply (F := Ideal) _
  · exact val_main_v12_apply (F := Ideal) _

/-- The reference's whole result. -/
theorem reference_value : val_main_v21 (F := Ideal) x w b g = whole x w b g := by
  funext i
  have h0 : (i 0).val < 16384 := (i 0).isLt
  have h1 : (i 1).val < 3072 := (i 1).isLt
  have hi : idx_main_v20 i = ix3 (i 0) (⟨(i 1).val / 128, by omega⟩ : Fin 24) (⟨(i 1).val % 128, by omega⟩ : Fin 128) := by
    funext a
    match a with
    | ⟨0, _⟩ => exact Fin.ext (show ((i 0).val * 3072 + (i 1).val) / 3072 = (i 0).val by omega)
    | ⟨1, _⟩ => exact Fin.ext (show ((i 0).val * 3072 + (i 1).val) / 128 % 24 = (i 1).val / 128 by omega)
    | ⟨2, _⟩ => exact Fin.ext (show ((i 0).val * 3072 + (i 1).val) % 128 = (i 1).val % 128 by omega)
  refine (val_main_v20_apply (F := Ideal) x w b g i).trans ((congrArg (val_main_v19 (F := Ideal) x w b g) hi).trans
    (congrArg₂ (· * ·) (congrArg₂ (· * ·) (product_read x w b _ _ _) ?_) ?_))
  · refine (val_main_v15_apply (F := Ideal) x w b _).trans (Eq.trans (congrArg (val_main_v14 (F := Ideal) x w b) ?_) (root_read x w b _ _))
    funext a
    match a with
    | ⟨0, _⟩ => rfl
    | ⟨1, _⟩ => rfl
    | ⟨2, _⟩ => rfl
  · refine (val_main_v18_apply (F := Ideal) g _).trans ((val_main_v17_apply (F := Ideal) g _).trans
      ((val_main_v6_apply (F := Ideal) g _).trans (congrArg g ?_)))
    funext a
    match a with
    | ⟨0, _⟩ => rfl

end Reference

/-- The reference runs, leaves its arguments as they were and declares no semaphore. -/
theorem reference_frame : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)

/-- The call and its reference, started on the same arguments, leave the same array and keep their arguments. -/
theorem equal : Cert.algebraic_NormIdeal_NormRefIdeal := fun m g m' g' _ hin =>
  ⟨fun c => whole (m ((c : Thread nD τ).loc main_arg0)) (m ((c : Thread nD τ).loc main_arg1)) (m ((c : Thread nD τ).loc main_arg2)) (m ((c : Thread nD τ).loc main_arg3)),
    (θ_run Cert.NormIdeal.defs _ _).mono (fun r h c => ⟨(h c).1.trans (final m c), (h c).2⟩)
      (Cert.NormIdeal.Value.run_blocks m g),
    (θ_run Cert.NormRefIdeal.defs _ _).mono (fun r h c => by
        obtain ⟨i0, i1, i2, i3⟩ := hin c
        refine ⟨(h c).1.trans ((Cert.NormRefIdeal.Read.val_main_v21_eq _ _ _ _).trans
          ((reference_value _ _ _ _).trans ?_)), (h c).2⟩
        rw [i0, i1, i2, i3])
      (Cert.NormRefIdeal.Value.run m' g')⟩

end Cert.NormProof

end
-- ==== Proof.NsaOut.lean ====
/-
  The attention's output projection: a product with the weights, in the kernel's blocks and in the reference.
-/
module

public import proofs.«01_k».proof.Proof.Rows
public import proofs.«01_k».proof.Defs
public import proofs.«01_k».proof.Proof.Gen.NsaOutIdeal.Value
public import proofs.«01_k».proof.Proof.Gen.NsaOutRefIdeal.Run
public import proofs.«01_k».proof.Proof.Gen.NsaOutRefIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

set_option maxRecDepth 100000

noncomputable section

namespace Cert.NsaOutProof

open Idealize.ShloMosaic
open Idealize.ShloMosaic.TcCoe Idealize.SL.Sem
open Cert.NsaOutIdeal Cert.NsaOutIdeal.Gen Cert.Rows
open scoped BigOperators

/-- The projection at an entry: a row against a column. -/
def value (x : S16384x2048.Idx → EReal) (w : S2048x2048.Idx → EReal) (i : S16384x2048.Idx) : EReal :=
  ∑ k : Fin 2048, x (ix2 (i 0) k) * w (ix2 k (i 1))

/-- A block's result at an entry. -/
theorem pay_apply (x : FVec Ideal S1024x2048 .bf16) (w : FVec Ideal S2048x512 .bf16) (b : FVec Ideal S1x512 .f32) (r : Fin 1024) (c : Fin 512) :
    k0_pay1 x w b (ix2 r c) = (∑ k : Fin 2048, x (ix2 r k) * w (ix2 k c)) + b (ix2 0 c) := by
  unfold k0_pay1
  pointwise

variable (m : (ℓ : Loc nD τ sig) → Buf (Elt Ideal) ℓ) (c : Dev nD)

/-- The block each window is on at a point. -/
theorem idx : ∀ t : Fin grid0.N,
    win0_0.index t 0 = t.val / 4 ∧ win0_0.index t 1 = 0
    ∧ win0_1.index t 0 = 0 ∧ win0_1.index t 1 = t.val % 4
    ∧ win0_2.index t 0 = 0 ∧ win0_2.index t 1 = t.val % 4
    ∧ win0_4.index t 0 = t.val / 4 ∧ win0_4.index t 1 = t.val % 4 := by
  decide +kernel

/-- The rows' block. -/
theorem block0 (t : Fin cfg0.N) (r : Fin 1024) (k : Fin 2048) (R : Fin 16384) (hR : R.val = t.val / 4 * 1024 + r.val) :
    iblk m c 0 t (ix2 r k) = m ((c : Thread nD τ).loc main_arg0) (ix2 R k) := by
  blk_ext [iblk, V, idx t]

/-- The weights' block. -/
theorem block1 (t : Fin cfg0.N) (k : Fin 2048) (n : Fin 512) (C : Fin 2048) (hC : C.val = t.val % 4 * 512 + n.val) :
    iblk m c 1 t (ix2 k n) = m ((c : Thread nD τ).loc main_arg1) (ix2 k C) := by
  blk_ext [iblk, V, idx t]

/-- The row the kernel adds is zero. -/
theorem entry0 (C : Fin 2048) : V m c main_v0 (ix2 0 C) = (0 : EReal) := by
  show StableHlo.after hostOps0 _ (Proc.devRef .tc main_v0) (ix2 0 C) = _
  after_results_simp
  pointwise

/-- The zero row's block. -/
theorem block2 (t : Fin cfg0.N) (n : Fin 512) : iblk m c 2 t (ix2 0 n) = (0 : EReal) := by
  have hn := n.isLt
  have ht : t.val < 64 := t.isLt
  rw [← entry0 m c ⟨t.val % 4 * 512 + n.val, by omega⟩]
  blk_ext [iblk, idx t]

/-- An entry of a point's block of the result. -/
theorem point (t : Fin cfg0.N) (r : Fin 1024) (n : Fin 512) (R : Fin 16384) (hR : R.val = t.val / 4 * 1024 + r.val)
    (C : Fin 2048) (hC : C.val = t.val % 4 * 512 + n.val) :
    out0_4 (iblk m c 0 t) (iblk m c 1 t) (iblk m c 2 t) (iblk m c 3 t) (ix2 r n)
      = value (m ((c : Thread nD τ).loc main_arg0)) (m ((c : Thread nD τ).loc main_arg1)) (ix2 R C) := by
  frame_out
  rw [pay_apply, block2 m c t n, add_zero]
  simp only [block0 m c t r _ R hR, block1 m c t _ n C hC]
  rfl

/-- The kernel's whole result. -/
theorem final : (dats m 0 c).arrAt 4 cfg0.N
    = value (m ((c : Thread nD τ).loc main_arg0)) (m ((c : Thread nD τ).loc main_arg1)) := by
  refine (dats m 0 c).arrAt_eq_of_covers 4 _ (by decide +kernel) fun t hf y => ?_
  blk_simp
  rw [after0_4]
  have h0 : (y 0).val < 1024 := (y 0).isLt
  have h1 : (y 1).val < 512 := (y 1).isLt
  have ht : t.val < 64 := t.isLt
  have ey : y = ix2 (⟨(y 0).val, h0⟩ : Fin 1024) (⟨(y 1).val, h1⟩ : Fin 512) := by
    funext a
    match a with
    | ⟨0, _⟩ => rfl
    | ⟨1, _⟩ => rfl
  have e := point m c t ⟨(y 0).val, h0⟩ ⟨(y 1).val, h1⟩ ⟨t.val / 4 * 1024 + (y 0).val, by omega⟩ rfl ⟨t.val % 4 * 512 + (y 1).val, by omega⟩ rfl
  refine (congrArg (out0_4 (iblk m c 0 t) (iblk m c 1 t) (iblk m c 2 t) (iblk m c 3 t)) ey).trans (e.trans (congrArg _ ?_))
  funext a
  match a with
  | ⟨0, _⟩ =>
    refine Fin.ext ?_
    have hi : win0_4.index t 0 = t.val / 4 := (idx t).2.2.2.2.2.2.1
    blk_simp
    rw [hi]
    rfl
  | ⟨1, _⟩ =>
    refine Fin.ext ?_
    have hi : win0_4.index t 1 = t.val % 4 := (idx t).2.2.2.2.2.2.2
    blk_simp
    rw [hi]
    rfl

/-- The reference's whole result. -/
theorem reference_value (x : S16384x2048.Idx → EReal) (w : S2048x2048.Idx → EReal) :
    Cert.NsaOutRefIdeal.Read.val_main_v2 (F := Ideal) x w = value x w := by
  funext i
  refine (Cert.NsaOutRefIdeal.Read.val_main_v1_apply x w i).trans (Finset.sum_congr rfl fun k _ => ?_)
  refine congrArg₂ (· * ·) (congrArg x ?_) (congrArg w ?_)
  · funext a
    match a with
    | ⟨0, _⟩ => rfl
    | ⟨1, _⟩ => rfl
  · funext a
    match a with
    | ⟨0, _⟩ => rfl
    | ⟨1, _⟩ => rfl

/-- The reference runs, leaves its arguments as they were and declares no semaphore. -/
theorem reference_frame : Cert.quiescent_NsaOutRefIdeal := fun m ρ _ =>
  (θ_run Cert.NsaOutRefIdeal.defs _ _).mono (fun r h => ⟨fun c => (h c).2,
      Idealize.ShloMosaic.sem_eq_zero_of_no_sems (by decide) r.2⟩)
    (Cert.NsaOutRefIdeal.Value.run (F := Ideal) m ρ)

/-- The call and its reference, started on the same arguments, leave the same array and keep their arguments. -/
theorem equal : Cert.algebraic_NsaOutIdeal_NsaOutRefIdeal := fun m g m' g' _ hin =>
  ⟨fun c => value (m ((c : Thread nD τ).loc main_arg0)) (m ((c : Thread nD τ).loc main_arg1)),
    (θ_run Cert.NsaOutIdeal.defs _ _).mono (fun r h c => ⟨(h c).1.trans (final m c), (h c).2⟩)
      (Cert.NsaOutIdeal.Value.run_blocks m g),
    (θ_run Cert.NsaOutRefIdeal.defs _ _).mono (fun r h c => by
        obtain ⟨i0, i1⟩ := hin c
        refine ⟨(h c).1.trans ((Cert.NsaOutRefIdeal.Read.val_main_v2_eq _ _).trans
          ((reference_value _ _).trans ?_)), (h c).2⟩
        rw [i0, i1])
      (Cert.NsaOutRefIdeal.Value.run m' g')⟩

end Cert.NsaOutProof

end
-- ==== Proof.Out.lean ====
/-
  The output projection: a product with the weights, scaled by the batch's gate and added to the residual, in the kernel's blocks and in the reference.
-/
module

public import proofs.«01_k».proof.Proof.Rows
public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Adequacy
public import Idealize.ShloMosaic.Init
public import Idealize.ShloMosaic.Lib.Claim
public import Idealize.ShloMosaic.Lib.Pointwise
public import Idealize.ShloMosaic.Lib.Pipeline.ValueKit

@[expose] public section

set_option maxRecDepth 100000

noncomputable section

namespace Cert.OutProof

open Idealize.ShloMosaic
open Idealize.ShloMosaic.TcCoe Idealize.SL.Sem
open Cert.OutIdeal Cert.OutIdeal.Gen Cert.Rows
open scoped BigOperators

/-- The batch a row belongs to. -/
def batch (r : Fin 16384) : Fin 4 := ⟨r.val / 4096, by omega⟩

/-- The layer's output at an entry: the residual and the gated product of a row and a column. -/
def value (x : S16384x2048.Idx → EReal) (w : S2048x2048.Idx → EReal) (r : S16384x2048.Idx → EReal) (g : S4x1x2048.Idx → EReal) (i : S16384x2048.Idx) : EReal :=
  r (ix2 (i 0) (i 1)) + g (ix3 (batch (i 0)) 0 (i 1)) * ∑ k : Fin 2048, x (ix2 (i 0) k) * w (ix2 k (i 1))

/-- A block's result at an entry. -/
theorem pay_apply (x : FVec Ideal S1024x2048 .bf16) (w : FVec Ideal S2048x512 .bf16) (u : FVec Ideal S1024x512 .f32) (g : FVec Ideal S1x1x512 .f32) (r : Fin 1024) (c : Fin 512) :
    k0_pay1 x w u g (ix2 r c) = u (ix2 r c) + g (ix3 0 0 c) * ∑ k : Fin 2048, x (ix2 r k) * w (ix2 k c) := by
  unfold k0_pay1
  pointwise

variable (m : (ℓ : Loc nD τ sig) → Buf (Elt Ideal) ℓ) (c : Dev nD)

/-- The block each window is on at a point. -/
theorem idx : ∀ t : Fin grid0.N,
    win0_0.index t 0 = t.val / 4 ∧ win0_0.index t 1 = 0
    ∧ win0_1.index t 0 = 0 ∧ win0_1.index t 1 = t.val % 4
    ∧ win0_2.index t 0 = t.val / 4 ∧ win0_2.index t 1 = t.val % 4
    ∧ win0_3.index t 0 = t.val / 16 ∧ win0_3.index t 1 = 0 ∧ win0_3.index t 2 = t.val % 4
    ∧ win0_4.index t 0 = t.val / 4 ∧ win0_4.index t 1 = t.val % 4 := by
  decide +kernel

/-- The rows' block. -/
theorem block0 (t : Fin cfg0.N) (r : Fin 1024) (k : Fin 2048) (R : Fin 16384) (hR : R.val = t.val / 4 * 1024 + r.val) :
    iblk m c 0 t (ix2 r k) = m ((c : Thread nD τ).loc main_arg0) (ix2 R k) := by
  blk_ext [iblk, V, idx t]

/-- The weights' block. -/
theorem block1 (t : Fin cfg0.N) (k : Fin 2048) (n : Fin 512) (C : Fin 2048) (hC : C.val = t.val % 4 * 512 + n.val) :
    iblk m c 1 t (ix2 k n) = m ((c : Thread nD τ).loc main_arg1) (ix2 k C) := by
  blk_ext [iblk, V, idx t]

/-- The residual's block. -/
theorem block2 (t : Fin cfg0.N) (r : Fin 1024) (n : Fin 512) (R : Fin 16384) (hR : R.val = t.val / 4 * 1024 + r.val)
    (C : Fin 2048) (hC : C.val = t.val % 4 * 512 + n.val) :
    iblk m c 2 t (ix2 r n) = m ((c : Thread nD τ).loc main_arg2) (ix2 R C) := by
  blk_ext [iblk, V, idx t]

/-- The gate's block is the batch's. -/
theorem block3 (t : Fin cfg0.N) (r : Fin 1024) (n : Fin 512) (R : Fin 16384) (hR : R.val = t.val / 4 * 1024 + r.val)
    (C : Fin 2048) (hC : C.val = t.val % 4 * 512 + n.val) :
    iblk m c 3 t (ix3 0 0 n) = m ((c : Thread nD τ).loc main_arg3) (ix3 (batch R) 0 C) := by
  have e : (batch R).val = t.val / 16 := by
    show R.val / 4096 = _
    have hr := r.isLt
    omega
  blk_ext [iblk, V, idx t]

/-- An entry of a point's block of the result. -/
theorem point (t : Fin cfg0.N) (r : Fin 1024) (n : Fin 512) (R : Fin 16384) (hR : R.val = t.val / 4 * 1024 + r.val)
    (C : Fin 2048) (hC : C.val = t.val % 4 * 512 + n.val) :
    out0_4 (iblk m c 0 t) (iblk m c 1 t) (iblk m c 2 t) (iblk m c 3 t) (ix2 r n)
      = value (m ((c : Thread nD τ).loc main_arg0)) (m ((c : Thread nD τ).loc main_arg1)) (m ((c : Thread nD τ).loc main_arg2)) (m ((c : Thread nD τ).loc main_arg3)) (ix2 R C) := by
  frame_out
  rw [pay_apply, block2 m c t r n R hR C hC, block3 m c t r n R hR C hC]
  simp only [block0 m c t r _ R hR, block1 m c t _ n C hC]
  rfl

/-- The kernel's whole result. -/
theorem final : (dats m 0 c).arrAt 4 cfg0.N
    = value (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h0 : (y 0).val < 1024 := (y 0).isLt
  have h1 : (y 1).val < 512 := (y 1).isLt
  have ht : t.val < 64 := t.isLt
  have ey : y = ix2 (⟨(y 0).val, h0⟩ : Fin 1024) (⟨(y 1).val, h1⟩ : Fin 512) := by
    funext a
    match a with
    | ⟨0, _⟩ => rfl
    | ⟨1, _⟩ => rfl
  have e := point m c t ⟨(y 0).val, h0⟩ ⟨(y 1).val, h1⟩ ⟨t.val / 4 * 1024 + (y 0).val, by omega⟩ rfl ⟨t.val % 4 * 512 + (y 1).val, by omega⟩ rfl
  refine (congrArg (out0_4 (iblk m c 0 t) (iblk m c 1 t) (iblk m c 2 t) (iblk m c 3 t)) ey).trans (e.trans (congrArg _ ?_))
  funext a
  match a with
  | ⟨0, _⟩ =>
    refine Fin.ext ?_
    have hi : win0_4.index t 0 = t.val / 4 := (idx t).2.2.2.2.2.2.2.2.2.1
    blk_simp
    rw [hi]
    rfl
  | ⟨1, _⟩ =>
    refine Fin.ext ?_
    have hi : win0_4.index t 1 = t.val % 4 := (idx t).2.2.2.2.2.2.2.2.2.2
    blk_simp
    rw [hi]
    rfl

open Cert.OutRefIdeal.Read in
/-- The reference's whole result. -/
theorem reference_value (x : S16384x2048.Idx → EReal) (w : S2048x2048.Idx → EReal) (r : S16384x2048.Idx → EReal) (g : S4x1x2048.Idx → EReal) :
    Cert.OutRefIdeal.Read.val_main_v7 (F := Ideal) x w r g = value x w r g := by
  funext i
  have h0 : (i 0).val < 16384 := (i 0).isLt
  have h1 : (i 1).val < 2048 := (i 1).isLt
  have e0 : ((i 0).val * 2048 + (i 1).val) / 8388608 = (i 0).val / 4096 := by omega
  have e1 : ((i 0).val * 2048 + (i 1).val) / 2048 % 4096 = (i 0).val % 4096 := by omega
  have e2 : ((i 0).val * 2048 + (i 1).val) % 2048 = (i 1).val := by omega
  have f0 : (((i 0).val / 4096 * 4096 + (i 0).val % 4096) * 2048 + (i 1).val) / 2048 = (i 0).val := by omega
  have f1 : (((i 0).val / 4096 * 4096 + (i 0).val % 4096) * 2048 + (i 1).val) % 2048 = (i 1).val := by omega
  have hi : idx_main_v2 (idx_main_v7 i) = ix2 (i 0) (i 1) := by
    funext a
    match a with
    | ⟨0, _⟩ =>
      refine Fin.ext ?_
      show ((((i 0).val * 2048 + (i 1).val) / 8388608 * 4096 + ((i 0).val * 2048 + (i 1).val) / 2048 % 4096) * 2048 + ((i 0).val * 2048 + (i 1).val) % 2048) / 2048 = (i 0).val
      rw [e0, e1, e2, f0]
    | ⟨1, _⟩ =>
      refine Fin.ext ?_
      show ((((i 0).val * 2048 + (i 1).val) / 8388608 * 4096 + ((i 0).val * 2048 + (i 1).val) / 2048 % 4096) * 2048 + ((i 0).val * 2048 + (i 1).val) % 2048) % 2048 = (i 1).val
      rw [e0, e1, e2, f1]
  refine (val_main_v7_apply (F := Ideal) x w r g i).trans (congrArg₂ (· + ·) ?_ (congrArg₂ (· * ·) ?_ ?_))
  · exact (val_main_v2_apply (F := Ideal) r _).trans (congrArg r hi)
  · refine (val_main_v4_apply (F := Ideal) g _).trans (congrArg g ?_)
    funext a
    match a with
    | ⟨0, _⟩ => exact Fin.ext e0
    | ⟨1, _⟩ => rfl
    | ⟨2, _⟩ => exact Fin.ext e2
  · refine (val_main_v3_apply (F := Ideal) x w _).trans ((congrArg (val_main_v1 (F := Ideal) x w) hi).trans
      ((val_main_v1_apply x w _).trans (Finset.sum_congr rfl fun k _ => ?_)))
    refine congrArg₂ (· * ·) (congrArg x ?_) (congrArg w ?_)
    · funext a
      match a with
      | ⟨0, _⟩ => rfl
      | ⟨1, _⟩ => rfl
    · funext a
      match a with
      | ⟨0, _⟩ => rfl
      | ⟨1, _⟩ => rfl

/-- The reference runs, leaves its arguments as they were and declares no semaphore. -/
theorem reference_frame : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

/-- The call and its reference, started on the same arguments, leave the same array and keep their arguments. -/
theorem equal : Cert.algebraic_OutIdeal_OutRefIdeal := fun m g m' g' _ hin =>
  ⟨fun c => value (m ((c : Thread nD τ).loc main_arg0)) (m ((c : Thread nD τ).loc main_arg1)) (m ((c : Thread nD τ).loc main_arg2)) (m ((c : Thread nD τ).loc main_arg3)),
    (θ_run Cert.OutIdeal.defs _ _).mono (fun r h c => ⟨(h c).1.trans (final m c), (h c).2⟩)
      (Cert.OutIdeal.Value.run_blocks m g),
    (θ_run Cert.OutRefIdeal.defs _ _).mono (fun r h c => by
        obtain ⟨i0, i1, i2, i3⟩ := hin c
        refine ⟨(h c).1.trans ((Cert.OutRefIdeal.Read.val_main_v7_eq _ _ _ _).trans
          ((reference_value _ _ _ _).trans ?_)), (h c).2⟩
        rw [i0, i1, i2, i3])
      (Cert.OutRefIdeal.Value.run m' g')⟩

end Cert.OutProof

end
-- ==== Proof.lean ====
/-
  The certificate's theorem, of the attention call and of the four projection calls around it: the frames of each call, of
  its ideal reading and of its reference; the two named constants' sites; and the equation between each call and its
  reference over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Raw
public import proofs.«01_k».proof.Proof.Gen.Raw.Skeleton
public import proofs.«01_k».proof.Proof.Gen.Raw.Launch
public import proofs.«01_k».proof.Proof.Gen.Raw.Points
public import proofs.«01_k».proof.Proof.Gen.Raw.Frame
public import proofs.«01_k».proof.Proof.Gen.RawIdeal
public import proofs.«01_k».proof.Proof.Gen.RawIdeal.Skeleton
public import proofs.«01_k».proof.Proof.Gen.RawIdeal.Launch
public import proofs.«01_k».proof.Proof.Gen.RawIdeal.Points
public import proofs.«01_k».proof.Proof.Gen.RawIdeal.Frame
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NsaOut
public import proofs.«01_k».proof.Proof.Gen.NsaOut.Skeleton
public import proofs.«01_k».proof.Proof.Gen.NsaOut.Launch
public import proofs.«01_k».proof.Proof.Gen.NsaOut.Points
public import proofs.«01_k».proof.Proof.Gen.NsaOut.Frame
public import proofs.«01_k».proof.Proof.Gen.NsaOutIdeal
public import proofs.«01_k».proof.Proof.Gen.NsaOutIdeal.Skeleton
public import proofs.«01_k».proof.Proof.Gen.NsaOutIdeal.Launch
public import proofs.«01_k».proof.Proof.Gen.NsaOutIdeal.Points
public import proofs.«01_k».proof.Proof.Gen.NsaOutIdeal.Frame
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RawIdeal.Value
public import proofs.«01_k».proof.Proof.Gen.RawRefIdeal.Run
public import proofs.«01_k».proof.Proof.Gen.RawRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.NsaOutIdeal.Value
public import proofs.«01_k».proof.Proof.Gen.NsaOutRefIdeal.Run
public import proofs.«01_k».proof.Proof.Gen.NsaOutRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Array
public import proofs.«01_k».proof.Proof.RefOut
public import proofs.«01_k».proof.Proof.Finite
public import proofs.«01_k».proof.Proof.Raw
public import proofs.«01_k».proof.Proof.Norm
public import proofs.«01_k».proof.Proof.NsaOut
public import proofs.«01_k».proof.Proof.Out
public import Idealize.ShloMosaic.Adequacy
public import Idealize.ShloMosaic.Init

@[expose] public section

noncomputable section

namespace Cert.Proof

open Idealize.ShloMosaic Idealize.SL.Sem

/-- The precondition's shape relations hold. -/
instance preFacts : Cert.Pre_finite.Facts where
  bitsLt_bf16_f32 := by decide
  bcast_S_S16384x3072 := by decide
  reducesTo_S16384x3072_S_d0_1 := by decide
  h_S_ := by decide
  bcast_S_S16384x8704 := by decide
  reducesTo_S16384x8704_S_d0_1 := by decide
  bcast_S_S4096x128 := by decide
  reducesTo_S4096x128_S_d0_1 := by decide

/-- The reference runs, leaves its arguments as they were and declares no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants stand where the kernel's numbers stood. -/
theorem sites : Cert.preserves_Kernel_KernelIdeal :=
  ⟨IdealRules.named_const.statement Cert.KernelIdeal.κ "mask" .f32 _ _ rfl,
    IdealRules.named_const.statement Cert.KernelIdeal.κ "scale_log2e" .f32 _ _ rfl⟩

/-- The array of reals an array of extended reals holds. -/
def realArray {a b : ℕ} (x : (⟨2, ![a, b]⟩ : Shape).Idx → EReal) (r : Fin a) (n : Fin b) : ℝ := (x (ix2 r n)).toReal

/-- The value both programs leave on a device, from the arrays it starts from. -/
def common (m : (ℓ : Loc Cert.KernelIdeal.nD Cert.KernelIdeal.τ Cert.KernelIdeal.sig) → Buf (Elt Ideal) ℓ) (c : Dev Cert.KernelIdeal.nD) :
    Cert.KernelIdeal.S16384x2048.Idx → EReal :=
  Cert.Whole.value (realArray (m ((c.tc : Thread Cert.KernelIdeal.nD Cert.KernelIdeal.τ).loc Cert.KernelIdeal.main_arg0)))
    (realArray (m ((c.tc : Thread Cert.KernelIdeal.nD Cert.KernelIdeal.τ).loc Cert.KernelIdeal.main_arg1)))
    (realArray (m ((c.tc : Thread Cert.KernelIdeal.nD Cert.KernelIdeal.τ).loc Cert.KernelIdeal.main_arg2)))
    (realArray (m ((c.tc : Thread Cert.KernelIdeal.nD Cert.KernelIdeal.τ).loc Cert.KernelIdeal.main_arg3)))

/-- From the same finite arrays the kernel and the reference leave the same array. -/
theorem equal : Cert.algebraic_KernelIdeal_ReferenceIdeal_pre_finite := fun m g m' g' hp hin =>
  ⟨common m,
    (θ_run Cert.KernelIdeal.defs _ _).mono (fun r h c => by
        obtain ⟨e0, e1, e2, e3⟩ := Cert.Finite.reals _ _ _ _ (hp c)
        exact ⟨(h c).1.trans (Cert.Whole.final m c _ _ _ _ (fun r n => e0 (ix2 r n)) (fun r n => e1 (ix2 r n)) (fun r n => e2 (ix2 r n)) (fun r n => e3 (ix2 r n))),
          (h c).2⟩)
      (Cert.KernelIdeal.Value.run_blocks m g),
    (θ_run Cert.ReferenceIdeal.defs _ _).mono (fun r h c => by
        obtain ⟨e0, e1, e2, e3⟩ := Cert.Finite.reals _ _ _ _ (hp c)
        obtain ⟨i0, i1, i2, i3⟩ := hin c
        refine ⟨(h c).1.trans ((Cert.ReferenceIdeal.Read.val_main_v237_eq _).trans
          (Cert.Ref.ref_value _ _ _ _ _ _ _ _ (fun r n => ?_) (fun r n => ?_) (fun r n => ?_) (fun r n => ?_))), (h c).2⟩
        · exact (congrFun i0 (ix2 r n)).trans (e0 (ix2 r n))
        · exact (congrFun i1 (ix2 r n)).trans (e1 (ix2 r n))
        · exact (congrFun i2 (ix2 r n)).trans (e2 (ix2 r n))
        · exact (congrFun i3 (ix2 r n)).trans (e3 (ix2 r n)))
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts,
    Cert.Raw.Gen.facts, Cert.RawIdeal.Gen.facts, Cert.RawRefIdeal.Gen.facts,
    Cert.Norm.Gen.facts, Cert.NormIdeal.Gen.facts, Cert.NormRefIdeal.Gen.facts,
    Cert.NsaOut.Gen.facts, Cert.NsaOutIdeal.Gen.facts, Cert.NsaOutRefIdeal.Gen.facts,
    Cert.Out.Gen.facts, Cert.OutIdeal.Gen.facts, Cert.OutRefIdeal.Gen.facts,
    preFacts,
    fun m ρ _ => Cert.Kernel.Gen.frame m ρ, fun m ρ _ => Cert.KernelIdeal.Gen.frame m ρ,
    fun m ρ _ => Cert.KernelIdeal.Gen.frame m ρ, reference_frame, fun m ρ h => reference_frame m ρ (by trivial),
    fun m ρ _ => Cert.Raw.Gen.frame m ρ, fun m ρ _ => Cert.RawIdeal.Gen.frame m ρ, Cert.RawProof.reference_frame,
    fun m ρ _ => Cert.Norm.Gen.frame m ρ, fun m ρ _ => Cert.NormIdeal.Gen.frame m ρ, Cert.NormProof.reference_frame,
    fun m ρ _ => Cert.NsaOut.Gen.frame m ρ, fun m ρ _ => Cert.NsaOutIdeal.Gen.frame m ρ, Cert.NsaOutProof.reference_frame,
    fun m ρ _ => Cert.Out.Gen.frame m ρ, fun m ρ _ => Cert.OutIdeal.Gen.frame m ρ, Cert.OutProof.reference_frame,
    sites, equal, trivial, Cert.RawProof.equal, trivial, Cert.NormProof.equal, trivial, Cert.NsaOutProof.equal, trivial, Cert.OutProof.equal⟩

end Cert.Proof

end
